-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_v150) = v1 c
          ∧ r.2.mem ((c.tc : Thread Cert.ReferenceIdeal.nD Cert.ReferenceIdeal.τ).loc Cert.ReferenceIdeal.main_v152) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)) (v2 : (c : Dev Cert.Kernel2Ideal.nD) → Buf (Elt Ideal) ((c.tc : Thread Cert.Kernel2Ideal.nD Cert.Kernel2Ideal.τ).loc Cert.Kernel2Ideal.main_v2)) (v3 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_v2) = v2 c
          ∧ r.2.mem ((c.tc : Thread Cert.Kernel2Ideal.nD Cert.Kernel2Ideal.τ).loc Cert.Kernel2Ideal.main_v3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_v23) = v1 c
          ∧ r.2.mem ((c.tc : Thread Cert.Reference2Ideal.nD Cert.Reference2Ideal.τ).loc Cert.Reference2Ideal.main_v15) = v2 c
          ∧ r.2.mem ((c.tc : Thread Cert.Reference2Ideal.nD Cert.Reference2Ideal.τ).loc Cert.Reference2Ideal.main_v21) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v2_2)) (v1 : (c : Dev Cert.Kernel3Ideal.nD) → Buf (Elt Ideal) ((c.tc : Thread Cert.Kernel3Ideal.nD Cert.Kernel3Ideal.τ).loc Cert.Kernel3Ideal.main_v2_3)) (v2 : (c : Dev Cert.Kernel3Ideal.nD) → Buf (Elt Ideal) ((c.tc : Thread Cert.Kernel3Ideal.nD Cert.Kernel3Ideal.τ).loc Cert.Kernel3Ideal.main_v2_4)) (v3 : (c : Dev Cert.Kernel3Ideal.nD) → Buf (Elt Ideal) ((c.tc : Thread Cert.Kernel3Ideal.nD Cert.Kernel3Ideal.τ).loc Cert.Kernel3Ideal.main_v3)) (v4 : (c : Dev Cert.Kernel3Ideal.nD) → Buf (Elt Ideal) ((c.tc : Thread Cert.Kernel3Ideal.nD Cert.Kernel3Ideal.τ).loc Cert.Kernel3Ideal.main_v4)) (v5 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_2) = v0 c
          ∧ r.2.mem ((c.tc : Thread Cert.Kernel3Ideal.nD Cert.Kernel3Ideal.τ).loc Cert.Kernel3Ideal.main_v2_3) = v1 c
          ∧ r.2.mem ((c.tc : Thread Cert.Kernel3Ideal.nD Cert.Kernel3Ideal.τ).loc Cert.Kernel3Ideal.main_v2_4) = v2 c
          ∧ r.2.mem ((c.tc : Thread Cert.Kernel3Ideal.nD Cert.Kernel3Ideal.τ).loc Cert.Kernel3Ideal.main_v3) = v3 c
          ∧ r.2.mem ((c.tc : Thread Cert.Kernel3Ideal.nD Cert.Kernel3Ideal.τ).loc Cert.Kernel3Ideal.main_v4) = v4 c
          ∧ r.2.mem ((c.tc : Thread Cert.Kernel3Ideal.nD Cert.Kernel3Ideal.τ).loc Cert.Kernel3Ideal.main_v1) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v52) = v0 c
          ∧ r.2.mem ((c.tc : Thread Cert.Reference3Ideal.nD Cert.Reference3Ideal.τ).loc Cert.Reference3Ideal.main_v54) = v1 c
          ∧ r.2.mem ((c.tc : Thread Cert.Reference3Ideal.nD Cert.Reference3Ideal.τ).loc Cert.Reference3Ideal.main_v55) = v2 c
          ∧ r.2.mem ((c.tc : Thread Cert.Reference3Ideal.nD Cert.Reference3Ideal.τ).loc Cert.Reference3Ideal.main_v50) = v3 c
          ∧ r.2.mem ((c.tc : Thread Cert.Reference3Ideal.nD Cert.Reference3Ideal.τ).loc Cert.Reference3Ideal.main_v46) = v4 c
          ∧ r.2.mem ((c.tc : Thread Cert.Reference3Ideal.nD Cert.Reference3Ideal.τ).loc Cert.Reference3Ideal.main_v36) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_v13) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S4096x1024 : Shape := ⟨2, ![4096, 1024]⟩
abbrev S4096x256 : Shape := ⟨2, ![4096, 256]⟩
abbrev S1x16 : Shape := ⟨2, ![1, 16]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S1x16 : S_.BroadcastsInDim S1x16 (![] : Fin 0 → Fin S1x16.rank)
  reducesTo_S1x16_S_d0_1 : S1x16.ReducesTo [0, 1] S_

variable [Facts]

def fn_part1 {F : FTy → Type} [FloatOps F] (main_v15 : IVec S_ 1) (main_v17 : FVec F S4096x1024 .f32) : IVec S_ 1 :=
  let main_cst_4 : FVec F S_ .f32 := constant S_ .f32 0x7F800000#32
  let main_v18 : FVec F S4096x1024 .f32 := broadcastInDim S4096x1024 ![] bcast_S_S4096x1024 main_cst_4
  let main_v19 : IVec S4096x1024 1 := cmpf .olt main_v17 main_v18
  let main_c_5 : IVec S_ 1 := constantI S_ 1 1#1
  let main_v20 : IVec S_ 1 := (fun x v => Host.reduce IntOp.andi x v reducesTo_S4096x1024_S_d0_1 h_S_) main_v19 main_c_5
  let main_v21 : IVec S_ 1 := andi main_v15 main_v20
  main_v21

def fn {F : FTy → Type} [FloatOps F] (main_arg0 : FVec F S4096x1024 .bf16) (main_arg1 : FVec F S4096x256 .bf16) (main_arg2 : FVec F S1x16 .f32) (main_arg3 : FVec F S4096x1024 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4096x256 .f32 := (extf .f32 · bitsLt_bf16_f32) main_arg1
  let main_v6 : FVec F S4096x256 .f32 := Host.absf main_v5
  let main_cst_0 : FVec F S_ .f32 := constant S_ .f32 0x7F800000#32
  let main_v7 : FVec F S4096x256 .f32 := broadcastInDim S4096x256 ![] bcast_S_S4096x256 main_cst_0
  let main_v8 : IVec S4096x256 1 := cmpf .olt main_v6 main_v7
  let main_c_1 : IVec S_ 1 := constantI S_ 1 1#1
  let main_v9 : IVec S_ 1 := (fun x v => Host.reduce IntOp.andi x v reducesTo_S4096x256_S_d0_1 h_S_) main_v8 main_c_1
  let main_v10 : IVec S_ 1 := andi main_v4 main_v9
  let main_v11 : FVec F S1x16 .f32 := Host.absf main_arg2
  let main_cst_2 : FVec F S_ .f32 := constant S_ .f32 0x7F800000#32
  let main_v12 : FVec F S1x16 .f32 := broadcastInDim S1x16 ![] bcast_S_S1x16 main_cst_2
  let main_v13 : IVec S1x16 1 := cmpf .olt main_v11 main_v12
  let main_c_3 : IVec S_ 1 := constantI S_ 1 1#1
  let main_v14 : IVec S_ 1 := (fun x v => Host.reduce IntOp.andi x v reducesTo_S1x16_S_d0_1 h_S_) main_v13 main_c_3
  let main_v15 : IVec S_ 1 := andi main_v10 main_v14
  let main_v16 : FVec F S4096x1024 .f32 := (extf .f32 · bitsLt_bf16_f32) main_arg3
  let main_v17 : FVec F S4096x1024 .f32 := Host.absf main_v16
  fn_part1 (F := F) main_v15 main_v17
-- ==== Pre_finite2.lean ====
abbrev S4096x1024 : Shape := ⟨2, ![4096, 1024]⟩
abbrev S2816x1024 : Shape := ⟨2, ![2816, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S4096x1024 .bf16) (main_v16 : IVec S_ 1) (main_v17 : FVec F S2816x1024 .f32) : IVec S_ 1 :=
  let main_v18 : FVec F S2816x1024 .f32 := Host.absf main_v17
  let main_cst_4 : FVec F S_ .f32 := constant S_ .f32 0x7F800000#32
  let main_v19 : FVec F S2816x1024 .f32 := broadcastInDim S2816x1024 ![] bcast_S_S2816x1024 main_cst_4
  let main_v20 : IVec S2816x1024 1 := cmpf .olt main_v18 main_v19
  let main_c_5 : IVec S_ 1 := constantI S_ 1 1#1
  let main_v21 : IVec S_ 1 := (fun x v => Host.reduce IntOp.andi x v reducesTo_S2816x1024_S_d0_1 h_S_) main_v20 main_c_5
  let main_v22 : IVec S_ 1 := andi main_v16 main_v21
  let main_v23 : FVec F S4096x1024 .f32 := (extf .f32 · bitsLt_bf16_f32) main_arg4
  let main_v24 : FVec F S4096x1024 .f32 := Host.absf main_v23
  let main_cst_6 : FVec F S_ .f32 := constant S_ .f32 0x7F800000#32
  let main_v25 : FVec F S4096x1024 .f32 := broadcastInDim S4096x1024 ![] bcast_S_S4096x1024 main_cst_6
  let main_v26 : IVec S4096x1024 1 := cmpf .olt main_v24 main_v25
  let main_c_7 : IVec S_ 1 := constantI S_ 1 1#1
  let main_v27 : IVec S_ 1 := (fun x v => Host.reduce IntOp.andi x v reducesTo_S4096x1024_S_d0_1 h_S_) main_v26 main_c_7
  let main_v28 : IVec S_ 1 := andi main_v22 main_v27
  main_v28

def fn {F : FTy → Type} [FloatOps F] (main_arg0 : FVec F S4096x1024 .bf16) (main_arg1 : FVec F S2816x1024 .bf16) (main_arg2 : FVec F S2816x1024 .bf16) (main_arg3 : FVec F S2816x1024 .bf16) (main_arg4 : FVec F S4096x1024 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S2816x1024 .f32 := (extf .f32 · bitsLt_bf16_f32) main_arg2
  let main_v12 : FVec F S2816x1024 .f32 := Host.absf main_v11
  let main_cst_2 : FVec F S_ .f32 := constant S_ .f32 0x7F800000#32
  let main_v13 : FVec F S2816x1024 .f32 := broadcastInDim S2816x1024 ![] bcast_S_S2816x1024 main_cst_2
  let main_v14 : IVec S2816x1024 1 := cmpf .olt main_v12 main_v13
  let main_c_3 : IVec S_ 1 := constantI S_ 1 1#1
  let main_v15 : IVec S_ 1 := (fun x v => Host.reduce IntOp.andi x v reducesTo_S2816x1024_S_d0_1 h_S_) main_v14 main_c_3
  let main_v16 : IVec S_ 1 := andi main_v10 main_v15
  let main_v17 : FVec F S2816x1024 .f32 := (extf .f32 · bitsLt_bf16_f32) main_arg3
  fn_part1 (F := F) main_arg4 main_v16 main_v17
-- ==== Kernel.lean ====
abbrev S4096x1024 : Shape := ⟨2, ![4096, 1024]⟩
abbrev S4096x256 : Shape := ⟨2, ![4096, 256]⟩
abbrev S1x16 : Shape := ⟨2, ![1, 16]⟩
abbrev S1x128 : Shape := ⟨2, ![1, 128]⟩
abbrev S128x1024 : Shape := ⟨2, ![128, 1024]⟩
abbrev S128x256 : Shape := ⟨2, ![128, 256]⟩
abbrev S256x256 : Shape := ⟨2, ![256, 256]⟩
abbrev S256x128 : Shape := ⟨2, ![256, 128]⟩
abbrev S512x128 : Shape := ⟨2, ![512, 128]⟩
abbrev S128x128 : Shape := ⟨2, ![128, 128]⟩
abbrev S128x512 : Shape := ⟨2, ![128, 512]⟩
abbrev S1x1 : Shape := ⟨2, ![1, 1]⟩
abbrev S128 : Shape := ⟨1, ![128]⟩
abbrev S128x1 : Shape := ⟨2, ![128, 1]⟩
abbrev S1 : Shape := ⟨1, ![1]⟩
abbrev S512x512 : Shape := ⟨2, ![512, 512]⟩

abbrev nBuf : Space → Nat
  | .hbm => 7
  | .vmem => 14
  | .smem => 1
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S1x16, .f32⟩
  | .hbm, ⟨3, _⟩ => ⟨S4096x1024, .bf16⟩
  | .hbm, ⟨4, _⟩ => ⟨S4096x1024, .bf16⟩
  | .hbm, ⟨5, _⟩ => ⟨S4096x256, .bf16⟩
  | .hbm, ⟨6, _⟩ => ⟨S1x128, .f32⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x256, .bf16⟩
  | .local _ .vmem, ⟨11, _⟩ => ⟨S128x256, .bf16⟩
  | .local _ .vmem, ⟨12, _⟩ => ⟨S1x128, .f32⟩
  | .local _ .vmem, ⟨13, _⟩ => ⟨S128x256, .f32⟩
  | .local _ .smem, ⟨0, _⟩ => ⟨S1x16, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c32_i32_2 : BitVec 32 := 32#32
  let v6 : BitVec 1 := Scalar.cmpi .eq arg0 c32_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c31_i32 : BitVec 32 := 31#32
  let v1 : BitVec 32 := Scalar.maxsi c0_i32 v0
  let v2 : BitVec 32 := Scalar.minsi c31_i32 v1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S4096x1024 : Shape := ⟨2, ![4096, 1024]⟩
abbrev S4096x256 : Shape := ⟨2, ![4096, 256]⟩
abbrev S1x16 : Shape := ⟨2, ![1, 16]⟩
abbrev S4096x128 : Shape := ⟨2, ![4096, 128]⟩
abbrev S1x4096x1024 : Shape := ⟨3, ![1, 4096, 1024]⟩
abbrev S1x4096x128 : Shape := ⟨3, ![1, 4096, 128]⟩
abbrev S16 : Shape := ⟨1, ![16]⟩
abbrev S1x32x128x2x8x64 : Shape := ⟨6, ![1, 32, 128, 2, 8, 64]⟩
abbrev S1x32x128x2x64 : Shape := ⟨5, ![1, 32, 128, 2, 64]⟩
abbrev S1x1x128x2x64 : Shape := ⟨5, ![1, 1, 128, 2, 64]⟩
abbrev S_ : Shape := ⟨0, ![]⟩
abbrev S1x31x128x2x64 : Shape := ⟨5, ![1, 31, 128, 2, 64]⟩
abbrev S1x32x256x2x64 : Shape := ⟨5, ![1, 32, 256, 2, 64]⟩
abbrev S1x32x2x256x128x8 : Shape := ⟨6, ![1, 32, 2, 256, 128, 8]⟩
abbrev S1x32x2x8x128x256 : Shape := ⟨6, ![1, 32, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x1x128x256 : Shape := ⟨6, ![1, 32, 1, 1, 128, 256]⟩
abbrev S1x1x2x8x1x1 : Shape := ⟨6, ![1, 1, 2, 8, 1, 1]⟩
abbrev S1x32x2x8x128x1 : Shape := ⟨6, ![1, 32, 2, 8, 128, 1]⟩
abbrev S1x32x2x8x128x257 : Shape := ⟨6, ![1, 32, 2, 8, 128, 257]⟩
abbrev S1x32x2x8x128 : Shape := ⟨5, ![1, 32, 2, 8, 128]⟩
abbrev S1x32x2x64x8x128 : Shape := ⟨6, ![1, 32, 2, 64, 8, 128]⟩
abbrev S1x32x2x64x256 : Shape := ⟨5, ![1, 32, 2, 64, 256]⟩
abbrev S32x2x8x128 : Shape := ⟨4, ![32, 2, 8, 128]⟩
abbrev S2x8 : Shape := ⟨2, ![2, 8]⟩
abbrev S1x32x2x128x8x64 : Shape := ⟨6, ![1, 32, 2, 128, 8, 64]⟩
abbrev S1x32x2x256x64 : Shape := ⟨5, ![1, 32, 2, 256, 64]⟩
abbrev S1x128 : Shape := ⟨2, ![1, 128]⟩

abbrev nBuf : Space → Nat
  | .hbm => 198
  | .vmem => 0
  | .smem => 0
  | _ => 0

abbrev hbmTy0_0 (i : Nat) : BufTy := match i % 128 with
  | 0 => ⟨S4096x1024, .bf16⟩
  | 1 => ⟨S4096x256, .bf16⟩
  | 2 => ⟨S1x16, .f32⟩
  | 3 => ⟨S4096x1024, .bf16⟩
  | 4 => ⟨S4096x1024, .f32⟩
  | 5 => ⟨S4096x256, .f32⟩
  | 6 => ⟨S4096x128, .f32⟩
  | 7 => ⟨S4096x128, .f32⟩
  | 8 => ⟨S1x4096x1024, .f32⟩
  | 9 => ⟨S1x4096x128, .f32⟩
  | 10 => ⟨S1x4096x128, .f32⟩
  | 11 => ⟨S16, .f32⟩
  | 12 => ⟨S1x32x128x2x8x64, .f32⟩
  | 13 => ⟨S1x32x128x2x64, .f32⟩
  | 14 => ⟨S1x32x128x2x64, .f32⟩
  | 15 => ⟨S1x1x128x2x64, .f32⟩
  | 16 => ⟨S_, .f32⟩
  | 17 => ⟨S1x1x128x2x64, .f32⟩
  | 18 => ⟨S1x31x128x2x64, .f32⟩
  | 19 => ⟨S1x32x128x2x64, .f32⟩
  | 20 => ⟨S_, .f32⟩
  | 21 => ⟨S1x1x128x2x64, .f32⟩
  | 22 => ⟨S1x32x256x2x64, .f32⟩
  | 23 => ⟨S1x1x128x2x64, .f32⟩
  | 24 => ⟨S_, .f32⟩
  | 25 => ⟨S1x1x128x2x64, .f32⟩
  | 26 => ⟨S1x31x128x2x64, .f32⟩
  | 27 => ⟨S1x32x128x2x64, .f32⟩
  | 28 => ⟨S_, .f32⟩
  | 29 => ⟨S1x1x128x2x64, .f32⟩
  | 30 => ⟨S1x32x256x2x64, .f32⟩
  | 31 => ⟨S1x32x2x256x128x8, .f32⟩
  | 32 => ⟨S1x32x2x8x128x256, .f32⟩
  | 33 => ⟨S_, .f32⟩
  | 34 => ⟨S1x32x2x8x128x256, .f32⟩
  | 35 => ⟨S1x32x2x8x128x256, .f32⟩
  | 36 => ⟨S128, .i32⟩
  | 37 => ⟨S128x1, .i32⟩
  | 38 => ⟨S256, .i32⟩
  | 39 => ⟨S1x256, .i32⟩
  | 40 => ⟨S_, .i32⟩
  | 41 => ⟨S128x1, .i32⟩
  | 42 => ⟨S128x1, .i32⟩
  | 43 => ⟨S128x256, .i32⟩
  | 44 => ⟨S128x256, .i32⟩
  | 45 => ⟨S128x256, .i32⟩
  | 46 => ⟨S32, .i32⟩
  | 47 => ⟨S32x1x1, .i32⟩
  | 48 => ⟨S_, .i32⟩
  | 49 => ⟨S32x1x1, .i32⟩
  | 50 => ⟨S32x1x1, .i32⟩
  | 51 => ⟨S_, .i32⟩
  | 52 => ⟨S32x1x1, .i32⟩
  | 53 => ⟨S32x1x1, .i32⟩
  | 54 => ⟨S1x1x256, .i32⟩
  | 55 => ⟨S32x1x256, .i32⟩
  | 56 => ⟨S32x1x256, .i32⟩
  | 57 => ⟨S32x1x256, .i32⟩
  | 58 => ⟨S_, .i32⟩
  | 59 => ⟨S128x256, .i32⟩
  | 60 => ⟨S128x256, .i1⟩
  | 61 => ⟨S1x128x256, .i1⟩
  | 62 => ⟨S_, .i32⟩
  | 63 => ⟨S128x256, .i32⟩
  | 64 => ⟨S128x256, .i1⟩
  | 65 => ⟨S1x128x256, .i1⟩
  | 66 => ⟨S1x128x256, .i1⟩
  | 67 => ⟨S_, .i32⟩
  | 68 => ⟨S32x1x256, .i32⟩
  | 69 => ⟨S32x1x256, .i1⟩
  | 70 => ⟨S32x128x256, .i1⟩
  | 71 => ⟨S32x128x256, .i1⟩
  | 72 => ⟨S32x128x256, .i1⟩
  | 73 => ⟨S1x32x1x1x128x256, .i1⟩
  | 74 => ⟨S_, .f32⟩
  | 75 => ⟨S_, .f32⟩
  | 76 => ⟨S1x32x2x8x128x256, .i1⟩
  | 77 => ⟨S1x32x2x8x128x256, .f32⟩
  | 78 => ⟨S1x32x2x8x128x256, .f32⟩
  | 79 => ⟨S_, .f32⟩
  | 80 => ⟨S1x32x2x8x128x256, .f32⟩
  | 81 => ⟨S1x1x2x8x1x1, .f32⟩
  | 82 => ⟨S1x32x2x8x128x1, .f32⟩
  | 83 => ⟨S1x32x2x8x128x257, .f32⟩
  | 84 => ⟨S_, .f32⟩
  | 85 => ⟨S1x32x2x8x128, .f32⟩
  | 86 => ⟨S1x32x2x8x128x1, .f32⟩
  | 87 => ⟨S1x32x2x8x128x257, .f32⟩
  | 88 => ⟨S1x32x2x8x128x257, .i1⟩
  | 89 => ⟨S1x32x2x8x128x257, .f32⟩
  | 90 => ⟨S_, .f32⟩
  | 91 => ⟨S1x32x2x8x128, .f32⟩
  | 92 => ⟨S_, .f32⟩
  | 93 => ⟨S1x32x2x8x128, .f32⟩
  | 94 => ⟨S1x32x2x8x128, .f32⟩
  | 95 => ⟨S_, .f32⟩
  | 96 => ⟨S1x32x2x8x128, .f32⟩
  | 97 => ⟨S1x32x2x8x128, .i1⟩
  | 98 => ⟨S_, .f32⟩
  | 99 => ⟨S1x32x2x8x128, .f32⟩
  | 100 => ⟨S1x32x2x8x128, .i1⟩
  | 101 => ⟨S_, .f32⟩
  | 102 => ⟨S1x32x2x8x128, .f32⟩
  | 103 => ⟨S_, .f32⟩
  | 104 => ⟨S1x32x2x8x128, .f32⟩
  | 105 => ⟨S_, .f32⟩
  | 106 => ⟨S1x32x2x8x128, .f32⟩
  | 107 => ⟨S1x32x2x8x128, .f32⟩
  | 108 => ⟨S1x32x2x8x128, .f32⟩
  | 109 => ⟨S1x32x2x8x128x1, .f32⟩
  | 110 => ⟨S1x32x2x8x128x257, .f32⟩
  | 111 => ⟨S1x32x2x8x128x257, .f32⟩
  | 112 => ⟨S1x32x2x8x128x257, .f32⟩
  | 113 => ⟨S_, .f32⟩
  | 114 => ⟨S1x32x2x8x128, .f32⟩
  | 115 => ⟨S1x32x2x8x128x1, .f32⟩
  | 116 => ⟨S1x32x2x8x128x257, .f32⟩
  | 117 => ⟨S1x32x2x8x128x257, .f32⟩
  | 118 => ⟨S1x32x2x8x128x1, .f32⟩
  | 119 => ⟨S_, .f32⟩
  | 120 => ⟨S1x32x2x8x128x1, .f32⟩
  | 121 => ⟨S1x32x2x8x128x1, .f32⟩
  | 122 => ⟨S1x32x2x8x128x256, .f32⟩
  | 123 => ⟨S1x32x2x64x8x128, .f32⟩
  | 124 => ⟨S1x32x128x2x8x64, .f32⟩
  | 125 => ⟨S1x4096x1024, .f32⟩
  | 126 => ⟨S4096x1024, .f32⟩
  | 127 => ⟨S4096x1024, .f32⟩
  | _ => ⟨S4096x1024, .bf16⟩

abbrev hbmTy0_1 (i : Nat) : BufTy := match i % 128 with
  | 0 => ⟨S1x4096x1024, .f32⟩
  | 1 => ⟨S1x32x128x2x8x64, .f32⟩
  | 2 => ⟨S1x32x2x64x8x128, .f32⟩
  | 3 => ⟨S1x32x2x8x128x256, .f32⟩
  | 4 => ⟨S1x32x2x64x256, .f32⟩
  | 5 => ⟨S1x32x256x2x64, .f32⟩
  | 6 => ⟨S_, .f32⟩
  | 7 => ⟨S1x32x2x8x128x257, .f32⟩
  | 8 => ⟨S1x32x2x8x128x257, .f32⟩
  | 9 => ⟨S1x32x2x8x128x257, .f32⟩
  | 10 => ⟨S1x32x2x8x128x257, .f32⟩
  | 11 => ⟨S_, .f32⟩
  | 12 => ⟨S1x32x2x8x128, .f32⟩
  | 13 => ⟨S1x32x2x8x128x1, .f32⟩
  | 14 => ⟨S1x32x2x8x128x1, .f32⟩
  | 15 => ⟨S1x32x2x8x128x257, .f32⟩
  | 16 => ⟨S1x32x2x8x128x257, .f32⟩
  | 17 => ⟨S_, .f32⟩
  | 18 => ⟨S32x2x8x128, .f32⟩
  | 19 => ⟨S1x32x2x8x128, .f32⟩
  | 20 => ⟨S1x32x2x8x128x257, .f32⟩
  | 21 => ⟨S1x32x2x8x128x257, .f32⟩
  | 22 => ⟨S1x32x2x8x128x257, .f32⟩
  | 23 => ⟨S1x32x2x8x128x256, .f32⟩
  | 24 => ⟨S1x32x2x8x128x1, .f32⟩
  | 25 => ⟨S_, .f32⟩
  | 26 => ⟨S2x8, .f32⟩
  | 27 => ⟨S1x1x2x8x1x1, .f32⟩
  | 28 => ⟨S16, .f32⟩
  | 29 => ⟨S_, .f32⟩
  | 30 => ⟨S1x32x2x8x128x256, .f32⟩
  | 31 => ⟨S1x32x2x8x128x256, .f32⟩
  | 32 => ⟨S_, .f32⟩
  | 33 => ⟨S1x32x2x8x128x256, .f32⟩
  | 34 => ⟨S1x32x2x8x128x256, .f32⟩
  | 35 => ⟨S1x32x2x256x128x8, .f32⟩
  | 36 => ⟨S1x32x2x128x8x64, .f32⟩
  | 37 => ⟨S1x32x128x2x8x64, .f32⟩
  | 38 => ⟨S1x32x2x256x64, .f32⟩
  | 39 => ⟨S1x32x256x2x64, .f32⟩
  | 40 => ⟨S1x32x128x2x64, .f32⟩
  | 41 => ⟨S1x32x128x2x64, .f32⟩
  | 42 => ⟨S1x1x128x2x64, .f32⟩
  | 43 => ⟨S1x31x128x2x64, .f32⟩
  | 44 => ⟨S_, .f32⟩
  | 45 => ⟨S1x32x128x2x64, .f32⟩
  | 46 => ⟨S1x32x128x2x64, .f32⟩
  | 47 => ⟨S1x32x128x2x64, .f32⟩
  | 48 => ⟨S1x32x128x2x64, .f32⟩
  | 49 => ⟨S1x1x128x2x64, .f32⟩
  | 50 => ⟨S1x31x128x2x64, .f32⟩
  | 51 => ⟨S_, .f32⟩
  | 52 => ⟨S1x32x128x2x64, .f32⟩
  | 53 => ⟨S1x32x128x2x64, .f32⟩
  | 54 => ⟨S1x4096x128, .f32⟩
  | 55 => ⟨S1x4096x128, .f32⟩
  | 56 => ⟨S1x4096x1024, .f32⟩
  | 57 => ⟨S1x16, .f32⟩
  | 58 => ⟨S_, .f32⟩
  | 59 => ⟨S4096x128, .f32⟩
  | 60 => ⟨S_, .f32⟩
  | 61 => ⟨S4096x128, .f32⟩
  | 62 => ⟨S_, .f32⟩
  | 63 => ⟨S4096x1024, .f32⟩
  | 64 => ⟨S4096x256, .f32⟩
  | 65 => ⟨S4096x256, .bf16⟩
  | 66 => ⟨S4096x1024, .bf16⟩
  | 67 => ⟨S_, .i32⟩
  | 68 => ⟨S_, .f32⟩
  | 69 => ⟨S1x128, .f32⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c_4 : Ref sig .tc := ⟨.hbm, 48, rfl⟩
abbrev main_v38 : Ref sig .tc := ⟨.hbm, 49, rfl⟩
abbrev main_v39 : Ref sig .tc := ⟨.hbm, 50, rfl⟩
abbrev main_c_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_c_6 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_c_7 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_c_8 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_9 : Ref sig .tc := ⟨.hbm, 74, rfl⟩
abbrev main_call0_v0 : Ref sig .tc := ⟨.hbm, 75, rfl⟩
abbrev main_v59_1 : Ref sig .tc := ⟨.hbm, 76, rfl⟩
abbrev main_call0_v2 : Ref sig .tc := ⟨.hbm, 77, rfl⟩
abbrev main_v59_0 : Ref sig .tc := ⟨.hbm, 78, rfl⟩
abbrev main_call0_cst : Ref sig .tc := ⟨.hbm, 79, rfl⟩
abbrev main_v59_2 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_10 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_11 : Ref sig .tc := ⟨.hbm, 90, rfl⟩
abbrev main_v68 : Ref sig .tc := ⟨.hbm, 91, rfl⟩
abbrev main_cst_12 : Ref sig .tc := ⟨.hbm, 92, rfl⟩
abbrev main_v69 : Ref sig .tc := ⟨.hbm, 93, rfl⟩
abbrev main_v70 : Ref sig .tc := ⟨.hbm, 94, rfl⟩
abbrev main_cst_13 : Ref sig .tc := ⟨.hbm, 95, rfl⟩
abbrev main_v71 : Ref sig .tc := ⟨.hbm, 96, rfl⟩
abbrev main_v72 : Ref sig .tc := ⟨.hbm, 97, rfl⟩
abbrev main_cst_14 : Ref sig .tc := ⟨.hbm, 98, rfl⟩
abbrev main_v73 : Ref sig .tc := ⟨.hbm, 99, rfl⟩
abbrev main_v74 : Ref sig .tc := ⟨.hbm, 100, rfl⟩
abbrev main_cst_15 : Ref sig .tc := ⟨.hbm, 101, rfl⟩
abbrev main_v75 : Ref sig .tc := ⟨.hbm, 102, rfl⟩
abbrev main_cst_16 : Ref sig .tc := ⟨.hbm, 103, rfl⟩
abbrev main_v76 : Ref sig .tc := ⟨.hbm, 104, rfl⟩
abbrev main_cst_17 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_18 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_19 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_cst_20 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_cst_21 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_cst_22 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_cst_23 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_call1_cst : Ref sig .tc := ⟨.hbm, 157, rfl⟩
abbrev main_call1_v0 : Ref sig .tc := ⟨.hbm, 158, rfl⟩
abbrev main_v122 : Ref sig .tc := ⟨.hbm, 159, rfl⟩
abbrev main_cst_24 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_cst_25 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_cst_26 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_cst_27 : Ref sig .tc := ⟨.hbm, 186, rfl⟩
abbrev main_v146 : Ref sig .tc := ⟨.hbm, 187, rfl⟩
abbrev main_cst_28 : Ref sig .tc := ⟨.hbm, 188, rfl⟩
abbrev main_v147 : Ref sig .tc := ⟨.hbm, 189, rfl⟩
abbrev main_cst_29 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_c_30 : Ref sig .tc := ⟨.hbm, 195, rfl⟩
abbrev main_call2_v0 : Ref sig .tc := ⟨.hbm, 196, rfl⟩
abbrev main_v152 : Ref sig .tc := ⟨.hbm, 197, rfl⟩

abbrev nD : Nat := 1
abbrev τ : Topo := Topo.v7x

variable {F : FTy → Type} [FloatOps F]
-- ==== Kernel2.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩
abbrev S4096x256 : Shape := ⟨2, ![4096, 256]⟩
abbrev S256x1024 : Shape := ⟨2, ![256, 1024]⟩
abbrev S1024x2816 : Shape := ⟨2, ![1024, 2816]⟩
abbrev S2816x512 : Shape := ⟨2, ![2816, 512]⟩
abbrev S1024x512 : Shape := ⟨2, ![1024, 512]⟩

abbrev nBuf : Space → Nat
  | .hbm => 12
  | .vmem => 39
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .bf16⟩
  | .hbm, ⟨3, _⟩ => ⟨S2816x1024, .bf16⟩
  | .hbm, ⟨4, _⟩ => ⟨S4096x1024, .bf16⟩
  | .hbm, ⟨5, _⟩ => ⟨S4096x2816, .bf16⟩
  | .hbm, ⟨6, _⟩ => ⟨S4096x2816, .bf16⟩
  | .hbm, ⟨7, _⟩ => ⟨S4096x2816, .bf16⟩
  | .hbm, ⟨8, _⟩ => ⟨S4096x2816, .bf16⟩
  | .hbm, ⟨9, _⟩ => ⟨S4096x2816, .bf16⟩
  | .hbm, ⟨10, _⟩ => ⟨S2816x1024, .bf16⟩
  | .hbm, ⟨11, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S1024x1024, .bf16⟩
  | .local _ .vmem, ⟨13, _⟩ => ⟨S1024x1024, .bf16⟩
  | .local _ .vmem, ⟨14, _⟩ => ⟨S1408x1024, .bf16⟩
  | .local _ .vmem, ⟨15, _⟩ => ⟨S1408x1024, .bf16⟩
  | .local _ .vmem, ⟨16, _⟩ => ⟨S1024x1408, .bf16⟩
  | .local _ .vmem, ⟨17, _⟩ => ⟨S1024x1408, .bf16⟩
  | .local _ .vmem, ⟨18, _⟩ => ⟨S1024x1408, .bf16⟩
  | .local _ .vmem, ⟨19, _⟩ => ⟨S1024x1408, .bf16⟩
  | .local _ .vmem, ⟨20, _⟩ => ⟨S1024x1408, .bf16⟩
  | .local _ .vmem, ⟨21, _⟩ => ⟨S1024x1408, .bf16⟩
  | .local _ .vmem, ⟨22, _⟩ => ⟨S1024x1408, .bf16⟩
  | .local _ .vmem, ⟨23, _⟩ => ⟨S1024x1408, .bf16⟩
  | .local _ .vmem, ⟨24, _⟩ => ⟨S4096x256, .bf16⟩
  | .local _ .vmem, ⟨25, _⟩ => ⟨S4096x256, .bf16⟩
  | .local _ .vmem, ⟨26, _⟩ => ⟨S4096x1024, .bf16⟩
  | .local _ .vmem, ⟨27, _⟩ => ⟨S256x1024, .bf16⟩
  | .local _ .vmem, ⟨28, _⟩ => ⟨S256x1024, .bf16⟩
  | .local _ .vmem, ⟨29, _⟩ => ⟨S1024x2816, .bf16⟩
  | .local _ .vmem, ⟨30, _⟩ => ⟨S1024x2816, .bf16⟩
  | .local _ .vmem, ⟨31, _⟩ => ⟨S1024x2816, .bf16⟩
  | .local _ .vmem, ⟨32, _⟩ => ⟨S1024x2816, .bf16⟩
  | .local _ .vmem, ⟨33, _⟩ => ⟨S2816x512, .bf16⟩
  | .local _ .vmem, ⟨34, _⟩ => ⟨S2816x512, .bf16⟩
  | .local _ .vmem, ⟨35, _⟩ => ⟨S2816x512, .bf16⟩
  | .local _ .vmem, ⟨36, _⟩ => ⟨S2816x512, .bf16⟩
  | .local _ .vmem, ⟨37, _⟩ => ⟨S1024x512, .f32⟩
  | .local _ .vmem, ⟨38, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1_0 : Ref sig .tc := ⟨.hbm, 8, rfl⟩
abbrev main_v1_1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg2_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg3_1 : Ref sig .tc := ⟨.vmem, 36, rfl⟩
abbrev cc3_stg4_0 : Ref sig .tc := ⟨.vmem, 37, rfl⟩
abbrev cc3_stg4_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem2_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem2_1 : DmaSem sig := 34
abbrev cc3_sem3_0 : DmaSem sig := 35
abbrev cc3_sem3_1 : DmaSem sig := 36
abbrev cc3_sem4_0 : DmaSem sig := 37
abbrev cc3_sem4_1 : DmaSem sig := 38

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1408x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x1408 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨1, ![11], ![false]⟩

def k2_cond1 (i : grid2.Coords) : BitVec 1 :=
  let arg0 : BitVec 32 := BitVec.ofNat 32 (i 0).val
  let c0_i32 : BitVec 32 := 0#32
  let v0 : BitVec 1 := Scalar.cmpi .sge arg0 c0_i32
  let c11_i32 : BitVec 32 := 11#32
  let v1 : BitVec 1 := Scalar.cmpi .slt arg0 c11_i32
  let v2 : BitVec 1 := Scalar.andi v0 v1
  let v3 : BitVec 32 := Scalar.extui v2
  let c0_i32_0 : BitVec 32 := 0#32
  let v4 : BitVec 1 := Scalar.cmpi .ne v3 c0_i32_0
  v4

def cc2_transform_0 (i : grid2.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c10_i32 : BitVec 32 := 10#32
  let v1 : BitVec 32 := Scalar.maxsi c0_i32_0 v0
  let v2 : BitVec 32 := Scalar.minsi c10_i32 v1
  let c0_i32_1 : BitVec 32 := 0#32
  let c0_i32_2 : BitVec 32 := 0#32
  ![c0_i32_1.toNat, v2.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c10_i32 : BitVec 32 := 10#32
  let v1 : BitVec 32 := Scalar.maxsi c0_i32_0 v0
  let v2 : BitVec 32 := Scalar.minsi c10_i32 v1
  let c0_i32_1 : BitVec 32 := 0#32
  let c0_i32_2 : BitVec 32 := 0#32
  ![v2.toNat, c0_i32_1.toNat]

abbrev stage2_0 : Fin 2 → Memref sig .tc .vmem S4096x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![4, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x2816 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x2816 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S2816x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S2816x512 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S1024x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]
-- ==== Reference2Ideal.lean ====
abbrev S4096x1024 : Shape := ⟨2, ![4096, 1024]⟩
abbrev S2816x1024 : Shape := ⟨2, ![2816, 1024]⟩
abbrev S1024x2816 : Shape := ⟨2, ![1024, 2816]⟩
abbrev S4096x2816 : Shape := ⟨2, ![4096, 2816]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .bf16⟩
  | .hbm, ⟨3, _⟩ => ⟨S2816x1024, .bf16⟩
  | .hbm, ⟨4, _⟩ => ⟨S4096x1024, .bf16⟩
  | .hbm, ⟨5, _⟩ => ⟨S4096x1024, .f32⟩
  | .hbm, ⟨6, _⟩ => ⟨S2816x1024, .f32⟩
  | .hbm, ⟨7, _⟩ => ⟨S1024x2816, .f32⟩
  | .hbm, ⟨8, _⟩ => ⟨S2816x1024, .f32⟩
  | .hbm, ⟨9, _⟩ => ⟨S1024x2816, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S_, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S2816x1024, .f32⟩
  | .hbm, ⟨27, _⟩ => ⟨S4096x1024, .f32⟩
  | .hbm, ⟨28, _⟩ => ⟨S4096x1024, .f32⟩
  | .hbm, ⟨29, _⟩ => ⟨S1024x2816, .f32⟩
  | .hbm, ⟨30, _⟩ => ⟨S2816x1024, .f32⟩
  | .hbm, ⟨31, _⟩ => ⟨S4096x2816, .f32⟩
  | .hbm, ⟨32, _⟩ => ⟨S2816x1024, .bf16⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x2816, .bf16⟩
  | .hbm, ⟨43, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v7_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v7_1 : Ref sig .tc := ⟨.hbm, 23, rfl⟩
abbrev main_v7_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩

abbrev nD : Nat := 1
abbrev τ : Topo := Topo.v7x

variable {F : FTy → Type} [FloatOps F]
-- ==== Kernel3.lean ====
abbrev S4096x1024 : Shape := ⟨2, ![4096, 1024]⟩
abbrev S4096x2048 : Shape := ⟨2, ![4096, 2048]⟩
abbrev S1024x1024 : Shape := ⟨2, ![1024, 1024]⟩
abbrev S512x1024 : Shape := ⟨2, ![512, 1024]⟩
abbrev S4096x256 : Shape := ⟨2, ![4096, 256]⟩
abbrev S256x1024 : Shape := ⟨2, ![256, 1024]⟩
abbrev S512x2048 : Shape := ⟨2, ![512, 2048]⟩

abbrev nBuf : Space → Nat
  | .hbm => 20
  | .vmem => 58
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x2048, .bf16⟩
  | .hbm, ⟨3, _⟩ => ⟨S1024x1024, .bf16⟩
  | .hbm, ⟨4, _⟩ => ⟨S1024x1024, .bf16⟩
  | .hbm, ⟨5, _⟩ => ⟨S1024x1024, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4096x1024, .bf16⟩
  | .hbm, ⟨11, _⟩ => ⟨S4096x1024, .bf16⟩
  | .hbm, ⟨12, _⟩ => ⟨S1024x1024, .bf16⟩
  | .hbm, ⟨13, _⟩ => ⟨S4096x1024, .bf16⟩
  | .hbm, ⟨14, _⟩ => ⟨S4096x1024, .bf16⟩
  | .hbm, ⟨15, _⟩ => ⟨S4096x2048, .bf16⟩
  | .hbm, ⟨16, _⟩ => ⟨S4096x1024, .bf16⟩
  | .hbm, ⟨17, _⟩ => ⟨S4096x1024, .f32⟩
  | .hbm, ⟨18, _⟩ => ⟨S1024x1024, .bf16⟩
  | .hbm, ⟨19, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S4096x256, .bf16⟩
  | .local _ .vmem, ⟨21, _⟩ => ⟨S4096x256, .bf16⟩
  | .local _ .vmem, ⟨22, _⟩ => ⟨S4096x1024, .bf16⟩
  | .local _ .vmem, ⟨23, _⟩ => ⟨S256x1024, .bf16⟩
  | .local _ .vmem, ⟨24, _⟩ => ⟨S256x1024, .bf16⟩
  | .local _ .vmem, ⟨25, _⟩ => ⟨S512x1024, .bf16⟩
  | .local _ .vmem, ⟨26, _⟩ => ⟨S512x1024, .bf16⟩
  | .local _ .vmem, ⟨27, _⟩ => ⟨S1024x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S512x1024, .bf16⟩
  | .local _ .vmem, ⟨34, _⟩ => ⟨S512x1024, .bf16⟩
  | .local _ .vmem, ⟨35, _⟩ => ⟨S512x1024, .bf16⟩
  | .local _ .vmem, ⟨36, _⟩ => ⟨S1024x1024, .bf16⟩
  | .local _ .vmem, ⟨37, _⟩ => ⟨S1024x1024, .bf16⟩
  | .local _ .vmem, ⟨38, _⟩ => ⟨S512x1024, .bf16⟩
  | .local _ .vmem, ⟨39, _⟩ => ⟨S512x1024, .bf16⟩
  | .local _ .vmem, ⟨40, _⟩ => ⟨S512x1024, .bf16⟩
  | .local _ .vmem, ⟨41, _⟩ => ⟨S512x1024, .bf16⟩
  | .local _ .vmem, ⟨42, _⟩ => ⟨S512x2048, .bf16⟩
  | .local _ .vmem, ⟨43, _⟩ => ⟨S512x2048, .bf16⟩
  | .local _ .vmem, ⟨44, _⟩ => ⟨S512x1024, .bf16⟩
  | .local _ .vmem, ⟨45, _⟩ => ⟨S512x1024, .bf16⟩
  | .local _ .vmem, ⟨46, _⟩ => ⟨S512x1024, .f32⟩
  | .local _ .vmem, ⟨47, _⟩ => ⟨S512x1024, .f32⟩
  | .local _ .vmem, ⟨48, _⟩ => ⟨S4096x256, .bf16⟩
  | .local _ .vmem, ⟨49, _⟩ => ⟨S4096x256, .bf16⟩
  | .local _ .vmem, ⟨50, _⟩ => ⟨S4096x1024, .bf16⟩
  | .local _ .vmem, ⟨51, _⟩ => ⟨S256x1024, .bf16⟩
  | .local _ .vmem, ⟨52, _⟩ => ⟨S256x1024, .bf16⟩
  | .local _ .vmem, ⟨53, _⟩ => ⟨S4096x256, .bf16⟩
  | .local _ .vmem, ⟨54, _⟩ => ⟨S4096x256, .bf16⟩
  | .local _ .vmem, ⟨55, _⟩ => ⟨S4096x1024, .bf16⟩
  | .local _ .vmem, ⟨56, _⟩ => ⟨S256x1024, .bf16⟩
  | .local _ .vmem, ⟨57, _⟩ => ⟨S256x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v2_2 : Ref sig .tc := ⟨.hbm, 15, rfl⟩
abbrev main_v2_3 : Ref sig .tc := ⟨.hbm, 16, rfl⟩
abbrev main_v2_4 : Ref sig .tc := ⟨.hbm, 17, rfl⟩
abbrev main_v3 : Ref sig .tc := ⟨.hbm, 18, rfl⟩
abbrev main_v4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg2_0 : Ref sig .tc := ⟨.vmem, 23, rfl⟩
abbrev cc1_stg2_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg4_1 : Ref sig .tc := ⟨.vmem, 33, rfl⟩
abbrev cc2_stg5_0 : Ref sig .tc := ⟨.vmem, 34, rfl⟩
abbrev cc2_stg5_1 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc2_stg8_1 : Ref sig .tc := ⟨.vmem, 39, rfl⟩
abbrev cc2_stg9_0 : Ref sig .tc := ⟨.vmem, 40, rfl⟩
abbrev cc2_stg9_1 : Ref sig .tc := ⟨.vmem, 41, rfl⟩
abbrev cc2_stg10_0 : Ref sig .tc := ⟨.vmem, 42, rfl⟩
abbrev cc2_stg10_1 : Ref sig .tc := ⟨.vmem, 43, rfl⟩
abbrev cc2_stg11_0 : Ref sig .tc := ⟨.vmem, 44, rfl⟩
abbrev cc2_stg11_1 : Ref sig .tc := ⟨.vmem, 45, rfl⟩
abbrev cc2_stg12_0 : Ref sig .tc := ⟨.vmem, 46, rfl⟩
abbrev cc2_stg12_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg2_0 : Ref sig .tc := ⟨.vmem, 51, rfl⟩
abbrev cc3_stg2_1 : Ref sig .tc := ⟨.vmem, 52, rfl⟩
abbrev cc4_stg0_0 : Ref sig .tc := ⟨.vmem, 53, rfl⟩
abbrev cc4_stg0_1 : Ref sig .tc := ⟨.vmem, 54, rfl⟩
abbrev cc4_stg1_0 : Ref sig .tc := ⟨.vmem, 55, rfl⟩
abbrev cc4_stg2_0 : Ref sig .tc := ⟨.vmem, 56, rfl⟩
abbrev cc4_stg2_1 : Ref sig .tc := ⟨.vmem, 57, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc1_sem0_0 : DmaSem sig := 20
abbrev cc1_sem0_1 : DmaSem sig := 21
abbrev cc1_sem1_0 : DmaSem sig := 22
abbrev cc1_sem2_0 : DmaSem sig := 23
abbrev cc1_sem2_1 : DmaSem sig := 24
abbrev cc2_sem0_0 : DmaSem sig := 25
abbrev cc2_sem0_1 : DmaSem sig := 26
abbrev cc2_sem1_0 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem4_1 : DmaSem sig := 33
abbrev cc2_sem5_0 : DmaSem sig := 34
abbrev cc2_sem5_1 : DmaSem sig := 35
abbrev cc2_sem6_0 : DmaSem sig := 36
abbrev cc2_sem7_0 : DmaSem sig := 37
abbrev cc2_sem8_0 : DmaSem sig := 38
abbrev cc2_sem8_1 : DmaSem sig := 39
abbrev cc2_sem9_0 : DmaSem sig := 40
abbrev cc2_sem9_1 : DmaSem sig := 41
abbrev cc2_sem10_0 : DmaSem sig := 42
abbrev cc2_sem10_1 : DmaSem sig := 43
abbrev cc2_sem11_0 : DmaSem sig := 44
abbrev cc2_sem11_1 : DmaSem sig := 45
abbrev cc2_sem12_0 : DmaSem sig := 46
abbrev cc2_sem12_1 : DmaSem sig := 47
abbrev cc3_sem0_0 : DmaSem sig := 48
abbrev cc3_sem0_1 : DmaSem sig := 49
abbrev cc3_sem1_0 : DmaSem sig := 50
abbrev cc3_sem2_0 : DmaSem sig := 51
abbrev cc3_sem2_1 : DmaSem sig := 52
abbrev cc4_sem0_0 : DmaSem sig := 53
abbrev cc4_sem0_1 : DmaSem sig := 54
abbrev cc4_sem1_0 : DmaSem sig := 55
abbrev cc4_sem2_0 : DmaSem sig := 56
abbrev cc4_sem2_1 : DmaSem sig := 57

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev grid1 : Pipeline.Grid := ⟨1, ![4], ![false]⟩

def k1_cond1 (i : grid1.Coords) : BitVec 1 :=
  let arg0 : BitVec 32 := BitVec.ofNat 32 (i 0).val
  let c0_i32 : BitVec 32 := 0#32
  let v0 : BitVec 1 := Scalar.cmpi .sge arg0 c0_i32
  let c4_i32 : BitVec 32 := 4#32
  let v1 : BitVec 1 := Scalar.cmpi .slt arg0 c4_i32
  let v2 : BitVec 1 := Scalar.andi v0 v1
  let v3 : BitVec 32 := Scalar.extui v2
  let c0_i32_0 : BitVec 32 := 0#32
  let v4 : BitVec 1 := Scalar.cmpi .ne v3 c0_i32_0
  v4

def cc1_transform_0 (i : grid1.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![c0_i32_1.toNat, v2.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![v2.toNat, c0_i32_1.toNat]

abbrev stage1_0 : Fin 2 → Memref sig .tc .vmem S4096x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_11 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_12 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S512x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S512x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 1 → Memref sig .tc .vmem S1024x1024 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1024x1024 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 2 → Memref sig .tc .vmem S512x1024 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false]

abbrev stage2_9 : Fin 2 → Memref sig .tc .vmem S512x1024 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, false]

abbrev stage2_10 : Fin 2 → Memref sig .tc .vmem S512x2048 .bf16 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, false]

abbrev stage2_11 : Fin 2 → Memref sig .tc .vmem S512x1024 .bf16 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true, false]

abbrev stage2_12 : Fin 2 → Memref sig .tc .vmem S512x1024 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true, false]

abbrev grid3 : Pipeline.Grid := ⟨1, ![4], ![false]⟩

def k3_cond1 (i : grid3.Coords) : BitVec 1 :=
  let arg0 : BitVec 32 := BitVec.ofNat 32 (i 0).val
  let c0_i32 : BitVec 32 := 0#32
  let v0 : BitVec 1 := Scalar.cmpi .sge arg0 c0_i32
  let c4_i32 : BitVec 32 := 4#32
  let v1 : BitVec 1 := Scalar.cmpi .slt arg0 c4_i32
  let v2 : BitVec 1 := Scalar.andi v0 v1
  let v3 : BitVec 32 := Scalar.extui v2
  let c0_i32_0 : BitVec 32 := 0#32
  let v4 : BitVec 1 := Scalar.cmpi .ne v3 c0_i32_0
  v4

def cc3_transform_0 (i : grid3.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![c0_i32_1.toNat, v2.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![v2.toNat, c0_i32_1.toNat]

abbrev stage3_0 : Fin 2 → Memref sig .tc .vmem S4096x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S4096x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![4], ![false]⟩

def k4_cond1 (i : grid4.Coords) : BitVec 1 :=
  let arg0 : BitVec 32 := BitVec.ofNat 32 (i 0).val
  let c0_i32 : BitVec 32 := 0#32
  let v0 : BitVec 1 := Scalar.cmpi .sge arg0 c0_i32
  let c4_i32 : BitVec 32 := 4#32
  let v1 : BitVec 1 := Scalar.cmpi .slt arg0 c4_i32
  let v2 : BitVec 1 := Scalar.andi v0 v1
  let v3 : BitVec 32 := Scalar.extui v2
  let c0_i32_0 : BitVec 32 := 0#32
  let v4 : BitVec 1 := Scalar.cmpi .ne v3 c0_i32_0
  v4

def cc4_transform_0 (i : grid4.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![c0_i32_1.toNat, v2.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![v2.toNat, c0_i32_1.toNat]

abbrev stage4_0 : Fin 2 → Memref sig .tc .vmem S4096x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S4096x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S256x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]
-- ==== Reference3Ideal.lean ====
abbrev S4096x1024 : Shape := ⟨2, ![4096, 1024]⟩
abbrev S4096x2048 : Shape := ⟨2, ![4096, 2048]⟩
abbrev S1024x1024 : Shape := ⟨2, ![1024, 1024]⟩
abbrev S_ : Shape := ⟨0, ![]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x2048, .bf16⟩
  | .hbm, ⟨3, _⟩ => ⟨S1024x1024, .bf16⟩
  | .hbm, ⟨4, _⟩ => ⟨S1024x1024, .bf16⟩
  | .hbm, ⟨5, _⟩ => ⟨S1024x1024, .bf16⟩
  | .hbm, ⟨6, _⟩ => ⟨S4096x1024, .bf16⟩
  | .hbm, ⟨7, _⟩ => ⟨S4096x1024, .f32⟩
  | .hbm, ⟨8, _⟩ => ⟨S4096x1024, .f32⟩
  | .hbm, ⟨9, _⟩ => ⟨S4096x2048, .f32⟩
  | .hbm, ⟨10, _⟩ => ⟨S4096x1024, .f32⟩
  | .hbm, ⟨11, _⟩ => ⟨S4096x1024, .f32⟩
  | .hbm, ⟨12, _⟩ => ⟨S1024x1024, .f32⟩
  | .hbm, ⟨13, _⟩ => ⟨S4096x1024, .f32⟩
  | .hbm, ⟨14, _⟩ => ⟨S1024x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S1024x1024, .f32⟩
  | .hbm, ⟨44, _⟩ => ⟨S4096x1024, .f32⟩
  | .hbm, ⟨45, _⟩ => ⟨S4096x1024, .f32⟩
  | .hbm, ⟨46, _⟩ => ⟨S1024x1024, .f32⟩
  | .hbm, ⟨47, _⟩ => ⟨S1024x1024, .f32⟩
  | .hbm, ⟨48, _⟩ => ⟨S4096x1024, .f32⟩
  | .hbm, ⟨49, _⟩ => ⟨S1024x1024, .bf16⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S1024x1024, .f32⟩
  | .hbm, ⟨57, _⟩ => ⟨S1024x1024, .f32⟩
  | .hbm, ⟨58, _⟩ => ⟨S4096x1024, .f32⟩
  | .hbm, ⟨59, _⟩ => ⟨S1024x1024, .bf16⟩
  | .hbm, ⟨60, _⟩ => ⟨S1024x1024, .f32⟩
  | .hbm, ⟨61, _⟩ => ⟨S1024x1024, .f32⟩
  | .hbm, ⟨62, _⟩ => ⟨S4096x1024, .f32⟩
  | .hbm, ⟨63, _⟩ => ⟨S1024x1024, .bf16⟩
  | .hbm, ⟨64, _⟩ => ⟨S4096x2048, .f32⟩
  | .hbm, ⟨65, _⟩ => ⟨S4096x2048, .bf16⟩
  | .hbm, ⟨66, _⟩ => ⟨S4096x1024, .bf16⟩
  | .hbm, ⟨67, _⟩ => ⟨S4096x1024, .bf16⟩
  | .hbm, ⟨68, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩

abbrev nD : Nat := 1
abbrev τ : Topo := Topo.v7x

variable {F : FTy → Type} [FloatOps F]
-- ==== Kernel4.lean ====
abbrev S4096x1024 : Shape := ⟨2, ![4096, 1024]⟩
abbrev S4096x256 : Shape := ⟨2, ![4096, 256]⟩
abbrev S4096x4096 : Shape := ⟨2, ![4096, 4096]⟩
abbrev S4096x2048 : Shape := ⟨2, ![4096, 2048]⟩
abbrev S7424x1024 : Shape := ⟨2, ![7424, 1024]⟩
abbrev S1x7424 : Shape := ⟨2, ![1, 7424]⟩
abbrev S256x1024 : Shape := ⟨2, ![256, 1024]⟩
abbrev S1x256 : Shape := ⟨2, ![1, 256]⟩
abbrev S256 : Shape := ⟨1, ![256]⟩

abbrev nBuf : Space → Nat
  | .hbm => 7
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S4096x4096, .bf16⟩
  | .hbm, ⟨3, _⟩ => ⟨S4096x2048, .bf16⟩
  | .hbm, ⟨4, _⟩ => ⟨S4096x1024, .bf16⟩
  | .hbm, ⟨5, _⟩ => ⟨S7424x1024, .bf16⟩
  | .hbm, ⟨6, _⟩ => ⟨S1x7424, .f32⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x1024, .bf16⟩
  | .local _ .vmem, ⟨9, _⟩ => ⟨S256x1024, .bf16⟩
  | .local _ .vmem, ⟨10, _⟩ => ⟨S256x1024, .bf16⟩
  | .local _ .vmem, ⟨11, _⟩ => ⟨S1x256, .f32⟩
  | .local _ .vmem, ⟨12, _⟩ => ⟨S1x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![29], ![false]⟩

def k0_cond1 (i : grid0.Coords) : BitVec 1 :=
  let arg0 : BitVec 32 := BitVec.ofNat 32 (i 0).val
  let c0_i32 : BitVec 32 := 0#32
  let v1 : BitVec 1 := Scalar.cmpi .sge arg0 c0_i32
  let c4_i32 : BitVec 32 := 4#32
  let v2 : BitVec 1 := Scalar.cmpi .slt arg0 c4_i32
  let v3 : BitVec 1 := Scalar.andi v1 v2
  let v13 : BitVec 32 := Scalar.extui v3
  let c0_i32_4 : BitVec 32 := 0#32
  let v14 : BitVec 1 := Scalar.cmpi .ne v13 c0_i32_4
  v14

def k0_cond2 (i : grid0.Coords) : BitVec 1 :=
  let arg0 : BitVec 32 := BitVec.ofNat 32 (i 0).val
  let c4_i32_1 : BitVec 32 := 4#32
  let v4 : BitVec 1 := Scalar.cmpi .sge arg0 c4_i32_1
  let c5_i32 : BitVec 32 := 5#32
  let v5 : BitVec 1 := Scalar.cmpi .slt arg0 c5_i32
  let v6 : BitVec 1 := Scalar.andi v4 v5
  let v15 : BitVec 32 := Scalar.extui v6
  let c0_i32_5 : BitVec 32 := 0#32
  let v16 : BitVec 1 := Scalar.cmpi .ne v15 c0_i32_5
  v16

def k0_cond3 (i : grid0.Coords) : BitVec 1 :=
  let arg0 : BitVec 32 := BitVec.ofNat 32 (i 0).val
  let c5_i32_2 : BitVec 32 := 5#32
  let v7 : BitVec 1 := Scalar.cmpi .sge arg0 c5_i32_2
  let c21_i32 : BitVec 32 := 21#32
  let v8 : BitVec 1 := Scalar.cmpi .slt arg0 c21_i32
  let v9 : BitVec 1 := Scalar.andi v7 v8
  let v17 : BitVec 32 := Scalar.extui v9
  let c0_i32_6 : BitVec 32 := 0#32
  let v18 : BitVec 1 := Scalar.cmpi .ne v17 c0_i32_6
  v18

def k0_cond4 (i : grid0.Coords) : BitVec 1 :=
  let arg0 : BitVec 32 := BitVec.ofNat 32 (i 0).val
  let c21_i32_3 : BitVec 32 := 21#32
  let v10 : BitVec 1 := Scalar.cmpi .sge arg0 c21_i32_3
  let c29_i32 : BitVec 32 := 29#32
  let v11 : BitVec 1 := Scalar.cmpi .slt arg0 c29_i32
  let v12 : BitVec 1 := Scalar.andi v10 v11
  let v19 : BitVec 32 := Scalar.extui v12
  let c0_i32_7 : BitVec 32 := 0#32
  let v20 : BitVec 1 := Scalar.cmpi .ne v19 c0_i32_7
  v20

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let c5_i32 : BitVec 32 := 5#32
  let v0 : BitVec 32 := Scalar.subi arg0 c5_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let c21_i32 : BitVec 32 := 21#32
  let v0 : BitVec 32 := Scalar.subi arg0 c21_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S4096x1024 : Shape := ⟨2, ![4096, 1024]⟩
abbrev S4096x256 : Shape := ⟨2, ![4096, 256]⟩
abbrev S4096x4096 : Shape := ⟨2, ![4096, 4096]⟩
abbrev S4096x2048 : Shape := ⟨2, ![4096, 2048]⟩
abbrev S4096x7424 : Shape := ⟨2, ![4096, 7424]⟩
abbrev S_ : Shape := ⟨0, ![]⟩
abbrev S1024x7424 : Shape := ⟨2, ![1024, 7424]⟩
abbrev S1x7424 : Shape := ⟨2, ![1, 7424]⟩
abbrev S7424 : Shape := ⟨1, ![7424]⟩
abbrev S7424x1024 : Shape := ⟨2, ![7424, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S4096x4096, .bf16⟩
  | .hbm, ⟨3, _⟩ => ⟨S4096x2048, .bf16⟩
  | .hbm, ⟨4, _⟩ => ⟨S4096x1024, .bf16⟩
  | .hbm, ⟨5, _⟩ => ⟨S4096x1024, .f32⟩
  | .hbm, ⟨6, _⟩ => ⟨S4096x256, .f32⟩
  | .hbm, ⟨7, _⟩ => ⟨S4096x4096, .f32⟩
  | .hbm, ⟨8, _⟩ => ⟨S4096x2048, .f32⟩
  | .hbm, ⟨9, _⟩ => ⟨S4096x7424, .f32⟩
  | .hbm, ⟨10, _⟩ => ⟨S_, .bf16⟩
  | .hbm, ⟨11, _⟩ => ⟨S1024x7424, .bf16⟩
  | .hbm, ⟨12, _⟩ => ⟨S_, .f32⟩
  | .hbm, ⟨13, _⟩ => ⟨S1x7424, .f32⟩
  | .hbm, ⟨14, _⟩ => ⟨S4096x1024, .f32⟩
  | .hbm, ⟨15, _⟩ => ⟨S1024x7424, .f32⟩
  | .hbm, ⟨16, _⟩ => ⟨S4096x7424, .f32⟩
  | .hbm, ⟨17, _⟩ => ⟨S4096x7424, .f32⟩
  | .hbm, ⟨18, _⟩ => ⟨S4096x7424, .f32⟩
  | .hbm, ⟨19, _⟩ => ⟨S_, .f32⟩
  | .hbm, ⟨20, _⟩ => ⟨S7424, .f32⟩
  | .hbm, ⟨21, _⟩ => ⟨S1x7424, .f32⟩
  | .hbm, ⟨22, _⟩ => ⟨S7424x1024, .f32⟩
  | .hbm, ⟨23, _⟩ => ⟨S1024x7424, .f32⟩
  | .hbm, ⟨24, _⟩ => ⟨S1024x7424, .bf16⟩
  | .hbm, ⟨25, _⟩ => ⟨S7424x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Proof.Printed.Runs.lean ====
/- The set-up of the attention-gradient kernel's launch, as printed: @main up to its call, the branch conditions over
   the grid, the staging buffers at a point, and the carried scratch. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Printed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The program up to the call -/

/-- Each core's buffers when the call begins: as launched, since the program is the call alone. -/
abbrev V (c : Dev nD) (b : Ref sig .tc) : Buf (Elt F) ((c : Thread nD τ).loc b) := m ((c : Thread nD τ).loc b)

set_option maxHeartbeats 800000 in
/-- The program up to the call does nothing. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The windows' blocks -/

/-- The block of window `w` at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The buffer of input 0 holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The buffer of input 1 holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The buffer of input 2 holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The buffer of input 3 holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- The buffer of input 4 holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The arguments end unchanged, for any data of the pipeline over the arrays as the call finds them. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 1 rfl).trans ((hA c 1).trans (V_main_arg0 m c)),
      (Pipeline.RDat.FramePost.arr_in h c 3 rfl).trans ((hA c 3).trans (V_main_arg1 m c)),
      (Pipeline.RDat.FramePost.arr_in h c 0 rfl).trans ((hA c 0).trans (V_main_arg2 m c)),
      (Pipeline.RDat.FramePost.arr_in h c 4 rfl).trans ((hA c 4).trans (V_main_arg3 m c))⟩) h

/-! ## The body's branch conditions -/

/-- The condition of the body's first branch. -/
abbrev cond0_0 (i : grid0.Coords) : Prop := k0_cond1 i = 1#1
/-- It holds at the first point alone. -/
theorem hcond0_0 : ∀ t : Fin cfg0.N, cond0_0 (grid0.coords t) ↔ t.val % 33 = 0 :=
  (fun t => by
    have ht : t.val < 33 := Nat.lt_of_lt_of_eq t.isLt N_0
    have e0 : (grid0.coords t 0).val = t.val / 1 % 33 := Pipeline.Grid.coords_val t 0 (by decide) rfl
    simp only [cond0_0, k0_cond1, e0]
    word_cmp
   : ∀ t : Fin grid0.N, cond0_0 (grid0.coords t) ↔ t.val % 33 = 0)

/-- The condition of the body's second branch. -/
abbrev cond0_1 (i : grid0.Coords) : Prop := k0_cond2 i = 1#1
/-- It holds at every point but the last. -/
theorem hcond0_1 : ∀ t : Fin cfg0.N, cond0_1 (grid0.coords t) ↔ t.val < 32 :=
  (by decide +kernel : ∀ t : Fin grid0.N, cond0_1 (grid0.coords t) ↔ t.val < 32)

/-- The condition of the body's third branch. -/
abbrev cond0_2 (i : grid0.Coords) : Prop := k0_cond3 i = 1#1
/-- It holds at the last point alone. -/
theorem hcond0_2 : ∀ t : Fin cfg0.N, cond0_2 (grid0.coords t) ↔ t.val % 33 = 32 :=
  (fun t => by
    have ht : t.val < 33 := Nat.lt_of_lt_of_eq t.isLt N_0
    have e0 : (grid0.coords t 0).val = t.val / 1 % 33 := Pipeline.Grid.coords_val t 0 (by decide) rfl
    simp only [cond0_2, k0_cond3, e0]
    word_cmp
   : ∀ t : Fin grid0.N, cond0_2 (grid0.coords t) ↔ t.val % 33 = 32)

/-! ## Where the windows are idle (the printed configuration's table `Cfg.idle`) -/

/-- Input 0 is fetched at every point. -/
theorem liveAt0_0 : ∀ t : Fin cfg0.N, cfg0.idle 0 (grid0.coords t) = false := fun _ => rfl
/-- Input 1 is fetched at every point. -/
theorem liveAt0_1 : ∀ t : Fin cfg0.N, cfg0.idle 1 (grid0.coords t) = false := fun _ => rfl
/-- Input 2 is fetched at every point. -/
theorem liveAt0_2 : ∀ t : Fin cfg0.N, cfg0.idle 2 (grid0.coords t) = false := fun _ => rfl
/-- Input 3 is fetched at every point. -/
theorem liveAt0_3 : ∀ t : Fin cfg0.N, cfg0.idle 3 (grid0.coords t) = false := fun _ => rfl
/-- Input 4 is fetched at every point. -/
theorem liveAt0_4 : ∀ t : Fin cfg0.N, cfg0.idle 4 (grid0.coords t) = false := fun _ => rfl
/-! ## The staging buffers and the scratch -/

/-- Each window's staging buffer at point `t`, and that it is a whole buffer. -/
abbrev ms0_0 (t : Fin cfg0.N) : Memref sig .tc .smem S1x16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
/-- The scratch, as a whole buffer. -/
abbrev scM0_0 : Memref sig .tc .vmem S128x256 .f32 := Memref.whole cc0_scratch0

/-- What the body is handed besides the windows: the scratch at some contents and the generator's register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Printed

end
-- ==== Proof.Printed.RunA.lean ====
/- The printed body at the first point of the grid. -/
module

public import proofs.«01_k».proof.Proof.Printed.Runs

@[expose] public section

set_option maxRecDepth 16384

noncomputable section

namespace Cert.Kernel.Printed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the first point: on staging buffers that hold the blocks of its inputs it ends with them as they were,
    the outputs and the scratch at some contents. -/
theorem kernelRun0_A (c : Dev nD) (i : grid0.Coords) (arg1 : Memref sig .tc .smem S1x16 .f32) (harg1 : arg1.IsWhole) (arg2 : Memref sig .tc .vmem S128x1024 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x256 .bf16) (harg7 : arg7.IsWhole) (arg8 : Memref sig .tc .vmem S1x128 .f32) (harg8 : arg8.IsWhole) (arg9 : Memref sig .tc .vmem S128x256 .f32) (harg9 : arg9.IsWhole) (hc0 : cond0_0 i) (hc1 : cond0_1 i) (hc2 : ¬cond0_2 i)
    (x0 : Vec F S1x16 .f32) (x1 : Vec F S128x1024 .bf16) (x2 : Vec F S128x256 .bf16) (x3 : Vec F S128x256 .bf16) (x4 : Vec F S128x1024 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9) K := by
    intro E K
    simp only [cc0_attn_bwd_eq_skeleton]; unfold cc0_attn_bwd_skel
    simp only [k0_part22_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    iexists _, _; isplitr; swap; · iexact HS0
    ipureintro; rfl

end Cert.Kernel.Printed

end
-- ==== Proof.Printed.RunB.lean ====
/- The printed body at a point between the first and the last. -/
module

public import proofs.«01_k».proof.Proof.Printed.RunA

@[expose] public section

set_option maxRecDepth 16384

noncomputable section

namespace Cert.Kernel.Printed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a point between the first and the last, in the same words. -/
theorem kernelRun0_B (c : Dev nD) (i : grid0.Coords) (arg1 : Memref sig .tc .smem S1x16 .f32) (harg1 : arg1.IsWhole) (arg2 : Memref sig .tc .vmem S128x1024 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x256 .bf16) (harg7 : arg7.IsWhole) (arg8 : Memref sig .tc .vmem S1x128 .f32) (harg8 : arg8.IsWhole) (arg9 : Memref sig .tc .vmem S128x256 .f32) (harg9 : arg9.IsWhole) (hc0 : ¬cond0_0 i) (hc1 : cond0_1 i) (hc2 : ¬cond0_2 i)
    (x0 : Vec F S1x16 .f32) (x1 : Vec F S128x1024 .bf16) (x2 : Vec F S128x256 .bf16) (x3 : Vec F S128x256 .bf16) (x4 : Vec F S128x1024 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9) K := by
    intro E K
    simp only [cc0_attn_bwd_eq_skeleton]; unfold cc0_attn_bwd_skel
    simp only [k0_part22_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    iexists _, _; isplitr; swap; · iexact HS0
    ipureintro; rfl

end Cert.Kernel.Printed

end
-- ==== Proof.Printed.RunC.lean ====
/- The printed body at the last point of the grid, which writes the carried gradients. -/
module

public import proofs.«01_k».proof.Proof.Printed.RunB

@[expose] public section

set_option maxRecDepth 16384

noncomputable section

namespace Cert.Kernel.Printed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the last point, in the same words. -/
theorem kernelRun0_C (c : Dev nD) (i : grid0.Coords) (arg1 : Memref sig .tc .smem S1x16 .f32) (harg1 : arg1.IsWhole) (arg2 : Memref sig .tc .vmem S128x1024 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x256 .bf16) (harg7 : arg7.IsWhole) (arg8 : Memref sig .tc .vmem S1x128 .f32) (harg8 : arg8.IsWhole) (arg9 : Memref sig .tc .vmem S128x256 .f32) (harg9 : arg9.IsWhole) (hc0 : ¬cond0_0 i) (hc1 : ¬cond0_1 i) (hc2 : cond0_2 i)
    (x0 : Vec F S1x16 .f32) (x1 : Vec F S128x1024 .bf16) (x2 : Vec F S128x256 .bf16) (x3 : Vec F S128x256 .bf16) (x4 : Vec F S128x1024 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9) K := by
    intro E K
    simp only [cc0_attn_bwd_eq_skeleton]; unfold cc0_attn_bwd_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    iexists _, _; isplitr; swap; · iexact HS0
    ipureintro; rfl

end Cert.Kernel.Printed

end
-- ==== Proof.Printed.Frame.lean ====
/- The frame of the attention-gradient kernel as printed: it terminates, its arguments stay, and the counters end at
   zero. Nothing is said here of what its results hold. -/
module

public import proofs.«01_k».proof.Proof.Printed.RunC
public import Idealize.ShloMosaic.Lib.Claim

@[expose] public section

set_option maxRecDepth 16384

noncomputable section

namespace Cert.Kernel.Printed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows: nothing is said of their contents. -/
def forgets0 : Fin 8 → Bool := fun w => w.val == 5 || w.val == 6 || w.val == 7

/-- The pipeline's data on core `c`: the arrays as the call finds them, the input buffers at their blocks after each
    body, the outputs unnamed, the scratch at some contents between points, each input with its share of its array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q w := Pipeline.shareOf spec0 w
  owed _ := 0

/-- The data's arrays are those that the call finds. -/
theorem A_eq (c : Dev nD) (w : Fin cfg0.W) : (dats m 0 c).A w = V m c (Pipeline.arrRef spec0 w) := by
  dsimp only [dats]

/-- What the body leaves in each input's buffer: its block. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d))

/-- What the body hands back at point `t`, window by window. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 2400000 in
/-- The body at any point, by the case that the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 33 := lt_of_lt_of_eq t.isLt (show cfg0.N = 33 from N_0)
  by_cases h0 : t.val % 33 = 0
  · by_cases h1 : t.val < 32
    · by_cases h2 : t.val % 33 = 32
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t)) Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [HS0]; · iexact HS0
        iintro ⟨H0, H1, H2, H3, H4, H5, H6, H7, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
    · exfalso; omega
  · by_cases h1 : t.val < 32
    · by_cases h2 : t.val % 33 = 32
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t)) Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [HS0]; · iexact HS0
        iintro ⟨H0, H1, H2, H3, H4, H5, H6, H7, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
    · by_cases h2 : t.val % 33 = 32
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t)) Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [HS0]; · iexact HS0
        iintro ⟨H0, H1, H2, H3, H4, H5, H6, H7, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      · exfalso; omega

/-- The table's body at point `t` is the printed body on that point's buffers. -/
theorem defs₀_row (t : Fin cfg0.N) :
    defs₀ (F := F) .tc cfg0.body (cfg0.bodyArgs t (cfg0.slots t)) = bodyAt0 t := by
  unfold defs₀; rw [Defs.onTc_tc]

/-- What the pipeline asks of the body, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The launch: the inputs' arrays end as they were, and every counter ends at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The launch without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- The frame: the program terminates, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Printed

end
-- ==== Proof.Math.Row.lean ====
/- One row of an attention over a window of 256 keys and a sink, over the reals: its probabilities, the gradients of its
   scores and of its sink; and the same read off extended reals, whatever finite number the exponents are shifted by. -/
module

public import Idealize.ShloMosaic.PureOps.Ideal.Laws
public import Idealize.ShloMosaic.Lib.IdealHost

@[expose] public section

noncomputable section

namespace Cert.Row

open Idealize.ShloMosaic

/-! ## The row over the reals -/

section
variable (V : Fin 256 → Prop) [DecidablePred V] (s d : Fin 256 → ℝ) (σ : ℝ)

/-- The sum of the exponentials of the allowed scores and of the sink. -/
def Z : ℝ := (∑ k, if V k then Real.exp (s k) else 0) + Real.exp σ
/-- The probabilities. -/
def pr (k : Fin 256) : ℝ := (if V k then Real.exp (s k) else 0) / Z V s σ
/-- The sink's probability. -/
def prSink : ℝ := Real.exp σ / Z V s σ
/-- The probabilities' mean of their gradients. -/
def mean : ℝ := ∑ k, pr V s σ k * d k
/-- The gradients of the scores. -/
def dsc (k : Fin 256) : ℝ := pr V s σ k * (d k - mean V s d σ)
/-- The gradient of the sink. -/
def dsk : ℝ := -(prSink V s σ * mean V s d σ)

theorem Z_pos : 0 < Z V s σ :=
  add_pos_of_nonneg_of_pos (Finset.sum_nonneg fun k _ => by split <;> positivity) (Real.exp_pos σ)

theorem pr_of_not {k : Fin 256} (h : ¬ V k) : pr V s σ k = 0 := by unfold pr; rw [if_neg h, zero_div]
theorem dsc_of_not {k : Fin 256} (h : ¬ V k) : dsc V s d σ k = 0 := by unfold dsc; rw [pr_of_not V s σ h, zero_mul]

/-- The shifted exponentials. -/
def ex (μ : ℝ) (k : Fin 256) : ℝ := if V k then Real.exp (s k - μ) else 0
/-- Their sum with the sink's. -/
def Zs (μ : ℝ) : ℝ := (∑ k, ex V s μ k) + Real.exp (σ - μ)

theorem ex_eq (μ : ℝ) (k : Fin 256) : ex V s μ k = (if V k then Real.exp (s k) else 0) * Real.exp (-μ) := by
  unfold ex; split
  · rw [← Real.exp_add]; rfl
  · rw [zero_mul]
theorem Zs_eq (μ : ℝ) : Zs V s σ μ = Z V s σ * Real.exp (-μ) := by
  unfold Zs Z
  rw [add_mul, Finset.sum_mul, ← Real.exp_add]
  simp only [ex_eq, sub_eq_add_neg]
theorem Zs_pos (μ : ℝ) : 0 < Zs V s σ μ := by rw [Zs_eq]; exact mul_pos (Z_pos V s σ) (Real.exp_pos _)

theorem pr_eq (μ : ℝ) (k : Fin 256) : ex V s μ k * (Zs V s σ μ)⁻¹ = pr V s σ k := by
  have h1 := (Z_pos V s σ).ne'
  have h2 := (Real.exp_pos (-μ)).ne'
  rw [Zs_eq, ex_eq, pr]; field_simp
theorem prSink_eq (μ : ℝ) : Real.exp (σ - μ) * (Zs V s σ μ)⁻¹ = prSink V s σ := by
  have h1 := (Z_pos V s σ).ne'
  have h2 := (Real.exp_pos (-μ)).ne'
  rw [Zs_eq, prSink, sub_eq_add_neg, Real.exp_add]; field_simp

/-- The mean as a softmax's derivative writes it. -/
theorem mean_eq (μ : ℝ) : (∑ k, d k * (1 * (Zs V s σ μ * Zs V s σ μ)⁻¹) * ex V s μ k) = (Zs V s σ μ)⁻¹ * mean V s d σ := by
  unfold mean
  rw [Finset.mul_sum]
  refine Finset.sum_congr rfl fun k _ => ?_
  rw [← pr_eq V s σ μ k]
  have h := (Zs_pos V s σ μ).ne'
  field_simp

end

/-- Scores and gradients matter where allowed only. -/
theorem pr_congr {V W : Fin 256 → Prop} [DecidablePred V] [DecidablePred W] {s s' : Fin 256 → ℝ} (σ : ℝ) (hV : ∀ k, V k ↔ W k)
    (h : ∀ k, V k → s k = s' k) : pr V s σ = pr W s' σ := by
  have e : ∀ k, (if V k then Real.exp (s k) else 0) = (if W k then Real.exp (s' k) else 0) := fun k => by
    by_cases hk : V k
    · rw [if_pos hk, if_pos ((hV k).mp hk), h k hk]
    · rw [if_neg hk, if_neg (fun w => hk ((hV k).mpr w))]
  funext k; unfold pr Z; simp only [e]
theorem prSink_congr {V W : Fin 256 → Prop} [DecidablePred V] [DecidablePred W] {s s' : Fin 256 → ℝ} (σ : ℝ) (hV : ∀ k, V k ↔ W k)
    (h : ∀ k, V k → s k = s' k) : prSink V s σ = prSink W s' σ := by
  have e : ∀ k, (if V k then Real.exp (s k) else 0) = (if W k then Real.exp (s' k) else 0) := fun k => by
    by_cases hk : V k
    · rw [if_pos hk, if_pos ((hV k).mp hk), h k hk]
    · rw [if_neg hk, if_neg (fun w => hk ((hV k).mpr w))]
  unfold prSink Z; simp only [e]
theorem mean_congr {V W : Fin 256 → Prop} [DecidablePred V] [DecidablePred W] {s s' d d' : Fin 256 → ℝ} (σ : ℝ) (hV : ∀ k, V k ↔ W k)
    (h : ∀ k, V k → s k = s' k) (hd : ∀ k, V k → d k = d' k) : mean V s d σ = mean W s' d' σ := by
  unfold mean
  rw [← pr_congr σ hV h]
  refine Finset.sum_congr rfl fun k _ => ?_
  by_cases hk : V k
  · rw [hd k hk]
  · rw [pr_of_not V s σ hk, zero_mul, zero_mul]
theorem dsc_congr {V W : Fin 256 → Prop} [DecidablePred V] [DecidablePred W] {s s' d d' : Fin 256 → ℝ} (σ : ℝ) (hV : ∀ k, V k ↔ W k)
    (h : ∀ k, V k → s k = s' k) (hd : ∀ k, V k → d k = d' k) : dsc V s d σ = dsc W s' d' σ := by
  funext k
  by_cases hk : V k
  · unfold dsc; rw [mean_congr σ hV h hd, pr_congr σ hV h, hd k hk]
  · rw [dsc_of_not V s d σ hk, dsc_of_not W s' d' σ (fun w => hk ((hV k).mpr w))]
theorem dsk_congr {V W : Fin 256 → Prop} [DecidablePred V] [DecidablePred W] {s s' d d' : Fin 256 → ℝ} (σ : ℝ) (hV : ∀ k, V k ↔ W k)
    (h : ∀ k, V k → s k = s' k) (hd : ∀ k, V k → d k = d' k) : dsk V s d σ = dsk W s' d' σ := by
  unfold dsk; rw [mean_congr σ hV h hd, prSink_congr σ hV h]

/-! ## Extended reals -/

theorem coe_sum {ι : Type} (t : Finset ι) (f : ι → ℝ) : ((∑ i ∈ t, f i : ℝ) : EReal) = ∑ i ∈ t, (f i : EReal) := by
  classical
  induction t using Finset.induction_on with
  | empty => simp
  | insert a t h ih => rw [Finset.sum_insert h, Finset.sum_insert h, EReal.coe_add, ih]

/-- A maximum over a finite type, from minus infinity. -/
theorem fold_max_ne_top {n : ℕ} (x : Fin n → EReal) (h : ∀ k, x k ≠ ⊤) : Finset.fold max ⊥ x Finset.univ ≠ ⊤ := by
  have key : ∀ t : Finset (Fin n), Finset.fold max ⊥ x t ≠ ⊤ := by
    intro t
    induction t using Finset.induction_on with
    | empty => simp
    | insert a t ha ih =>
      rw [Finset.fold_insert ha]
      intro e
      rcases max_choice (x a) (Finset.fold max ⊥ x t) with h' | h' <;> rw [h'] at e
      · exact h a e
      · exact ih e
  exact key _
theorem le_fold_max {n : ℕ} (x : Fin n → EReal) (k : Fin n) : x k ≤ Finset.fold max ⊥ x Finset.univ := by
  have e : (Finset.univ : Finset (Fin n)) = insert k (Finset.univ.erase k) := (Finset.insert_erase (Finset.mem_univ k)).symm
  rw [e, Finset.fold_insert (Finset.notMem_erase k _)]
  exact le_max_left _ _

theorem exists_coe {x : EReal} (h1 : x ≠ ⊤) (h2 : x ≠ ⊥) : ∃ μ : ℝ, x = (μ : EReal) := ⟨x.toReal, (EReal.coe_toReal h1 h2).symm⟩

section
variable (V : Fin 256 → Prop) [DecidablePred V] (s : Fin 256 → ℝ)

/-- The masked scores. -/
def msk (k : Fin 256) : EReal := if V k then (s k : EReal) else ⊥

theorem msk_ne_top (k : Fin 256) : msk V s k ≠ ⊤ := by unfold msk; split <;> simp

theorem exp_msk (μ : ℝ) (k : Fin 256) : Ideal.exp (msk V s k - (μ : EReal)) = (ex V s μ k : EReal) := by
  unfold msk ex
  split
  · rw [← EReal.coe_sub, Ideal.exp_coe]
  · rw [EReal.bot_sub, Ideal.exp_bot, EReal.coe_zero]

/-- The largest masked score and the sink are a real number. -/
theorem exists_max (σ : ℝ) : ∃ μ : ℝ, max (Finset.fold max ⊥ (msk V s) Finset.univ) (σ : EReal) = (μ : EReal) := by
  apply exists_coe
  · intro e
    rcases max_choice (Finset.fold max ⊥ (msk V s) Finset.univ) (σ : EReal) with h | h <;> rw [h] at e
    · exact fold_max_ne_top _ (msk_ne_top V s) e
    · exact EReal.coe_ne_top σ e
  · exact ne_bot_of_le_ne_bot (EReal.coe_ne_bot σ) (le_max_right _ _)

/-- The masked scores with the sink after them. -/
def cat (σ : ℝ) (k : Fin 257) : EReal := if h : k.val < 256 then msk V s ⟨k.val, h⟩ else (σ : EReal)

theorem exists_max_cat (σ : ℝ) : ∃ μ : ℝ, max ⊥ (Finset.fold max ⊥ (cat V s σ) Finset.univ) = (μ : EReal) := by
  rw [max_eq_right bot_le]
  apply exists_coe
  · refine fold_max_ne_top _ fun k => ?_
    unfold cat; split
    · exact msk_ne_top V s _
    · exact EReal.coe_ne_top σ
  · refine ne_bot_of_le_ne_bot (EReal.coe_ne_bot σ) ?_
    exact (le_of_eq (by unfold cat; rw [dif_neg (by decide)])).trans (le_fold_max (cat V s σ) 256)

end

theorem div_coe {x y : ℝ} (h : y ≠ 0) : Ideal.div (x : EReal) (y : EReal) = ((x * y⁻¹ : ℝ) : EReal) := by
  unfold Ideal.div
  rw [if_neg (by simpa using h), EReal.coe_mul, EReal.coe_inv]
theorem one_div_coe {y : ℝ} (h : y ≠ 0) : Ideal.div 1 (y : EReal) = ((y⁻¹ : ℝ) : EReal) := by
  have e := div_coe (x := 1) h
  rwa [one_mul, EReal.coe_one] at e

/-! ## The row as a kernel computes it -/

section
variable (V : Fin 256 → Prop) [DecidablePred V] (s : Fin 256 → ℝ) (σ : ℝ)

theorem kernel_den (μ : ℝ) :
    Ideal.div 1 ((∑ k, Ideal.exp (msk V s k - (μ : EReal))) + Ideal.exp ((σ : EReal) - (μ : EReal))) = (((Zs V s σ μ)⁻¹ : ℝ) : EReal) := by
  simp only [exp_msk]
  rw [← EReal.coe_sub, Ideal.exp_coe, ← coe_sum, ← EReal.coe_add]
  exact one_div_coe (Zs_pos V s σ μ).ne'

theorem kernel_pr (k : Fin 256) :
    Ideal.exp (msk V s k - max (Finset.fold max ⊥ (msk V s) Finset.univ) (σ : EReal))
      * Ideal.div 1 ((∑ k, Ideal.exp (msk V s k - max (Finset.fold max ⊥ (msk V s) Finset.univ) (σ : EReal)))
        + Ideal.exp ((σ : EReal) - max (Finset.fold max ⊥ (msk V s) Finset.univ) (σ : EReal))) = (pr V s σ k : EReal) := by
  obtain ⟨μ, h⟩ := exists_max V s σ
  rw [h, kernel_den, exp_msk, ← EReal.coe_mul, pr_eq]

theorem kernel_prSink :
    Ideal.exp ((σ : EReal) - max (Finset.fold max ⊥ (msk V s) Finset.univ) (σ : EReal))
      * Ideal.div 1 ((∑ k, Ideal.exp (msk V s k - max (Finset.fold max ⊥ (msk V s) Finset.univ) (σ : EReal)))
        + Ideal.exp ((σ : EReal) - max (Finset.fold max ⊥ (msk V s) Finset.univ) (σ : EReal))) = (prSink V s σ : EReal) := by
  obtain ⟨μ, h⟩ := exists_max V s σ
  rw [h, kernel_den, ← EReal.coe_sub, Ideal.exp_coe, ← EReal.coe_mul, prSink_eq]

end

end Cert.Row

end
-- ==== Proof.Math.Model.lean ====
/- The attention's gradients over the reals: sixteen heads in two groups, blocks of 128 rows, each with a window of 256
   keys: the block before it and itself. The arrays are functions of a row's and a column's number. -/
module

public import proofs.«01_k».proof.Proof.Math.Row

@[expose] public section

noncomputable section

namespace Cert.Row

/-- The queries, the gradients of the outputs, the keys beside the values, the sinks. -/
structure Args where
  q : ℕ → ℕ → ℝ
  g : ℕ → ℕ → ℝ
  kv : ℕ → ℕ → ℝ
  σ : ℕ → ℝ

namespace Args

variable (I : Args)

/-- Row `r` of block `n` attends to key `k` of its window. -/
def Ok (n r : ℕ) (k : Fin 256) : Prop := r < k.val ∧ k.val ≤ r + 128 ∧ 128 ≤ 128 * n + k.val
instance (n r : ℕ) : DecidablePred (Ok n r) := fun k => by unfold Ok; infer_instance

/-- The windows' keys, zero before the first row. -/
def key (n g k d : ℕ) : ℝ := if 128 ≤ 128 * n + k then I.kv (128 * n + k - 128) (64 * g + d) else 0
/-- The windows' values. -/
def val (n g k d : ℕ) : ℝ := if 128 ≤ 128 * n + k then I.kv (128 * n + k - 128) (128 + 64 * g + d) else 0

/-- The scores of row `r` of block `n` at head `h`. -/
def sc (n h r : ℕ) (k : Fin 256) : ℝ := (∑ d : Fin 64, I.key n (h / 8) k.val d.val * I.q (128 * n + r) (64 * h + d.val)) * (1 / 8)
/-- The gradients of the probabilities. -/
def dp (n h r : ℕ) (k : Fin 256) : ℝ := ∑ d : Fin 64, I.g (128 * n + r) (64 * h + d.val) * I.val n (h / 8) k.val d.val

/-- The probabilities. -/
def P (n h r : ℕ) : Fin 256 → ℝ := pr (Ok n r) (I.sc n h r) (I.σ h)
/-- The gradients of the scores. -/
def D (n h r : ℕ) : Fin 256 → ℝ := dsc (Ok n r) (I.sc n h r) (I.dp n h r) (I.σ h)
/-- A row's gradient of the sink. -/
def E (n h r : ℕ) : ℝ := dsk (Ok n r) (I.sc n h r) (I.dp n h r) (I.σ h)

/-- The queries' gradients. -/
def dq (n h r d : ℕ) : ℝ := ∑ k : Fin 256, I.D n h r k * I.key n (h / 8) k.val d * (1 / 8)
/-- A window's gradients of its keys. -/
def dkw (n g : ℕ) (k : Fin 256) (d : ℕ) : ℝ :=
  ∑ a : Fin 8, ∑ r : Fin 128, I.D n (8 * g + a.val) r.val k * I.q (128 * n + r.val) (64 * (8 * g + a.val) + d) * (1 / 8)
/-- A window's gradients of its values. -/
def dvw (n g : ℕ) (k : Fin 256) (d : ℕ) : ℝ :=
  ∑ a : Fin 8, ∑ r : Fin 128, I.P n (8 * g + a.val) r.val k * I.g (128 * n + r.val) (64 * (8 * g + a.val) + d)
/-- A block's gradient of a sink. -/
def de (n h : ℕ) : ℝ := ∑ r : Fin 128, I.E n h r.val

/-- A block's row as the later half of its own window and the earlier half of the next one. -/
def fold (w : ℕ → ℕ → Fin 256 → ℕ → ℝ) (n g : ℕ) (r : Fin 128) (d : ℕ) : ℝ :=
  w n g ⟨128 + r.val, by omega⟩ d + if n < 31 then w (n + 1) g ⟨r.val, by omega⟩ d else 0

/-! ## The same as arrays -/

/-- The queries' gradients. -/
def outQ (t c : ℕ) : ℝ := I.dq (t / 128) (c / 64) (t % 128) (c % 64)
/-- The keys' gradients beside the values'. -/
def outKV (t c : ℕ) : ℝ :=
  if c < 128 then fold I.dkw (t / 128) (c / 64) ⟨t % 128, Nat.mod_lt _ (by decide)⟩ (c % 64)
  else fold I.dvw (t / 128) ((c - 128) / 64) ⟨t % 128, Nat.mod_lt _ (by decide)⟩ ((c - 128) % 64)
/-- The sinks' gradients. -/
def outS (c : ℕ) : ℝ := if c < 16 then ∑ n : Fin 32, I.de n.val c else 0

end Args

/-! ## The row as a softmax's derivative -/

section
variable (V : Fin 256 → Prop) [DecidablePred V] (s d : Fin 256 → ℝ) (σ μ : ℝ)

/-- The exponentials with the sink's after them. -/
def e257 (k : Fin 257) : ℝ := if h : k.val < 256 then ex V s μ ⟨k.val, h⟩ else Real.exp (σ - μ)
/-- The probabilities' gradients with a zero after them. -/
def d257 (k : Fin 257) : ℝ := if h : k.val < 256 then d ⟨k.val, h⟩ else 0

theorem sum_last (f : Fin 257 → ℝ) : ∑ k, f k = (∑ k : Fin 256, f ⟨k.val, by omega⟩) + f 256 := Fin.sum_univ_castSucc f

theorem sum_e257 : ∑ k, e257 V s σ μ k = Zs V s σ μ := by
  rw [sum_last]
  unfold Zs
  congr 1

theorem sum_d257 : (∑ k, d257 d k * (1 * (Zs V s σ μ * Zs V s σ μ)⁻¹) * e257 V s σ μ k) = (Zs V s σ μ)⁻¹ * mean V s d σ := by
  rw [sum_last, ← mean_eq]
  have h : d257 d 256 = 0 := by unfold d257; rw [dif_neg (by decide)]
  rw [h, zero_mul, zero_mul, add_zero]
  refine Finset.sum_congr rfl fun k _ => ?_
  unfold e257 d257; rw [dif_pos k.isLt, dif_pos k.isLt]

theorem exp_cat (k : Fin 257) : Idealize.ShloMosaic.Ideal.exp (cat V s σ k - (μ : EReal)) = (e257 V s σ μ k : EReal) := by
  unfold cat e257
  split
  · exact exp_msk V s μ _
  · rw [← EReal.coe_sub, Idealize.ShloMosaic.Ideal.exp_coe]

theorem e257_pr (k : Fin 256) : e257 V s σ μ ⟨k.val, by omega⟩ * (Zs V s σ μ)⁻¹ = pr V s σ k := by
  unfold e257; rw [dif_pos k.isLt]; exact pr_eq V s σ μ k

theorem e257_dsc (k : Fin 256) :
    (d257 d ⟨k.val, by omega⟩ * (Zs V s σ μ)⁻¹ + -((Zs V s σ μ)⁻¹ * mean V s d σ)) * e257 V s σ μ ⟨k.val, by omega⟩ = dsc V s d σ k := by
  unfold dsc
  rw [← pr_eq V s σ μ k]
  unfold e257 d257; rw [dif_pos k.isLt, dif_pos k.isLt]
  ring

theorem e257_dsk :
    (d257 d 256 * (Zs V s σ μ)⁻¹ + -((Zs V s σ μ)⁻¹ * mean V s d σ)) * e257 V s σ μ 256 = dsk V s d σ := by
  unfold dsk
  rw [← prSink_eq V s σ μ]
  unfold e257 d257; rw [dif_neg (by decide), dif_neg (by decide)]
  ring

end

end Cert.Row

end
-- ==== Proof.Math.Reduce.lean ====
/- The host's sums over some of six axes, read at an index. -/
module

public import Idealize.ShloMosaic.Lib.Pointwise
public import Idealize.ShloMosaic.Lib.ValueIdxRank6
public import Idealize.ShloMosaic.Lib.IdealHost

@[expose] public section

noncomputable section

namespace Cert.Reduce

open Idealize.ShloMosaic

variable {n0 n1 n2 n3 n4 n5 : ℕ}

/-- The indices that fall on one when the last axis is dropped. -/
theorem fiber5 (h : (⟨6, ![n0, n1, n2, n3, n4, n5]⟩ : Shape).ReducesTo [5] ⟨5, ![n0, n1, n2, n3, n4]⟩) (a : Fin n0) (b : Fin n1) (c : Fin n2)
    (d : Fin n3) (e : Fin n4) (i : (⟨6, ![n0, n1, n2, n3, n4, n5]⟩ : Shape).Idx) :
    h.drop i = ix5 a b c d e ↔ ∃ k : Fin n5, ix6 a b c d e k = i := by
  constructor
  · intro w
    refine ⟨i 5, ?_⟩
    funext x; apply Fin.ext
    match x with
    | ⟨0, _⟩ => exact (congrArg Fin.val (congrFun w 0)).symm
    | ⟨1, _⟩ => exact (congrArg Fin.val (congrFun w 1)).symm
    | ⟨2, _⟩ => exact (congrArg Fin.val (congrFun w 2)).symm
    | ⟨3, _⟩ => exact (congrArg Fin.val (congrFun w 3)).symm
    | ⟨4, _⟩ => exact (congrArg Fin.val (congrFun w 4)).symm
    | ⟨5, _⟩ => rfl
  · rintro ⟨k, rfl⟩
    funext x
    apply Fin.ext
    match x with
    | ⟨0, _⟩ => rfl
    | ⟨1, _⟩ => rfl
    | ⟨2, _⟩ => rfl
    | ⟨3, _⟩ => rfl
    | ⟨4, _⟩ => rfl

/-- A sum over the last axis. -/
theorem sum5 (h : (⟨6, ![n0, n1, n2, n3, n4, n5]⟩ : Shape).ReducesTo [5] ⟨5, ![n0, n1, n2, n3, n4]⟩) (v : (⟨6, ![n0, n1, n2, n3, n4, n5]⟩ : Shape).Idx → EReal)
    (z : EReal) (a : Fin n0) (b : Fin n1) (c : Fin n2) (d : Fin n3) (e : Fin n4) :
    Ideal.hostReduceAdd h v z (ix5 a b c d e) = z + ∑ k : Fin n5, v (ix6 a b c d e k) := by
  unfold Ideal.hostReduceAdd
  rw [Finset.sum_filter_eq_sum_of_fiber _ (fun k : Fin n5 => ix6 a b c d e k) (fun _ _ w => congrFun w 5) (fiber5 h a b c d e)]

/-- The host's fold over the indices that fall on one. -/
def foldAt {s t : Shape} {axes : List (Fin s.rank)} (h : s.ReducesTo axes t) {α : Type} (op : α → α → α) [Std.Commutative op] [Std.Associative op]
    (z : α) (v : s.Idx → α) (j : t.Idx) : α := (Finset.univ.filter fun i => h.drop i = j).fold op z v

theorem foldAt_eq {s t : Shape} {axes : List (Fin s.rank)} (h : s.ReducesTo axes t) {α κ : Type} [Fintype κ] (op : α → α → α) [Std.Commutative op]
    [Std.Associative op] (z : α) (v : s.Idx → α) (j : t.Idx) (g : κ → s.Idx) (hg : Function.Injective g) (hp : ∀ i, h.drop i = j ↔ ∃ k, g k = i) :
    foldAt h op z v j = (Finset.univ : Finset κ).fold op z (fun k => v (g k)) :=
  Finset.fold_filter_eq_fold_of_fiber op _ g hg hp z v

/-- A fold along the last axis. -/
theorem fold5 {α : Type} (op : α → α → α) [Std.Commutative op] [Std.Associative op]
    (h : (⟨6, ![n0, n1, n2, n3, n4, n5]⟩ : Shape).ReducesTo [5] ⟨5, ![n0, n1, n2, n3, n4]⟩) (v : (⟨6, ![n0, n1, n2, n3, n4, n5]⟩ : Shape).Idx → α)
    (z : α) (a : Fin n0) (b : Fin n1) (c : Fin n2) (d : Fin n3) (e : Fin n4) :
    foldAt h op z v (ix5 a b c d e) = (Finset.univ : Finset (Fin n5)).fold op z (fun k => v (ix6 a b c d e k)) :=
  foldAt_eq h op z v _ (fun k : Fin n5 => ix6 a b c d e k) (fun _ _ w => congrFun w 5) (fiber5 h a b c d e)

/-- The host's maximum along the last axis. -/
theorem max5 {u : Shape} (h : (⟨6, ![n0, n1, n2, n3, n4, n5]⟩ : Shape).ReducesTo [5] ⟨5, ![n0, n1, n2, n3, n4]⟩)
    (v : (⟨6, ![n0, n1, n2, n3, n4, n5]⟩ : Shape).Idx → EReal) (z : u.Idx → EReal) (hu : 0 < u.numel) (a : Fin n0) (b : Fin n1) (c : Fin n2) (d : Fin n3) (e : Fin n4) :
    Host.reduce max v z h hu (ix5 a b c d e) = (Finset.univ : Finset (Fin n5)).fold max (z (Shape.Idx.first hu)) (fun k => v (ix6 a b c d e k)) :=
  (Host.reduce_eq_fold max v z h hu _).trans (fold5 max h v _ a b c d e)

/-- A sum over the first and the last axis. -/
theorem sum05 (h : (⟨6, ![n0, n1, n2, n3, n4, n5]⟩ : Shape).ReducesTo [0, 5] ⟨4, ![n1, n2, n3, n4]⟩) (v : (⟨6, ![n0, n1, n2, n3, n4, n5]⟩ : Shape).Idx → EReal)
    (z : EReal) (b : Fin n1) (c : Fin n2) (d : Fin n3) (e : Fin n4) :
    Ideal.hostReduceAdd h v z (ix4 b c d e) = z + ∑ x : Fin n0 × Fin n5, v (ix6 x.1 b c d e x.2) := by
  unfold Ideal.hostReduceAdd
  rw [Finset.sum_filter_eq_sum_of_fiber _ (fun x : Fin n0 × Fin n5 => ix6 x.1 b c d e x.2) (fun x y w => Prod.ext (congrFun w 0) (congrFun w 5))]
  intro i
  constructor
  · intro w
    refine ⟨(i 0, i 5), ?_⟩
    funext x; apply Fin.ext
    match x with
    | ⟨0, _⟩ => rfl
    | ⟨1, _⟩ => exact (congrArg Fin.val (congrFun w 0)).symm
    | ⟨2, _⟩ => exact (congrArg Fin.val (congrFun w 1)).symm
    | ⟨3, _⟩ => exact (congrArg Fin.val (congrFun w 2)).symm
    | ⟨4, _⟩ => exact (congrArg Fin.val (congrFun w 3)).symm
    | ⟨5, _⟩ => rfl
  · rintro ⟨k, rfl⟩
    funext x
    apply Fin.ext
    match x with
    | ⟨0, _⟩ => rfl
    | ⟨1, _⟩ => rfl
    | ⟨2, _⟩ => rfl
    | ⟨3, _⟩ => rfl

/-- A sum over all axes but the third and the fourth. -/
theorem sum0145 (h : (⟨6, ![n0, n1, n2, n3, n4, n5]⟩ : Shape).ReducesTo [0, 1, 4, 5] ⟨2, ![n2, n3]⟩) (v : (⟨6, ![n0, n1, n2, n3, n4, n5]⟩ : Shape).Idx → EReal)
    (z : EReal) (c : Fin n2) (d : Fin n3) :
    Ideal.hostReduceAdd h v z (ix2 c d) = z + ∑ x : (Fin n0 × Fin n1) × Fin n4 × Fin n5, v (ix6 x.1.1 x.1.2 c d x.2.1 x.2.2) := by
  unfold Ideal.hostReduceAdd
  rw [Finset.sum_filter_eq_sum_of_fiber _ (fun x : (Fin n0 × Fin n1) × Fin n4 × Fin n5 => ix6 x.1.1 x.1.2 c d x.2.1 x.2.2)
    (fun x y w => Prod.ext (Prod.ext (congrFun w 0) (congrFun w 1)) (Prod.ext (congrFun w 4) (congrFun w 5)))]
  intro i
  constructor
  · intro w
    refine ⟨((i 0, i 1), i 4, i 5), ?_⟩
    funext x; apply Fin.ext
    match x with
    | ⟨0, _⟩ => rfl
    | ⟨1, _⟩ => rfl
    | ⟨2, _⟩ => exact (congrArg Fin.val (congrFun w 0)).symm
    | ⟨3, _⟩ => exact (congrArg Fin.val (congrFun w 1)).symm
    | ⟨4, _⟩ => rfl
    | ⟨5, _⟩ => rfl
  · rintro ⟨k, rfl⟩
    funext x
    apply Fin.ext
    match x with
    | ⟨0, _⟩ => rfl
    | ⟨1, _⟩ => rfl

end Cert.Reduce

end
-- ==== Proof.Math.RefRead.lean ====
/- The reference read at an index: its arguments, its windows and its mask, each the model's. -/
module

public import proofs.«01_k».proof.Proof.Gen.ReferenceIdeal.Run
public import proofs.«01_k».proof.Proof.Math.Model
public import proofs.«01_k».proof.Proof.Math.Reduce
public import Idealize.ShloMosaic.Lib.Tactic.WordOmega

@[expose] public section

set_option maxRecDepth 8192

noncomputable section

namespace Cert.ReferenceIdeal.Attn

open Cert.ReferenceIdeal Cert.ReferenceIdeal.Gen Cert.ReferenceIdeal.Value
open Idealize.ShloMosaic Idealize.ShloMosaic.TcCoe
open Cert.Row

/-- What the arguments' buffers hold, as real numbers. -/
structure Holds (L : Valuation τ sig (Elt Ideal)) (I : Args) : Prop where
  q : ∀ (t : Fin 4096) (c : Fin 1024), (L (Proc.devRef .tc main_arg0) : FVec Ideal S4096x1024 .bf16) (ix2 t c) = (I.q t.val c.val : EReal)
  kv : ∀ (t : Fin 4096) (c : Fin 256), (L (Proc.devRef .tc main_arg1) : FVec Ideal S4096x256 .bf16) (ix2 t c) = (I.kv t.val c.val : EReal)
  σ : ∀ c : Fin 16, (L (Proc.devRef .tc main_arg2) : FVec Ideal S1x16 .f32) (ix2 0 c) = (I.σ c.val : EReal)
  g : ∀ (t : Fin 4096) (c : Fin 1024), (L (Proc.devRef .tc main_arg3) : FVec Ideal S4096x1024 .bf16) (ix2 t c) = (I.g t.val c.val : EReal)

/-- How far a row is behind a key of its window. -/
theorem rel_int (r : Fin 128) (k : Fin 256) :
    (IntOp.subi (IntOp.addi (BitVec.ofNat 32 r.val) 128#32) (BitVec.ofNat 32 k.val)).toInt = (r.val : ℤ) + 128 - k.val := by
  simp only [IntOp.subi, IntOp.addi, BitVec.toInt_eq_toNat_cond, BitVec.toNat_sub, BitVec.toNat_add, BitVec.toNat_ofNat]
  omega
/-- The row of a window's key. -/
theorem pos_int (n : Fin 32) (k : Fin 256) :
    (IntOp.addi (IntOp.subi (IntOp.muli (BitVec.ofNat 32 n.val) 128#32) 128#32) (BitVec.ofNat 32 k.val)).toInt = 128 * (n.val : ℤ) - 128 + k.val := by
  simp only [IntOp.subi, IntOp.addi, IntOp.muli, BitVec.toInt_eq_toNat_cond, BitVec.toNat_sub, BitVec.toNat_add, BitVec.toNat_mul, BitVec.toNat_ofNat]
  omega

/-- The head's number. -/
abbrev hd (g : Fin 2) (a : Fin 8) : ℕ := 8 * g.val + a.val
theorem hd_div (g : Fin 2) (a : Fin 8) : hd g a / 8 = g.val := by unfold hd; omega

theorem eighth : Ideal.ofBits FTy.f32 1040187392#32 = ((1 / 8 : ℝ) : EReal) := by
  simp [Ideal.ofBits, Ideal.ieee, -EReal.coe_mul]; norm_num
theorem minus_inf : Ideal.ofBits FTy.f32 4286578688#32 = ⊥ := by
  simp [Ideal.ofBits, Ideal.ieee]

variable {L : Valuation τ sig (Elt Ideal)} {I : Args} (H : Holds L I)
include H

theorem v8_at (n : Fin 32) (r : Fin 128) (g : Fin 2) (a : Fin 8) (d : Fin 64) :
    (res_main_v8 L : FVec Ideal S1x32x128x2x8x64 .f32) (ix6 0 n r g a d) = (I.q (128 * n.val + r.val) (64 * hd g a + d.val) : EReal) := by
  pointwise [res_main_v8]
  rw [H.q]
  exact congrArg _ (congrArg₂ I.q (by show n.val * 128 + r.val = _; omega) (by show g.val * 512 + a.val * 64 + d.val = 64 * (8 * g.val + a.val) + d.val; omega))

theorem v99_at (n : Fin 32) (r : Fin 128) (g : Fin 2) (a : Fin 8) (d : Fin 64) :
    (res_main_v99 L : FVec Ideal S1x32x2x64x8x128 .f32) (ix6 0 n g d a r) = (I.g (128 * n.val + r.val) (64 * hd g a + d.val) : EReal) := by
  pointwise [res_main_v99]
  rw [H.g]
  exact congrArg _ (congrArg₂ I.g (by show n.val * 128 + r.val = _; omega) (by show g.val * 512 + a.val * 64 + d.val = 64 * (8 * g.val + a.val) + d.val; omega))

theorem v16_at (n : Fin 32) (k : Fin 256) (g : Fin 2) (d : Fin 64) :
    (res_main_v16 L : FVec Ideal S1x32x256x2x64 .f32) (ix5 0 n k g d) = (I.key n.val g.val k.val d.val : EReal) := by
  pointwise [res_main_v16, res_main_v9, res_main_v1]
  unfold Args.key
  by_cases h : k.val < 128
  · rw [dif_pos h]
    by_cases h0 : n.val < 1
    · rw [dif_pos h0]
      exact EReal.coe_zero.symm.trans (congrArg Real.toEReal (if_neg (by omega)).symm)
    · rw [dif_neg h0]
      refine (H.kv _ _).trans (congrArg Real.toEReal ?_)
      refine (congrArg₂ I.kv ?_ ?_).trans (if_pos (by omega)).symm
      · show (n.val - 1) * 128 + k.val = _; omega
      · show g.val * 64 + d.val = _; omega
  · rw [dif_neg h]
    refine (H.kv _ _).trans (congrArg Real.toEReal ?_)
    refine (congrArg₂ I.kv ?_ ?_).trans (if_pos (by omega)).symm
    · show n.val * 128 + (k.val - 128) = _; omega
    · show g.val * 64 + d.val = _; omega

theorem v22_at (n : Fin 32) (k : Fin 256) (g : Fin 2) (d : Fin 64) :
    (res_main_v22 L : FVec Ideal S1x32x256x2x64 .f32) (ix5 0 n k g d) = (I.val n.val g.val k.val d.val : EReal) := by
  pointwise [res_main_v22, res_main_v10, res_main_v1]
  unfold Args.val
  by_cases h : k.val < 128
  · rw [dif_pos h]
    by_cases h0 : n.val < 1
    · rw [dif_pos h0]
      exact EReal.coe_zero.symm.trans (congrArg Real.toEReal (if_neg (by omega)).symm)
    · rw [dif_neg h0]
      refine (H.kv _ _).trans (congrArg Real.toEReal ?_)
      refine (congrArg₂ I.kv ?_ ?_).trans (if_pos (by omega)).symm
      · show (n.val - 1) * 128 + k.val = _; omega
      · show 128 + (g.val * 64 + d.val) = _; omega
  · rw [dif_neg h]
    refine (H.kv _ _).trans (congrArg Real.toEReal ?_)
    refine (congrArg₂ I.kv ?_ ?_).trans (if_pos (by omega)).symm
    · show n.val * 128 + (k.val - 128) = _; omega
    · show 128 + (g.val * 64 + d.val) = _; omega

omit H in
theorem v59_at (n : Fin 32) (r : Fin 128) (g : Fin 2) (a : Fin 8) (k : Fin 256) :
    (res_main_v59_1 L : IVec S1x32x2x8x128x256 1) (ix6 0 n g a r k) = 1#1 ↔ Args.Ok n.val r.val k := by
  pointwise [res_main_v59_1, res_main_v35, res_main_v30]
  unfold Args.Ok
  rw [WordCmp.cmpi_sge_eq, WordCmp.cmpi_slt_eq, WordCmp.cmpi_sge_eq, rel_int, pos_int]
  rw [WordCmp.andi_ofBool, ← Bool.decide_and, WordCmp.andi_ofBool, ← Bool.decide_and, WordCmp.ofBool_decide_eq_one_iff]
  show (((0 : ℤ) ≤ _ ∧ _ < (128 : ℤ)) ∧ (0 : ℤ) ≤ _) ↔ _
  omega

omit H in
theorem select_at {α : Type} (x y : α) (n : Fin 32) (r : Fin 128) (g : Fin 2) (a : Fin 8) (k : Fin 256) :
    Scalar.select ((res_main_v59_1 L : IVec S1x32x2x8x128x256 1) (ix6 0 n g a r k)) x y = if Args.Ok n.val r.val k then x else y :=
  if_congr (v59_at n r g a k) rfl rfl

end Cert.ReferenceIdeal.Attn

end
-- ==== Proof.Math.RefOps.lean ====
/- The reference's operations read at an index, over any arrays. -/
module

public import proofs.«01_k».proof.Proof.Math.RefRead

@[expose] public section

set_option maxRecDepth 8192
set_option maxHeartbeats 100000

noncomputable section

namespace Cert.ReferenceIdeal.Attn

open Cert.ReferenceIdeal Cert.ReferenceIdeal.Gen Cert.ReferenceIdeal.Value
open Idealize.ShloMosaic Idealize.ShloMosaic.TcCoe
open Cert.Row

section
variable (n : Fin 32) (r : Fin 128) (g : Fin 2) (a : Fin 8)

theorem expo_at (x : FVec Ideal S1x32x2x8x128x257 .f32) (y : FVec Ideal S1x32x2x8x128 .f32) (k : Fin 257) :
    (Host.exp (subf x (broadcastInDim S1x32x2x8x128x257 ![0, 1, 2, 3, 4, 5] bcast_S1x32x2x8x128x1_S1x32x2x8x128x257_0_1_2_3_4_5
      (broadcastInDim S1x32x2x8x128x1 ![0, 1, 2, 3, 4] bcast_S1x32x2x8x128_S1x32x2x8x128x1_0_1_2_3_4
        (maximumf (broadcastInDim S1x32x2x8x128 ![] bcast_S_S1x32x2x8x128 (constant S_ .f32 0xFF800000#32)) y)))) : FVec Ideal S1x32x2x8x128x257 .f32) (ix6 0 n g a r k)
      = Ideal.exp ((x (ix6 0 n g a r k) : EReal) - max ⊥ (y (ix5 0 n g a r) : EReal)) := by
  pointwise
  rw [minus_inf]

theorem total_at (x : FVec Ideal S1x32x2x8x128x257 .f32) :
    (broadcastInDim S1x32x2x8x128x1 ![0, 1, 2, 3, 4] bcast_S1x32x2x8x128_S1x32x2x8x128x1_0_1_2_3_4
      (Host.reduceAdd x (constant S_ .f32 0x00000000#32) reducesTo_S1x32x2x8x128x257_S1x32x2x8x128_d5 h_S_) : FVec Ideal S1x32x2x8x128x1 .f32) (ix6 0 n g a r 0)
      = ∑ k : Fin 257, (x (ix6 0 n g a r k) : EReal) := by
  pointwise
  exact (Reduce.sum5 _ _ _ 0 n g a r).trans (zero_add _)

theorem prob_at (e : FVec Ideal S1x32x2x8x128x257 .f32) (w : FVec Ideal S1x32x2x8x128x1 .f32) (k : Fin 256) :
    (extractStridedSlice S1x32x2x8x128x256 ![0, 0, 0, 0, 0, 0] (Host.divf e
      (broadcastInDim S1x32x2x8x128x257 ![0, 1, 2, 3, 4, 5] bcast_S1x32x2x8x128x1_S1x32x2x8x128x257_0_1_2_3_4_5 w))
      slices_S1x32x2x8x128x257_S1x32x2x8x128x256_0_0_0_0_0_0 : FVec Ideal S1x32x2x8x128x256 .f32) (ix6 0 n g a r k)
      = Ideal.div (e (ix6 0 n g a r ⟨k.val, by omega⟩)) (w (ix6 0 n g a r 0)) := by
  pointwise

theorem pad_dot_at (x : FVec Ideal S1x32x2x64x8x128 .f32) (y : FVec Ideal S1x32x256x2x64 .f32) (k : Fin 257) :
    (pad S1x32x2x8x128x257 ![0, 0, 0, 0, 0, 0] ![0, 0, 0, 0, 0, 1] ![0, 0, 0, 0, 0, 0]
      (Host.dotGeneral (φ₁ := .f32) (φ₂ := .f32) dot_S1x32x2x64x8x128_S1x32x256x2x64_S1x32x2x8x128x256_3_4_45_2_012_013 none x y) (constant S_ .f32 0x00000000#32)
      pads_S1x32x2x8x128x256_S1x32x2x8x128x257_000_000_000_000_000_010 h_S_ : FVec Ideal S1x32x2x8x128x257 .f32) (ix6 0 n g a r k)
      = if h : k.val < 256 then ∑ d : Fin 64, (x (ix6 0 n g d a r) : EReal) * (y (ix5 0 n ⟨k.val, h⟩ g d) : EReal) else 0 := by
  pointwise

theorem neg_mean_at (c e : FVec Ideal S1x32x2x8x128x257 .f32) (w : FVec Ideal S1x32x2x8x128x1 .f32) :
    (Host.negf (shapeCast _ (Host.reduceAdd (mulf (mulf c (broadcastInDim S1x32x2x8x128x257 ![0, 1, 2, 3, 4, 5] bcast_S1x32x2x8x128x1_S1x32x2x8x128x257_0_1_2_3_4_5
      (Host.divf (broadcastInDim S1x32x2x8x128x1 ![] bcast_S_S1x32x2x8x128x1 (constant S_ .f32 0x3F800000#32)) (mulf w w)))) e)
      (constant S_ .f32 0x00000000#32) reducesTo_S1x32x2x8x128x257_S1x32x2x8x128_d5 h_S_) shapeCasts_S1x32x2x8x128_S1x32x2x8x128x1) : FVec Ideal S1x32x2x8x128x1 .f32) (ix6 0 n g a r 0)
      = -(∑ k : Fin 257, (c (ix6 0 n g a r k) : EReal) * Ideal.div 1 ((w (ix6 0 n g a r 0) : EReal) * (w (ix6 0 n g a r 0) : EReal)) * (e (ix6 0 n g a r k) : EReal)) := by
  pointwise
  refine congrArg (fun x : EReal => -x) ((Reduce.sum5 _ _ _ 0 n g a r).trans ((zero_add _).trans (Finset.sum_congr rfl fun k _ => ?_)))
  pointwise

theorem comb_at (c e : FVec Ideal S1x32x2x8x128x257 .f32) (w z : FVec Ideal S1x32x2x8x128x1 .f32) (k : Fin 257) :
    (mulf (addf (Host.divf c (broadcastInDim S1x32x2x8x128x257 ![0, 1, 2, 3, 4, 5] bcast_S1x32x2x8x128x1_S1x32x2x8x128x257_0_1_2_3_4_5 w))
      (broadcastInDim S1x32x2x8x128x257 ![0, 1, 2, 3, 4] bcast_S1x32x2x8x128_S1x32x2x8x128x257_0_1_2_3_4 (broadcastInDim S1x32x2x8x128 ![1, 2, 3, 4] bcast_S32x2x8x128_S1x32x2x8x128_1_2_3_4
        (Host.reduceAdd z (constant S_ .f32 0x00000000#32) reducesTo_S1x32x2x8x128x1_S32x2x8x128_d0_5 h_S_)))) e : FVec Ideal S1x32x2x8x128x257 .f32) (ix6 0 n g a r k)
      = (Ideal.div (c (ix6 0 n g a r k)) (w (ix6 0 n g a r 0)) + (z (ix6 0 n g a r 0) : EReal)) * (e (ix6 0 n g a r k) : EReal) := by
  pointwise
  refine congrArg (fun s : EReal => (Ideal.div (c (ix6 0 n g a r k)) (w (ix6 0 n g a r 0)) + s) * (e (ix6 0 n g a r k) : EReal))
    ((Reduce.sum05 _ _ _ n g a r).trans ((zero_add _).trans ?_))
  exact (Fintype.sum_prod_type _).trans ((Fin.sum_univ_one _).trans (Fin.sum_univ_one _))

theorem sel_at (v : IVec S1x32x2x8x128x256 1) (x : FVec Ideal S1x32x2x8x128x257 .f32) (k : Fin 256) :
    (transpose S1x32x2x256x128x8 [0, 1, 2, 5, 4, 3] (mulf (select v (extractStridedSlice S1x32x2x8x128x256 ![0, 0, 0, 0, 0, 0] x slices_S1x32x2x8x128x257_S1x32x2x8x128x256_0_0_0_0_0_0)
      (broadcastInDim S1x32x2x8x128x256 ![] bcast_S_S1x32x2x8x128x256 (constant S_ .f32 0x00000000#32)))
      (broadcastInDim S1x32x2x8x128x256 ![] bcast_S_S1x32x2x8x128x256 (constant S_ .f32 0x3E000000#32))) transposes_S1x32x2x8x128x256_S1x32x2x256x128x8_0_1_2_5_4_3
      : FVec Ideal S1x32x2x256x128x8 .f32) (ix6 0 n g k r a)
      = Scalar.select (v (ix6 0 n g a r k)) (x (ix6 0 n g a r ⟨k.val, by omega⟩) : EReal) 0 * ((1 / 8 : ℝ) : EReal) := by
  pointwise
  rw [eighth]

theorem dv_at (x : FVec Ideal S1x32x2x64x8x128 .f32) (y : FVec Ideal S1x32x2x8x128x256 .f32) (k : Fin 256) (d : Fin 64) :
    (transpose S1x32x256x2x64 [0, 1, 4, 2, 3] (Host.dotGeneral (φ₁ := .f32) (φ₂ := .f32) dot_S1x32x2x64x8x128_S1x32x2x8x128x256_S1x32x2x64x256_45_34_3_5_012_012 none x y)
      transposes_S1x32x2x64x256_S1x32x256x2x64_0_1_4_2_3 : FVec Ideal S1x32x256x2x64 .f32) (ix5 0 n k g d)
      = ∑ a : Fin 8, ∑ r : Fin 128, (x (ix6 0 n g d a r) : EReal) * (y (ix6 0 n g a r k) : EReal) := by
  pointwise

theorem dk_at (x : FVec Ideal S1x32x2x256x128x8 .f32) (y : FVec Ideal S1x32x128x2x8x64 .f32) (k : Fin 256) (d : Fin 64) :
    (transpose S1x32x256x2x64 [0, 1, 3, 2, 4] (Host.dotGeneral (φ₁ := .f32) (φ₂ := .f32) dot_S1x32x2x256x128x8_S1x32x128x2x8x64_S1x32x2x256x64_45_24_3_5_012_013 none x y)
      transposes_S1x32x2x256x64_S1x32x256x2x64_0_1_3_2_4 : FVec Ideal S1x32x256x2x64 .f32) (ix5 0 n k g d)
      = ∑ r : Fin 128, ∑ a : Fin 8, (x (ix6 0 n g k r a) : EReal) * (y (ix6 0 n r g a d) : EReal) := by
  pointwise
end

/-- The queries' gradients. -/
theorem outQ_at (x : FVec Ideal S1x32x2x256x128x8 .f32) (y : FVec Ideal S1x32x256x2x64 .f32) (t : Fin 4096) (c : Fin 1024) :
    (truncf .bf16 (Host.reduceAdd (shapeCast _ (transpose S1x32x128x2x8x64 [0, 1, 3, 2, 4, 5] (Host.dotGeneral (φ₁ := .f32) (φ₂ := .f32) dot_S1x32x2x256x128x8_S1x32x256x2x64_S1x32x2x128x8x64_3_2_45_4_012_013 none x y) transposes_S1x32x2x128x8x64_S1x32x128x2x8x64_0_1_3_2_4_5) shapeCasts_S1x32x128x2x8x64_S1x4096x1024) (constant S_ .f32 0x00000000#32) reducesTo_S1x4096x1024_S4096x1024_d0 h_S_) bitsLt_bf16_f32 : FVec Ideal S4096x1024 .bf16) (ix2 t c)
      = ∑ k : Fin 256, (x (ix6 0 ⟨t.val / 128, by omega⟩ ⟨c.val / 512, by omega⟩ k ⟨t.val % 128, by omega⟩ ⟨c.val / 64 % 8, by omega⟩) : EReal)
        * (y (ix5 0 ⟨t.val / 128, by omega⟩ k ⟨c.val / 512, by omega⟩ ⟨c.val % 64, by omega⟩) : EReal) := by
  pointwise
  exact Fin.sum_univ_one _

/-- A row's two shares, one from each window. -/
theorem half_at (x : FVec Ideal S1x32x256x2x64 .f32) (t : Fin 4096) (c : Fin 128) :
    (Host.reduceAdd (shapeCast _ (addf (extractStridedSlice S1x32x128x2x64 ![0, 0, 128, 0, 0] x slices_S1x32x256x2x64_S1x32x128x2x64_0_0_128_0_0) (pad S1x32x128x2x64 ![0, 0, 0, 0, 0] ![0, 1, 0, 0, 0] ![0, 0, 0, 0, 0] (extractStridedSlice S1x31x128x2x64 ![0, 1, 0, 0, 0] (extractStridedSlice S1x32x128x2x64 ![0, 0, 0, 0, 0] x slices_S1x32x256x2x64_S1x32x128x2x64_0_0_0_0_0) slices_S1x32x128x2x64_S1x31x128x2x64_0_1_0_0_0) (constant S_ .f32 0x00000000#32) pads_S1x31x128x2x64_S1x32x128x2x64_000_010_000_000_000 h_S_)) shapeCasts_S1x32x128x2x64_S1x4096x128) (constant S_ .f32 0x00000000#32) reducesTo_S1x4096x128_S4096x128_d0 h_S_ : FVec Ideal S4096x128 .f32) (ix2 t c)
      = (x (ix5 0 ⟨t.val / 128, by omega⟩ ⟨128 + t.val % 128, by omega⟩ ⟨c.val / 64, by omega⟩ ⟨c.val % 64, by omega⟩) : EReal)
        + if h : t.val / 128 < 31 then (x (ix5 0 ⟨1 + t.val / 128, by omega⟩ ⟨t.val % 128, by omega⟩ ⟨c.val / 64, by omega⟩ ⟨c.val % 64, by omega⟩) : EReal) else 0 := by
  pointwise
  refine (Fin.sum_univ_one _).trans ?_
  refine congrArg (fun z : EReal => _ + z) (dite_congr (propext ⟨fun w => w.1, fun h => ⟨h, by omega, by omega, by omega⟩⟩) (fun _ => rfl) (fun _ => rfl))

/-- Two halves side by side. -/
theorem beside_at (x y : FVec Ideal S4096x128 .f32) (t : Fin 4096) (c : Fin 256) :
    (truncf .bf16 (concatenate S4096x256 1 [⟨S4096x128, x⟩, ⟨S4096x128, y⟩] concatenates_S4096x128_S4096x128_S4096x256_d1) bitsLt_bf16_f32 : FVec Ideal S4096x256 .bf16) (ix2 t c)
      = if h : c.val < 128 then (x (ix2 t ⟨c.val, h⟩) : EReal) else (y (ix2 t ⟨c.val - 128, by omega⟩) : EReal) := by
  pointwise

/-- The sinks' gradients, zeros after them. -/
theorem outS_at (x : FVec Ideal S1x32x2x8x128x257 .f32) (c : Fin 128) :
    (pad S1x128 ![0, 0] ![0, 112] ![0, 0] (broadcastInDim S1x16 ![1] bcast_S16_S1x16_1 (shapeCast _ (broadcastInDim S1x1x2x8x1x1 ![2, 3] bcast_S2x8_S1x1x2x8x1x1_2_3 (Host.reduceAdd (extractStridedSlice S1x32x2x8x128x1 ![0, 0, 0, 0, 0, 256] x slices_S1x32x2x8x128x257_S1x32x2x8x128x1_0_0_0_0_0_256) (constant S_ .f32 0x00000000#32) reducesTo_S1x32x2x8x128x1_S2x8_d0_1_4_5 h_S_)) shapeCasts_S1x1x2x8x1x1_S16)) (sitofp .f32 (constantI S_ 32 0#32)) pads_S1x16_S1x128_000_01120 h_S_ : FVec Ideal S1x128 .f32) (ix2 0 c)
      = if h : c.val < 16 then ∑ n : Fin 32, ∑ r : Fin 128, (x (ix6 0 n ⟨c.val / 8, by omega⟩ ⟨c.val % 8, by omega⟩ r 256) : EReal) else 0 := by
  pointwise
  by_cases h : c.val < 16
  · rw [dif_pos h, dif_pos h]
    refine (Reduce.sum0145 _ _ _ _ _).trans ((zero_add _).trans ?_)
    refine (Fintype.sum_prod_type _).trans ((Fintype.sum_prod_type _).trans ((Fin.sum_univ_one _).trans (Finset.sum_congr rfl fun n _ => ?_)))
    refine (Fintype.sum_prod_type _).trans (Finset.sum_congr rfl fun r _ => (Fin.sum_univ_one _).trans ?_)
    pointwise
  · rw [dif_neg h, dif_neg h]
    simp [FloatOps.sitofp]

end Cert.ReferenceIdeal.Attn

end
-- ==== Proof.Math.RefRow.lean ====
/- The reference's scores, probabilities and their gradients read at an index, each the model's. -/
module

public import proofs.«01_k».proof.Proof.Math.RefOps

@[expose] public section

set_option maxRecDepth 8192
set_option maxHeartbeats 100000

noncomputable section

namespace Cert.ReferenceIdeal.Attn

open Cert.ReferenceIdeal Cert.ReferenceIdeal.Gen Cert.ReferenceIdeal.Value
open Idealize.ShloMosaic Idealize.ShloMosaic.TcCoe
open Cert.Row

variable {L : Valuation τ sig (Elt Ideal)} {I : Args} (H : Holds L I)
include H

theorem v62_at (n : Fin 32) (r : Fin 128) (g : Fin 2) (a : Fin 8) (k : Fin 257) :
    (res_main_v62 L : FVec Ideal S1x32x2x8x128x257 .f32) (ix6 0 n g a r k) = cat (Args.Ok n.val r.val) (I.sc n.val (hd g a) r.val) (I.σ (hd g a)) k := by
  pointwise [res_main_v62]
  unfold cat
  by_cases h : k.val < 256
  · rw [dif_pos h, dif_pos h, eighth]
    refine (select_at _ _ n r g a ⟨k.val, h⟩).trans (if_congr Iff.rfl ?_ ?_)
    · unfold Args.sc
      rw [EReal.coe_mul, coe_sum]
      refine congrArg (· * ((1 / 8 : ℝ) : EReal)) (Finset.sum_congr rfl fun d _ => ?_)
      refine (congrArg₂ (fun x y : EReal => x * y) (v16_at H n ⟨k.val, h⟩ g d) (v8_at H n r g a d)).trans ((EReal.coe_mul _ _).symm.trans (congrArg Real.toEReal ?_))
      rw [hd_div]
    · exact minus_inf
  · rw [dif_neg h, dif_neg h]
    refine (H.σ _).trans (congrArg Real.toEReal (congrArg I.σ ?_))
    show g.val * 8 + a.val = 8 * g.val + a.val; omega

omit H in
theorem v63_at (n : Fin 32) (r : Fin 128) (g : Fin 2) (a : Fin 8) : (res_main_v63 L : FVec Ideal S1x32x2x8x128 .f32) (ix5 0 n g a r)
    = Finset.fold max (⊥ : EReal) (fun k : Fin 257 => (res_main_v62 L : FVec Ideal S1x32x2x8x128x257 .f32) (ix6 0 n g a r k)) Finset.univ := by
  delta res_main_v63
  refine (Reduce.max5 _ _ _ _ 0 n g a r).trans ?_
  refine congrArg (fun z => Finset.fold max z _ _) ?_
  exact minus_inf

/-- The exponentials, shifted by some real number, and their sum. -/
theorem row_at (n : Fin 32) (r : Fin 128) (g : Fin 2) (a : Fin 8) : ∃ μ : ℝ,
    (∀ k : Fin 257, (res_main_v83 L : FVec Ideal S1x32x2x8x128x257 .f32) (ix6 0 n g a r k)
      = (e257 (Args.Ok n.val r.val) (I.sc n.val (hd g a) r.val) (I.σ (hd g a)) μ k : EReal))
    ∧ (res_main_v85 L : FVec Ideal S1x32x2x8x128x1 .f32) (ix6 0 n g a r 0) = (Zs (Args.Ok n.val r.val) (I.sc n.val (hd g a) r.val) (I.σ (hd g a)) μ : EReal) := by
  obtain ⟨μ, h⟩ := exists_max_cat (Args.Ok n.val r.val) (I.sc n.val (hd g a) r.val) (I.σ (hd g a))
  have e : ∀ k : Fin 257, (res_main_v83 L : FVec Ideal S1x32x2x8x128x257 .f32) (ix6 0 n g a r k)
      = (e257 (Args.Ok n.val r.val) (I.sc n.val (hd g a) r.val) (I.σ (hd g a)) μ k : EReal) := fun k => by
    have w := (v63_at n r g a).trans (congrArg (fun v : Fin 257 → EReal => Finset.fold max (⊥ : EReal) v (Finset.univ : Finset (Fin 257))) (funext fun k => v62_at H n r g a k))
    delta res_main_v83
    refine (expo_at n r g a (res_main_v62 L) (res_main_v63 L) k).trans ?_
    refine (congrArg₂ (fun x y : EReal => Ideal.exp (x - max ⊥ y)) (v62_at H n r g a k) w).trans ?_
    exact (congrArg (fun y : EReal => Ideal.exp (_ - y)) h).trans (exp_cat _ _ _ _ _)
  refine ⟨μ, e, ?_⟩
  delta res_main_v85
  refine (total_at n r g a (res_main_v83 L)).trans ((Finset.sum_congr (M := EReal) rfl fun k _ => e k).trans ?_)
  rw [← coe_sum, sum_e257]

theorem v91_at (n : Fin 32) (r : Fin 128) (g : Fin 2) (a : Fin 8) (k : Fin 256) :
    (res_main_v91 L : FVec Ideal S1x32x2x8x128x256 .f32) (ix6 0 n g a r k) = (I.P n.val (hd g a) r.val k : EReal) := by
  obtain ⟨μ, he, hz⟩ := row_at H n r g a
  delta res_main_v91
  refine (prob_at n r g a (res_main_v83 L) (res_main_v85 L) k).trans ((congrArg₂ Ideal.div (he _) hz).trans ?_)
  rw [div_coe (Zs_pos _ _ _ _).ne', e257_pr]
  rfl

theorem v103_at (n : Fin 32) (r : Fin 128) (g : Fin 2) (a : Fin 8) (k : Fin 257) :
    (res_main_v103 L : FVec Ideal S1x32x2x8x128x257 .f32) (ix6 0 n g a r k) = (d257 (I.dp n.val (hd g a) r.val) k : EReal) := by
  delta res_main_v103
  refine (pad_dot_at n r g a (res_main_v99 L) (res_main_v22 L) k).trans ?_
  unfold d257
  by_cases h : k.val < 256
  · rw [dif_pos h, dif_pos h]
    unfold Args.dp
    rw [coe_sum]
    refine Finset.sum_congr rfl fun d _ => ?_
    refine (congrArg₂ (fun x y : EReal => x * y) (v99_at H n r g a d) (v22_at H n ⟨k.val, h⟩ g d)).trans ((EReal.coe_mul _ _).symm.trans (congrArg Real.toEReal ?_))
    rw [hd_div]
  · rw [dif_neg h, dif_neg h, EReal.coe_zero]

omit H in
/-- The gradients of a row's scores, from what the reference has in hand. -/
theorem comb_coe (V : Fin 256 → Prop) [DecidablePred V] (s d : Fin 256 → ℝ) (σ μ : ℝ) (c e : Fin 257 → EReal) (w : EReal)
    (hc : ∀ k, c k = (d257 d k : EReal)) (he : ∀ k, e k = (e257 V s σ μ k : EReal)) (hw : w = (Zs V s σ μ : EReal)) (k : Fin 257) :
    (Ideal.div (c k) w + -(∑ k, c k * Ideal.div 1 (w * w) * e k)) * e k
      = (((d257 d k * (Zs V s σ μ)⁻¹ + -((Zs V s σ μ)⁻¹ * mean V s d σ)) * e257 V s σ μ k : ℝ) : EReal) := by
  have hZ := (Zs_pos V s σ μ).ne'
  have h1 : Ideal.div 1 (w * w) = ((1 * (Zs V s σ μ * Zs V s σ μ)⁻¹ : ℝ) : EReal) := by
    rw [hw, ← EReal.coe_mul]
    exact div_coe (x := 1) (mul_ne_zero hZ hZ)
  rw [h1, hw]
  simp only [hc, he]
  rw [div_coe hZ]
  simp only [← EReal.coe_mul]
  rw [← coe_sum, sum_d257, ← EReal.coe_neg, ← EReal.coe_add, ← EReal.coe_mul]

/-- The gradients of the scores, the sink's last. -/
theorem v116_at (n : Fin 32) (r : Fin 128) (g : Fin 2) (a : Fin 8) : ∃ μ : ℝ, ∀ k : Fin 257,
    (res_main_v116 L : FVec Ideal S1x32x2x8x128x257 .f32) (ix6 0 n g a r k)
      = (((d257 (I.dp n.val (hd g a) r.val) k * (Zs (Args.Ok n.val r.val) (I.sc n.val (hd g a) r.val) (I.σ (hd g a)) μ)⁻¹
          + -((Zs (Args.Ok n.val r.val) (I.sc n.val (hd g a) r.val) (I.σ (hd g a)) μ)⁻¹ * mean (Args.Ok n.val r.val) (I.sc n.val (hd g a) r.val) (I.dp n.val (hd g a) r.val) (I.σ (hd g a))))
          * e257 (Args.Ok n.val r.val) (I.sc n.val (hd g a) r.val) (I.σ (hd g a)) μ k : ℝ) : EReal) := by
  obtain ⟨μ, he, hz⟩ := row_at H n r g a
  refine ⟨μ, fun k => ?_⟩
  delta res_main_v116
  refine (comb_at n r g a (res_main_v103 L) (res_main_v83 L) (res_main_v85 L) _ k).trans ?_
  refine (congrArg (fun s : EReal => (Ideal.div _ _ + s) * _) (neg_mean_at n r g a (res_main_v103 L) (res_main_v83 L) (res_main_v85 L))).trans ?_
  exact comb_coe _ _ _ _ _ _ _ _ (fun k => v103_at H n r g a k) he hz k

theorem v116_row (n : Fin 32) (r : Fin 128) (g : Fin 2) (a : Fin 8) (k : Fin 256) :
    (res_main_v116 L : FVec Ideal S1x32x2x8x128x257 .f32) (ix6 0 n g a r ⟨k.val, by omega⟩) = (I.D n.val (hd g a) r.val k : EReal) := by
  obtain ⟨μ, h⟩ := v116_at H n r g a
  exact (h _).trans (congrArg Real.toEReal (e257_dsc _ _ _ _ _ _))

theorem v116_sink (n : Fin 32) (r : Fin 128) (g : Fin 2) (a : Fin 8) :
    (res_main_v116 L : FVec Ideal S1x32x2x8x128x257 .f32) (ix6 0 n g a r 256) = (I.E n.val (hd g a) r.val : EReal) := by
  obtain ⟨μ, h⟩ := v116_at H n r g a
  exact (h _).trans (congrArg Real.toEReal (e257_dsk _ _ _ _ _))

theorem v125_at (n : Fin 32) (r : Fin 128) (g : Fin 2) (a : Fin 8) (k : Fin 256) :
    (res_main_v125 L : FVec Ideal S1x32x2x256x128x8 .f32) (ix6 0 n g k r a) = ((I.D n.val (hd g a) r.val k * (1 / 8) : ℝ) : EReal) := by
  delta res_main_v125
  refine (sel_at n r g a (res_main_v59_1 L) (res_main_v116 L) k).trans ?_
  refine Eq.trans ?_ (EReal.coe_mul _ _).symm
  refine congrArg (fun x : EReal => x * ((1 / 8 : ℝ) : EReal)) ?_
  refine (select_at _ _ n r g a k).trans ?_
  by_cases h : Args.Ok n.val r.val k
  · exact (if_pos h).trans (v116_row H n r g a k)
  · refine (if_neg h).trans (EReal.coe_zero.symm.trans (congrArg Real.toEReal ?_))
    exact (dsc_of_not _ _ _ _ h).symm

theorem v102_at (n : Fin 32) (g : Fin 2) (k : Fin 256) (d : Fin 64) :
    (res_main_v102 L : FVec Ideal S1x32x256x2x64 .f32) (ix5 0 n k g d) = (I.dvw n.val g.val k d.val : EReal) := by
  delta res_main_v102
  refine (dv_at n g (res_main_v99 L) (res_main_v91 L) k d).trans ?_
  unfold Args.dvw
  rw [coe_sum]
  refine Finset.sum_congr rfl fun a _ => ?_
  rw [coe_sum]
  refine Finset.sum_congr rfl fun r _ => ?_
  refine (congrArg₂ (fun x y : EReal => x * y) (v99_at H n r g a d) (v91_at H n r g a k)).trans ((EReal.coe_mul _ _).symm.trans (congrArg Real.toEReal ?_))
  exact mul_comm _ _

theorem v129_at (n : Fin 32) (g : Fin 2) (k : Fin 256) (d : Fin 64) :
    (res_main_v129 L : FVec Ideal S1x32x256x2x64 .f32) (ix5 0 n k g d) = (I.dkw n.val g.val k d.val : EReal) := by
  delta res_main_v129
  refine (dk_at n g (res_main_v125 L) (res_main_v8 L) k d).trans (Finset.sum_comm.trans ?_)
  unfold Args.dkw
  rw [coe_sum]
  refine Finset.sum_congr rfl fun a _ => ?_
  rw [coe_sum]
  refine Finset.sum_congr rfl fun r _ => ?_
  refine (congrArg₂ (fun x y : EReal => x * y) (v125_at H n r g a k) (v8_at H n r g a d)).trans ((EReal.coe_mul _ _).symm.trans (congrArg Real.toEReal ?_))
  exact mul_right_comm _ _ _

end Cert.ReferenceIdeal.Attn

end
-- ==== Proof.Math.RefOut.lean ====
/- The reference's three results are the model's. -/
module

public import proofs.«01_k».proof.Proof.Math.RefRow

@[expose] public section

set_option maxRecDepth 8192
set_option maxHeartbeats 100000

noncomputable section

namespace Cert.ReferenceIdeal.Attn

open Cert.ReferenceIdeal Cert.ReferenceIdeal.Gen Cert.ReferenceIdeal.Value
open Idealize.ShloMosaic Idealize.ShloMosaic.TcCoe
open Cert.Row

variable {L : Valuation τ sig (Elt Ideal)} {I : Args} (H : Holds L I)

/-- The queries' gradients. -/
def refQ (L : Valuation τ sig (Elt Ideal)) : FVec Ideal S4096x1024 .bf16 :=
  truncf .bf16 (Host.reduceAdd (shapeCast _ (transpose S1x32x128x2x8x64 [0, 1, 3, 2, 4, 5] (Host.dotGeneral (φ₁ := .f32) (φ₂ := .f32) dot_S1x32x2x256x128x8_S1x32x256x2x64_S1x32x2x128x8x64_3_2_45_4_012_013 none (res_main_v125 L) (res_main_v16 L)) transposes_S1x32x2x128x8x64_S1x32x128x2x8x64_0_1_3_2_4_5) shapeCasts_S1x32x128x2x8x64_S1x4096x1024) (constant S_ .f32 0x00000000#32) reducesTo_S1x4096x1024_S4096x1024_d0 h_S_) bitsLt_bf16_f32

/-- The keys' gradients beside the values'. -/
def refKV (L : Valuation τ sig (Elt Ideal)) : FVec Ideal S4096x256 .bf16 :=
  truncf .bf16 (concatenate S4096x256 1 [⟨S4096x128, (Host.reduceAdd (shapeCast _ (addf (extractStridedSlice S1x32x128x2x64 ![0, 0, 128, 0, 0] (res_main_v129 L) slices_S1x32x256x2x64_S1x32x128x2x64_0_0_128_0_0) (pad S1x32x128x2x64 ![0, 0, 0, 0, 0] ![0, 1, 0, 0, 0] ![0, 0, 0, 0, 0] (extractStridedSlice S1x31x128x2x64 ![0, 1, 0, 0, 0] (res_main_v136 L) slices_S1x32x128x2x64_S1x31x128x2x64_0_1_0_0_0) (constant S_ .f32 0x00000000#32) pads_S1x31x128x2x64_S1x32x128x2x64_000_010_000_000_000 h_S_)) shapeCasts_S1x32x128x2x64_S1x4096x128) (constant S_ .f32 0x00000000#32) reducesTo_S1x4096x128_S4096x128_d0 h_S_)⟩, ⟨S4096x128, (Host.reduceAdd (shapeCast _ (addf (extractStridedSlice S1x32x128x2x64 ![0, 0, 128, 0, 0] (res_main_v102 L) slices_S1x32x256x2x64_S1x32x128x2x64_0_0_128_0_0) (pad S1x32x128x2x64 ![0, 0, 0, 0, 0] ![0, 1, 0, 0, 0] ![0, 0, 0, 0, 0] (extractStridedSlice S1x31x128x2x64 ![0, 1, 0, 0, 0] (res_main_v130 L) slices_S1x32x128x2x64_S1x31x128x2x64_0_1_0_0_0) (constant S_ .f32 0x00000000#32) pads_S1x31x128x2x64_S1x32x128x2x64_000_010_000_000_000 h_S_)) shapeCasts_S1x32x128x2x64_S1x4096x128) (constant S_ .f32 0x00000000#32) reducesTo_S1x4096x128_S4096x128_d0 h_S_)⟩] concatenates_S4096x128_S4096x128_S4096x256_d1) bitsLt_bf16_f32

/-- The sinks' gradients. -/
def refS (L : Valuation τ sig (Elt Ideal)) : FVec Ideal S1x128 .f32 :=
  pad S1x128 ![0, 0] ![0, 112] ![0, 0] (broadcastInDim S1x16 ![1] bcast_S16_S1x16_1 (shapeCast _ (broadcastInDim S1x1x2x8x1x1 ![2, 3] bcast_S2x8_S1x1x2x8x1x1_2_3 (Host.reduceAdd (extractStridedSlice S1x32x2x8x128x1 ![0, 0, 0, 0, 0, 256] (res_main_v116 L) slices_S1x32x2x8x128x257_S1x32x2x8x128x1_0_0_0_0_0_256) (constant S_ .f32 0x00000000#32) reducesTo_S1x32x2x8x128x1_S2x8_d0_1_4_5 h_S_)) shapeCasts_S1x1x2x8x1x1_S16)) (sitofp .f32 (constantI S_ 32 0#32)) pads_S1x16_S1x128_000_01120 h_S_

include H

theorem refQ_at (t : Fin 4096) (c : Fin 1024) : refQ L (ix2 t c) = (I.outQ t.val c.val : EReal) := by
  refine (outQ_at (res_main_v125 L) (res_main_v16 L) t c).trans ?_
  unfold Args.outQ Args.dq
  rw [coe_sum]
  refine Finset.sum_congr rfl fun k _ => ?_
  refine (congrArg₂ (fun x y : EReal => x * y) (v125_at H _ _ _ _ k) (v16_at H _ k _ _)).trans ((EReal.coe_mul _ _).symm.trans (congrArg Real.toEReal ?_))
  have e : hd ⟨c.val / 512, by omega⟩ ⟨c.val / 64 % 8, by omega⟩ = c.val / 64 := by show 8 * (c.val / 512) + c.val / 64 % 8 = _; omega
  rw [e, show c.val / 64 / 8 = c.val / 512 by omega]
  exact mul_right_comm _ _ _

omit H in
theorem half_coe (x : FVec Ideal S1x32x256x2x64 .f32) (w : ℕ → ℕ → Fin 256 → ℕ → ℝ)
    (hx : ∀ (n : Fin 32) (g : Fin 2) (k : Fin 256) (d : Fin 64), x (ix5 0 n k g d) = (w n.val g.val k d.val : EReal)) (t : Fin 4096) (c : Fin 128) :
    (Host.reduceAdd (shapeCast _ (addf (extractStridedSlice S1x32x128x2x64 ![0, 0, 128, 0, 0] x slices_S1x32x256x2x64_S1x32x128x2x64_0_0_128_0_0) (pad S1x32x128x2x64 ![0, 0, 0, 0, 0] ![0, 1, 0, 0, 0] ![0, 0, 0, 0, 0] (extractStridedSlice S1x31x128x2x64 ![0, 1, 0, 0, 0] (extractStridedSlice S1x32x128x2x64 ![0, 0, 0, 0, 0] x slices_S1x32x256x2x64_S1x32x128x2x64_0_0_0_0_0) slices_S1x32x128x2x64_S1x31x128x2x64_0_1_0_0_0) (constant S_ .f32 0x00000000#32) pads_S1x31x128x2x64_S1x32x128x2x64_000_010_000_000_000 h_S_)) shapeCasts_S1x32x128x2x64_S1x4096x128) (constant S_ .f32 0x00000000#32) reducesTo_S1x4096x128_S4096x128_d0 h_S_ : FVec Ideal S4096x128 .f32) (ix2 t c)
      = (Args.fold w (t.val / 128) (c.val / 64) ⟨t.val % 128, Nat.mod_lt _ (by decide)⟩ (c.val % 64) : EReal) := by
  refine (half_at x t c).trans ?_
  unfold Args.fold
  rw [EReal.coe_add]
  refine congrArg₂ (fun x y : EReal => x + y) (hx _ _ _ _) ?_
  by_cases h : t.val / 128 < 31
  · rw [dif_pos h, if_pos h]
    refine (hx _ _ _ _).trans (congrArg Real.toEReal ?_)
    exact congrArg (fun n => w n (c.val / 64) ⟨t.val % 128, by omega⟩ (c.val % 64)) (add_comm 1 _)
  · rw [dif_neg h, if_neg h, EReal.coe_zero]

theorem refKV_at (t : Fin 4096) (c : Fin 256) : refKV L (ix2 t c) = (I.outKV t.val c.val : EReal) := by
  refine (beside_at _ _ t c).trans ?_
  unfold Args.outKV
  by_cases h : c.val < 128
  · rw [dif_pos h, if_pos h]
    exact half_coe (res_main_v129 L) I.dkw (v129_at H) t ⟨c.val, h⟩
  · rw [dif_neg h, if_neg h]
    exact half_coe (res_main_v102 L) I.dvw (v102_at H) t ⟨c.val - 128, by omega⟩

theorem refS_at (c : Fin 128) : refS L (ix2 0 c) = (I.outS c.val : EReal) := by
  refine (outS_at (res_main_v116 L) c).trans ?_
  unfold Args.outS
  by_cases h : c.val < 16
  · rw [dif_pos h, if_pos h, coe_sum]
    refine Finset.sum_congr rfl fun n _ => ?_
    unfold Args.de
    rw [coe_sum]
    refine Finset.sum_congr rfl fun r _ => ?_
    refine (v116_sink H n r _ _).trans (congrArg Real.toEReal ?_)
    have e : hd ⟨c.val / 8, by omega⟩ ⟨c.val % 8, by omega⟩ = c.val := by show 8 * (c.val / 8) + c.val % 8 = _; omega
    rw [e]
  · rw [dif_neg h, if_neg h, EReal.coe_zero]

end Cert.ReferenceIdeal.Attn

end
-- ==== Proof.Attn.Setup.lean ====
/- The set-up of the attention-gradient kernel's launch, ideal: the branch conditions over the grid, the staging
   buffers at a point, and the carried scratch. -/
module

public import proofs.«01_k».proof.Proof.Gen.KernelIdeal.Frame
public import proofs.«01_k».proof.Proof.Gen.KernelIdeal.Skeleton
public import proofs.«01_k».proof.Proof.Gen.KernelIdeal.Points

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 33 = 0 :=
  (fun t => by
    have ht : t.val < 33 := Nat.lt_of_lt_of_eq t.isLt N_0
    have e0 : (grid0.coords t 0).val = t.val / 1 % 33 := Pipeline.Grid.coords_val t 0 (by decide) rfl
    simp only [cond0_0, k0_cond1, e0]
    word_cmp
   : ∀ t : Fin grid0.N, cond0_0 (grid0.coords t) ↔ t.val % 33 = 0)

/-- The condition of the body's `scf.if` 1 (`k0_h2`), from the grid coordinates (the skeleton's scalar
    chain substituted). -/
abbrev cond0_1 (i : grid0.Coords) : Prop := k0_cond2 i = 1#1
/-- It holds at the points before point 32 — decided over the grid. -/
theorem hcond0_1 : ∀ t : Fin cfg0.N, cond0_1 (grid0.coords t) ↔ t.val < 32 :=
  (by decide +kernel : ∀ t : Fin grid0.N, cond0_1 (grid0.coords t) ↔ t.val < 32)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 33 = 32 :=
  (fun t => by
    have ht : t.val < 33 := Nat.lt_of_lt_of_eq t.isLt N_0
    have e0 : (grid0.coords t 0).val = t.val / 1 % 33 := Pipeline.Grid.coords_val t 0 (by decide) rfl
    simp only [cond0_2, k0_cond3, e0]
    word_cmp
   : ∀ t : Fin grid0.N, cond0_2 (grid0.coords t) ↔ t.val % 33 = 32)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S1x16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S128x256 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Attn

end
-- ==== Proof.Attn.Vec.lean ====
/- The attention gradient of one block of 128 query rows, as vector operations: the key and value tiles of a group of
   heads, the probabilities of a head, the gradients of its scores, and the products summed into the block's results. -/
module

public import proofs.«01_k».proof.Proof.Gen.KernelIdeal.Skeleton

@[expose] public section

set_option maxRecDepth 16384

noncomputable section

namespace Cert.KernelIdeal.Attn

open Idealize.ShloMosaic Idealize.ShloMosaic.TcCoe
open Cert.KernelIdeal.Gen

variable {F : FTy → Type} [FloatOps F] [Named F]

/-! ## The tiles -/

/-- The lanes of the left half. -/
def loLane : IVec S256x128 1 := cmpi .slt (iota .tc S256x128 32 [1] iota_S256x128_d1_w32) (broadcast S256x128 64#32)

/-- A tile of zeros. -/
def zTile : FVec F S256x128 .f32 := broadcast S256x128 (Scalar.ofBits .f32 0x00000000#32)

/-- The two halves of the lanes exchanged. -/
def roll64 (x : FVec F S256x128 .f32) : FVec F S256x128 .f32 := dynamicRotate 1 64#32 none x rotates_S256x128_d1

/-- The 256 keys of a block: the block before, then the block itself. -/
def kvCat (kp kc : Vec F S128x256 .bf16) : FVec F S256x256 .f32 :=
  extf .f32 (concatenate S256x256 0 [⟨S128x256, kp⟩, ⟨S128x256, kc⟩] concatenates_S128x256_S128x256_S256x256_d0) bitsLt_bf16_f32

/-- The keys' lanes. -/
def kCols (kp kc : Vec F S128x256 .bf16) : FVec F S256x128 .f32 :=
  extractStridedSlice S256x128 ![0, 0] (kvCat kp kc) slices_S256x256_o0_0_S256x128

/-- The values' lanes. -/
def vCols (kp kc : Vec F S128x256 .bf16) : FVec F S256x128 .f32 :=
  extractStridedSlice S256x128 ![0, 128] (kvCat kp kc) slices_S256x256_o0_128_S256x128

/-- Two half-filled tiles, one over the other. -/
def stack (a b : FVec F S256x128 .f32) : FVec F S512x128 .bf16 :=
  concatenate S512x128 0 [⟨S256x128, truncf .bf16 a bitsLt_bf16_f32⟩, ⟨S256x128, truncf .bf16 b bitsLt_bf16_f32⟩]
    concatenates_S256x128_S256x128_S512x128_d0

/-- Group `g`'s tile: its 64 columns in the left lanes for the pair's even head, below them in the right lanes for
    the odd one. -/
def tileOf (g : Fin 2) (x : FVec F S256x128 .f32) : FVec F S512x128 .bf16 :=
  match g with
  | 0 => stack (select loLane x zTile) (select loLane zTile (roll64 x))
  | 1 => stack (select loLane (roll64 x) zTile) (select loLane zTile x)

/-! ## One head -/

/-- The left 256 columns, the even head's. -/
def lo (s : FVec F S128x512 .f32) : FVec F S128x256 .f32 := extractStridedSlice S128x256 ![0, 0] s slices_S128x512_o0_0_S128x256

/-- The right 256 columns, the odd head's. -/
def hi (s : FVec F S128x512 .f32) : FVec F S128x256 .f32 := extractStridedSlice S128x256 ![0, 256] s slices_S128x512_o0_256_S128x256

/-- A row's sum, as a column. -/
def rowSum (x : FVec F S128x256 .f32) : FVec F S128x1 .f32 :=
  shapeCast S128x1 (multiReduction .add [1] S128 x 0x00000000#32 reduces_S128x256_S128 (.inl rfl) rfl) shapeCasts_S128_S128x1

/-- The scaled scores where the mask allows, the mask's value elsewhere. -/
def masked (valid : IVec S128x256 1) (s : FVec F S128x256 .f32) : FVec F S128x256 .f32 :=
  select valid (mulf s (broadcast S128x256 (Scalar.ofBits .f32 0x3E000000#32))) (broadcast S128x256 (Named.named κ "mask" 0xF149F2CA#32))

/-- A row's largest score, the sink among them. -/
def rowMax (valid : IVec S128x256 1) (s : FVec F S128x256 .f32) (σ : F .f32) : FVec F S128x1 .f32 :=
  maximumf (shapeCast S128x1 (multiReduction .maximumf [1] S128 (masked valid s) 0xFF800000#32 reduces_S128x256_S128 (.inl rfl) rfl)
    shapeCasts_S128_S128x1) (broadcast S128x1 σ)

/-- The exponentials. -/
def expo (valid : IVec S128x256 1) (s : FVec F S128x256 .f32) (σ : F .f32) : FVec F S128x256 .f32 :=
  exp (subf (masked valid s) (broadcastTo S128x256 (rowMax valid s σ) broadcasts_S128x1_S128x256))

/-- The sink's exponential. -/
def expoSink (valid : IVec S128x256 1) (s : FVec F S128x256 .f32) (σ : F .f32) : FVec F S128x1 .f32 :=
  exp (subf (broadcast S128x1 σ) (rowMax valid s σ))

/-- One over a row's sum of exponentials. -/
def recip (valid : IVec S128x256 1) (s : FVec F S128x256 .f32) (σ : F .f32) : FVec F S128x1 .f32 :=
  divf (broadcast S128x1 (Scalar.ofBits .f32 0x3F800000#32)) (addf (rowSum (expo valid s σ)) (expoSink valid s σ))

/-- The probabilities. -/
def prob (valid : IVec S128x256 1) (s : FVec F S128x256 .f32) (σ : F .f32) : FVec F S128x256 .f32 :=
  mulf (expo valid s σ) (broadcastTo S128x256 (recip valid s σ) broadcasts_S128x1_S128x256)

/-- The sink's probability. -/
def probSink (valid : IVec S128x256 1) (s : FVec F S128x256 .f32) (σ : F .f32) : FVec F S128x1 .f32 :=
  mulf (expoSink valid s σ) (recip valid s σ)

/-- The gradients of the scores, from the probabilities `p` and their gradients `d`. -/
def dScore (p d : FVec F S128x256 .f32) : FVec F S128x256 .bf16 :=
  truncf .bf16 (mulf p (subf d (broadcastTo S128x256 (rowSum (mulf p d)) broadcasts_S128x1_S128x256))) bitsLt_bf16_f32

/-- The sinks' gradients `acc` with head `n`'s contribution of this block added in its lane. -/
def sinkAdd (n : BitVec 32) (ps : FVec F S128x1 .f32) (p d : FVec F S128x256 .f32) (acc : FVec F S1x128 .f32) : FVec F S1x128 .f32 :=
  addf acc (select (cmpi .eq (iota .tc S1x128 32 [1] iota_S1x128_d1_w32) (broadcast S1x128 n))
    (broadcastTo S1x128 (shapeCast S1x1 (subf (broadcast S1x1 (Scalar.ofBits .f32 0x00000000#32))
      (shapeCast S1x1 (multiReduction .add [0] S1 (mulf ps (rowSum (mulf p d))) 0x00000000#32 reduces_S128x1_S1 (.inl rfl) rfl)
        shapeCasts_S1_S1x1)) shapeCasts_S1x1_S1x1) broadcasts_S1x1_S1x128)
    (broadcast S1x128 (Scalar.ofBits .f32 0x00000000#32)))

/-! ## A pair of heads -/

/-- Rows times a tile's rows: scores, or the probabilities' gradients. -/
def rowsT (x : FVec F S128x128 .bf16) (t : FVec F S512x128 .bf16) : FVec F S128x512 .f32 :=
  matmul dot_S128x128_S512x128_S128x512_1_1_0_0_n_n none x t (constant S128x512 .f32 0x00000000#32)

/-- Two heads' blocks side by side. -/
def beside (a b : FVec F S128x256 .bf16) : FVec F S128x512 .bf16 :=
  concatenate S128x512 1 [⟨S128x256, a⟩, ⟨S128x256, b⟩] concatenates_S128x256_S128x256_S128x512_d1

/-- A pair's probabilities. -/
def pairP (valid : IVec S128x256 1) (s : FVec F S128x512 .f32) (σ τ : F .f32) : FVec F S128x512 .bf16 :=
  beside (truncf .bf16 (prob valid (lo s) σ) bitsLt_bf16_f32) (truncf .bf16 (prob valid (hi s) τ) bitsLt_bf16_f32)

/-- A pair's gradients of the scores. -/
def pairD (valid : IVec S128x256 1) (s d : FVec F S128x512 .f32) (σ τ : F .f32) : FVec F S128x512 .bf16 :=
  beside (dScore (prob valid (lo s) σ) (lo d)) (dScore (prob valid (hi s) τ) (hi d))

/-- A pair's contribution to the sinks' gradients, its heads being `n` and `n'`. -/
def pairSink (n n' : BitVec 32) (valid : IVec S128x256 1) (s d : FVec F S128x512 .f32) (σ τ : F .f32) (acc : FVec F S1x128 .f32) : FVec F S1x128 .f32 :=
  sinkAdd n' (probSink valid (hi s) τ) (prob valid (hi s) τ) (hi d)
    (sinkAdd n (probSink valid (lo s) σ) (prob valid (lo s) σ) (lo d) acc)

/-! ## The block -/

/-- What a block computes from: the mask, the eight pairs' query rows and gradient rows, the keys and values of the
    block before and of this one, the sixteen sinks. -/
structure Blk (F : FTy → Type) where
  valid : IVec S128x256 1
  q : Fin 8 → FVec F S128x128 .bf16
  g : Fin 8 → FVec F S128x128 .bf16
  kp : FVec F S128x256 .bf16
  kc : FVec F S128x256 .bf16
  σ : Fin 16 → F .f32

namespace Blk

variable (B : Blk F)

/-- The group of heads of a pair. -/
def grp (j : Fin 8) : Fin 2 := ⟨j.val / 4, by omega⟩
/-- A pair's even head. -/
def even (j : Fin 8) : Fin 16 := ⟨2 * j.val, by omega⟩
/-- A pair's odd head. -/
def odd (j : Fin 8) : Fin 16 := ⟨2 * j.val + 1, by omega⟩
/-- The pairs of a group. -/
def pair (g : Fin 2) (a : Fin 4) : Fin 8 := ⟨4 * g.val + a.val, by omega⟩

/-- A group's keys. -/
def K (g : Fin 2) : FVec F S512x128 .bf16 := tileOf g (kCols B.kp B.kc)
/-- A group's values. -/
def V (g : Fin 2) : FVec F S512x128 .bf16 := tileOf g (vCols B.kp B.kc)
/-- A pair's scores, unscaled. -/
def S (j : Fin 8) : FVec F S128x512 .f32 := rowsT (B.q j) (B.K (grp j))
/-- A pair's gradients of the probabilities. -/
def dP (j : Fin 8) : FVec F S128x512 .f32 := rowsT (B.g j) (B.V (grp j))
/-- A pair's probabilities. -/
def P (j : Fin 8) : FVec F S128x512 .bf16 := pairP B.valid (B.S j) (B.σ (even j)) (B.σ (odd j))
/-- A pair's gradients of the scores. -/
def dS (j : Fin 8) : FVec F S128x512 .bf16 := pairD B.valid (B.S j) (B.dP j) (B.σ (even j)) (B.σ (odd j))

/-- A pair's gradients of the queries. -/
def dQ (j : Fin 8) : FVec F S128x128 .bf16 :=
  truncf .bf16 (mulf (matmul dot_S128x512_S512x128_S128x128_1_0_0_1_n_n none (B.dS j) (B.K (grp j)) (constant S128x128 .f32 0x00000000#32))
    (broadcast S128x128 (Scalar.ofBits .f32 0x3E000000#32))) bitsLt_bf16_f32

/-- The sinks' gradients with the first `n` pairs' contributions of this block. -/
def sinks : (n : ℕ) → n ≤ 8 → FVec F S1x128 .f32
  | 0, _ => broadcast S1x128 (Scalar.ofBits .f32 0x00000000#32)
  | n + 1, h => pairSink (BitVec.ofNat 32 (2 * n)) (BitVec.ofNat 32 (2 * n + 1)) B.valid (B.S ⟨n, h⟩) (B.dP ⟨n, h⟩) (B.σ (even ⟨n, h⟩))
      (B.σ (odd ⟨n, h⟩)) (sinks n (Nat.le_of_succ_le h))

/-- Four pairs' score-shaped blocks times the same pairs' rows, summed over the block's rows and the four pairs. -/
def cols (w : Fin 4 → FVec F S128x512 .bf16) (x : Fin 4 → FVec F S128x128 .bf16) : FVec F S512x128 .f32 :=
  matmul dot_S512x512_S512x128_S512x128_0_0_1_1_n_n none
    (concatenate S512x512 0 [⟨S128x512, w 0⟩, ⟨S128x512, w 1⟩, ⟨S128x512, w 2⟩, ⟨S128x512, w 3⟩] concatenates_S128x512_S128x512_S128x512_S128x512_S512x512_d0)
    (concatenate S512x128 0 [⟨S128x128, x 0⟩, ⟨S128x128, x 1⟩, ⟨S128x128, x 2⟩, ⟨S128x128, x 3⟩] concatenates_S128x128_S128x128_S128x128_S128x128_S512x128_d0)
    (constant S512x128 .f32 0x00000000#32)

/-- A group's keys' gradients, laid out as its tile. -/
def gK (g : Fin 2) : FVec F S512x128 .f32 := cols (fun a => B.dS (pair g a)) (fun a => B.q (pair g a))
/-- A group's values' gradients, laid out as its tile. -/
def gV (g : Fin 2) : FVec F S512x128 .f32 := cols (fun a => B.P (pair g a)) (fun a => B.g (pair g a))

/-- The upper half of a tile. -/
def top (x : FVec F S512x128 .f32) : FVec F S256x128 .f32 := extractStridedSlice S256x128 ![0, 0] x slices_S512x128_o0_0_S256x128
/-- The lower half of a tile. -/
def bot (x : FVec F S512x128 .f32) : FVec F S256x128 .f32 := extractStridedSlice S256x128 ![256, 0] x slices_S512x128_o256_0_S256x128

/-- The two groups' tiles folded back to one block of lanes. -/
def unpad (x y : FVec F S512x128 .f32) : FVec F S256x128 .f32 :=
  addf (select loLane (addf (top x) (roll64 (bot x))) zTile) (select loLane zTile (addf (roll64 (top y)) (bot y)))

/-- The keys' gradients from this block. -/
def dK : FVec F S256x128 .f32 := mulf (unpad (B.gK 0) (B.gK 1)) (broadcast S256x128 (Scalar.ofBits .f32 0x3E000000#32))
/-- The values' gradients from this block. -/
def dV : FVec F S256x128 .f32 := unpad (B.gV 0) (B.gV 1)

/-- The rows of the block before. -/
def before (x : FVec F S256x128 .f32) : FVec F S128x128 .f32 := extractStridedSlice S128x128 ![0, 0] x slices_S256x128_o0_0_S128x128
/-- The rows of this block. -/
def here (x : FVec F S256x128 .f32) : FVec F S128x128 .f32 :=
  shapeCast S128x128 (extractStridedSlice S128x128 ![128, 0] x slices_S256x128_o128_0_S128x128) shapeCasts_S128x128_S128x128

/-- What is written for the block before, over what was carried to it. -/
def dKV (carry : FVec F S128x128 .f32) (x : FVec F S256x128 .f32) : FVec F S128x128 .bf16 :=
  truncf .bf16 (addf carry (before x)) bitsLt_bf16_f32

end Blk

end Cert.KernelIdeal.Attn

end
-- ==== Proof.Attn.Block.lean ====
/- What one grid point reads and writes, as functions of the staged blocks. -/
module

public import proofs.«01_k».proof.Proof.Attn.Setup
public import proofs.«01_k».proof.Proof.Attn.Vec
public import Idealize.ShloMosaic.Lib.VecWindow
public import Idealize.ShloMosaic.Lib.Writes
public import Idealize.ShloMosaic.Lib.WholeRead
public import Idealize.ShloMosaic.Lib.Pointwise

@[expose] public section

set_option maxRecDepth 16384

noncomputable section

namespace Cert.KernelIdeal.Attn

open Idealize.ShloMosaic Idealize.ShloMosaic.TcCoe
open Idealize.ShloMosaic.Pointwise
open Cert.KernelIdeal.Gen

variable {F : FTy → Type} [FloatOps F] [Named F]

/-- The columns of pair `j` in a block of 1024 columns. -/
def colRect (j : Fin 8) : Rect S128x1024 := Rect.unit ![0, 128 * j.val] S128x128.size (by
  intro a; fin_cases a
  · show 0 + 128 ≤ 128; omega
  · show 128 * j.val + 128 ≤ 1024; omega)

/-- The cell of sink `h`. -/
def sinkRect (h : Fin 16) : Rect S1x16 := Rect.unit ![0, h.val] S1x1.size (by
  intro a; fin_cases a
  · show 0 + 1 ≤ 1; omega
  · show h.val + 1 ≤ 16; omega)

/-- The left half of 256 columns. -/
abbrev leftRect : Rect S128x256 := Rect.unit ![0, 0] S128x128.size inb_S128x256_S128x128_0_0
/-- The right half of 256 columns. -/
abbrev rightRect : Rect S128x256 := Rect.unit ![0, 128] S128x128.size inb_S128x256_S128x128_0_128

/-- What a block computes from, off the staged blocks. -/
def blkAt (a : BitVec 32) (x0 : Vec F S1x16 .f32) (x1 : Vec F S128x1024 .bf16) (x2 x3 : Vec F S128x256 .bf16) (x4 : Vec F S128x1024 .bf16) : Blk F where
  valid := k0_pay4 a
  q j := fun y => x1 ((colRect j).emb y)
  g j := fun y => x4 ((colRect j).emb y)
  kp := x2
  kc := x3
  σ h := x0 ((sinkRect h).emb (Shape.Idx.first (show 0 < S1x1.numel by decide)))

/-- The same, as the body loads it. -/
def blkLd (a : BitVec 32) (arg1 : Memref sig .tc .smem S1x16 .f32) (harg1 : arg1.IsWhole) (arg2 : Memref sig .tc .vmem S128x1024 .bf16) (harg2 : arg2.IsWhole)
    (arg3 : Memref sig .tc .vmem S128x256 .bf16) (harg3 : arg3.IsWhole) (arg4 : Memref sig .tc .vmem S128x256 .bf16) (harg4 : arg4.IsWhole)
    (arg5 : Memref sig .tc .vmem S128x1024 .bf16) (harg5 : arg5.IsWhole)
    (x0 : Vec F S1x16 .f32) (x1 : Vec F S128x1024 .bf16) (x2 x3 : Vec F S128x256 .bf16) (x4 : Vec F S128x1024 .bf16) : Blk F where
  valid := k0_pay4 a
  q j := View.readAt (Elt F) arg2.view (colRect j).toLoadRect (harg2.unread x1)
  g j := View.readAt (Elt F) arg5.view (colRect j).toLoadRect (harg5.unread x4)
  kp := View.readAt (Elt F) arg3.view (Rect.unit ![0, 0] S128x256.size inb_S128x256_S128x256_0_0).toLoadRect (harg3.unread x2)
  kc := View.readAt (Elt F) arg4.view (Rect.unit ![0, 0] S128x256.size inb_S128x256_S128x256_0_0).toLoadRect (harg4.unread x3)
  σ h := View.readAt (Elt F) arg1.view (sinkRect h).toLoadRect (harg1.unread x0) (Shape.Idx.first (show 0 < S1x1.numel by decide))

theorem blkLd_eq (a : BitVec 32) (arg1 : Memref sig .tc .smem S1x16 .f32) (harg1 : arg1.IsWhole) (arg2 : Memref sig .tc .vmem S128x1024 .bf16) (harg2 : arg2.IsWhole)
    (arg3 : Memref sig .tc .vmem S128x256 .bf16) (harg3 : arg3.IsWhole) (arg4 : Memref sig .tc .vmem S128x256 .bf16) (harg4 : arg4.IsWhole)
    (arg5 : Memref sig .tc .vmem S128x1024 .bf16) (harg5 : arg5.IsWhole)
    (x0 : Vec F S1x16 .f32) (x1 : Vec F S128x1024 .bf16) (x2 x3 : Vec F S128x256 .bf16) (x4 : Vec F S128x1024 .bf16) :
    blkLd a arg1 harg1 arg2 harg2 arg3 harg3 arg4 harg4 arg5 harg5 x0 x1 x2 x3 x4 = blkAt a x0 x1 x2 x3 x4 := by
  have h3 : View.readAt (Elt F) arg3.view (Rect.unit ![0, 0] S128x256.size inb_S128x256_S128x256_0_0).toLoadRect (harg3.unread x2) = x2 := by
    funext y
    exact (harg3.readAt_unread x2 _ y).trans (congrArg x2 (Rect.emb_unit_full inb_S128x256_S128x256_0_0 y))
  have h4 : View.readAt (Elt F) arg4.view (Rect.unit ![0, 0] S128x256.size inb_S128x256_S128x256_0_0).toLoadRect (harg4.unread x3) = x3 := by
    funext y
    exact (harg4.readAt_unread x3 _ y).trans (congrArg x3 (Rect.emb_unit_full inb_S128x256_S128x256_0_0 y))
  unfold blkLd blkAt
  congr 1
  · funext j y; exact harg2.readAt_unread x1 _ y
  · funext j y; exact harg5.readAt_unread x4 _ y
  · funext h; exact harg1.readAt_unread x0 _ _

/-- Eight blocks of 128 columns side by side. -/
def putCols (w : Fin 8 → FVec F S128x128 .bf16) : Vec F S128x1024 .bf16 := fun y =>
  w ⟨(y 1).val / 128, by have : (y 1).val < 1024 := (y 1).isLt; omega⟩ (ix2 (y 0) ⟨(y 1).val % 128, by omega⟩)

/-- Two blocks of 128 columns side by side. -/
def putHalves {e : EltTy} (a b : Vec F S128x128 e) : Vec F S128x256 e := fun y =>
  if h : (y 1).val < 128 then a (ix2 (y 0) ⟨(y 1).val, h⟩) else b (ix2 (y 0) ⟨(y 1).val - 128, by have : (y 1).val < 256 := (y 1).isLt; omega⟩)

/-- The left half. -/
def leftOf {e : EltTy} (x : Vec F S128x256 e) : Vec F S128x128 e := fun y => x (leftRect.emb y)
/-- The right half. -/
def rightOf {e : EltTy} (x : Vec F S128x256 e) : Vec F S128x128 e := fun y => x (rightRect.emb y)

theorem putCols_emb (w : Fin 8 → FVec F S128x128 .bf16) (j : Fin 8) (x : (colRect j).shape.Idx) : w j x = putCols w ((colRect j).emb x) := by
  have h1 : (((colRect j).emb x) 1).val = 128 * j.val + (x 1).val := by
    show 128 * j.val + 1 * (x 1).val = _; omega
  have hx : (x 1).val < 128 := (x 1).isLt
  unfold putCols
  have e : (⟨(((colRect j).emb x) 1).val / 128, by have : (((colRect j).emb x) 1).val < 1024 := (((colRect j).emb x) 1).isLt; omega⟩ : Fin 8) = j :=
    Fin.ext (by show (((colRect j).emb x) 1).val / 128 = j.val; omega)
  rw [e]
  congr 1
  funext a
  match a with
  | ⟨0, _⟩ => exact Fin.ext (by show (x 0).val = 0 + 1 * (x 0).val; omega)
  | ⟨1, _⟩ => exact Fin.ext (by show (x 1).val = (((colRect j).emb x) 1).val % 128; omega)

variable {κ : Kind} {sp : Space}

/-- Eight stores of the columns, read back. -/
theorem read_cols (v : View sig κ sp S128x1024 .bf16) (f : v.ty.Contents (Elt F)) (w : Fin 8 → FVec F S128x128 .bf16) :
    v.read (Elt F) (v.writes (Elt F) f [⟨colRect 7, w 7⟩, ⟨colRect 6, w 6⟩, ⟨colRect 5, w 5⟩, ⟨colRect 4, w 4⟩, ⟨colRect 3, w 3⟩, ⟨colRect 2, w 2⟩, ⟨colRect 1, w 1⟩, ⟨colRect 0, w 0⟩])
      = putCols w := by
  funext y
  refine View.read_writes_apply_of_pieces v f (putCols w) _ ?_ y ?_
  · intro p hp x
    simp only [List.mem_cons, List.not_mem_nil, or_false] at hp
    rcases hp with rfl | rfl | rfl | rfl | rfl | rfl | rfl | rfl <;> exact putCols_emb w _ x
  · have hy : (y 1).val < 1024 := (y 1).isLt
    have key : ∀ j : Fin 8, (y 1).val / 128 = j.val → y ∈ (colRect j).set := by
      intro j hj
      refine Rect.mem_set_unit.mpr fun a => ?_
      match a with
      | ⟨0, _⟩ => exact ⟨Nat.zero_le _, (Nat.zero_add 128).symm ▸ (y 0).isLt⟩
      | ⟨1, _⟩ => exact ⟨show 128 * j.val ≤ (y 1).val by omega, show (y 1).val < 128 * j.val + 128 by omega⟩
    have hlt : (y 1).val / 128 < 8 := by omega
    have h := key ⟨(y 1).val / 128, hlt⟩ rfl
    generalize hj : (⟨(y 1).val / 128, hlt⟩ : Fin 8) = j at h
    refine ⟨⟨colRect j, w j⟩, ?_, h⟩
    fin_cases j <;> simp

/-- Two stores of the halves, read back. -/
theorem read_halves {e : EltTy} (v : View sig κ sp S128x256 e) (f : v.ty.Contents (Elt F)) (a b : Vec F S128x128 e) :
    v.read (Elt F) (v.writes (Elt F) f [⟨rightRect, b⟩, ⟨leftRect, a⟩]) = putHalves a b := by
  funext y
  refine View.read_writes_apply_of_pieces v f (putHalves a b) _ ?_ y ?_
  · intro p hp x
    simp only [List.mem_cons, List.not_mem_nil, or_false] at hp
    rcases hp with rfl | rfl
    · have hx : (x 1).val < 128 := (x 1).isLt
      have h1 : ((rightRect.emb x) 1).val = 128 + (x 1).val := by show 128 + 1 * (x 1).val = _; omega
      show b x = putHalves a b (rightRect.emb x)
      unfold putHalves
      rw [dif_neg (by omega)]
      congr 1
      funext c
      match c with
      | ⟨0, _⟩ => exact Fin.ext (by show (x 0).val = 0 + 1 * (x 0).val; omega)
      | ⟨1, _⟩ => exact Fin.ext (by show (x 1).val = ((rightRect.emb x) 1).val - 128; omega)
    · have hx : (x 1).val < 128 := (x 1).isLt
      have h1 : ((leftRect.emb x) 1).val = (x 1).val := by show 0 + 1 * (x 1).val = _; omega
      show a x = putHalves a b (leftRect.emb x)
      unfold putHalves
      rw [dif_pos (by omega)]
      congr 1
      funext c
      match c with
      | ⟨0, _⟩ => exact Fin.ext (by show (x 0).val = 0 + 1 * (x 0).val; omega)
      | ⟨1, _⟩ => exact Fin.ext (by show (x 1).val = ((leftRect.emb x) 1).val; omega)
  · have hy : (y 1).val < 256 := (y 1).isLt
    by_cases h : (y 1).val < 128
    · refine ⟨⟨leftRect, a⟩, by simp, ?_⟩
      refine (Rect.mem_set_unit (inb := inb_S128x256_S128x128_0_0)).mpr fun c => ?_
      match c with
      | ⟨0, _⟩ => exact ⟨Nat.zero_le _, (Nat.zero_add 128).symm ▸ (y 0).isLt⟩
      | ⟨1, _⟩ => exact ⟨Nat.zero_le _, show (y 1).val < 0 + 128 by omega⟩
    · refine ⟨⟨rightRect, b⟩, by simp, ?_⟩
      refine (Rect.mem_set_unit (inb := inb_S128x256_S128x128_0_128)).mpr fun c => ?_
      match c with
      | ⟨0, _⟩ => exact ⟨Nat.zero_le _, (Nat.zero_add 128).symm ▸ (y 0).isLt⟩
      | ⟨1, _⟩ => exact ⟨show 128 ≤ (y 1).val by omega, show (y 1).val < 128 + 128 by omega⟩

namespace Blk

variable (B : Blk F)

/-- The block's gradients of its queries. -/
def outQ : Vec F S128x1024 .bf16 := putCols B.dQ
/-- What is written for the keys and values of the block before, over what was carried to them. -/
def outKV (d : Vec F S128x256 .f32) : Vec F S128x256 .bf16 := putHalves (e := .bf16) (dKV (leftOf d) B.dK) (dKV (rightOf d) B.dV)
/-- The sinks' gradients after the block. -/
def outSink (d : Vec F S1x128 .f32) : Vec F S1x128 .f32 := addf (shapeCast S1x128 d shapeCasts_S1x128_S1x128) (B.sinks 8 le_rfl)
/-- What is carried to the next block. -/
def outCarry : Vec F S128x256 .f32 := putHalves (e := .f32) (here B.dK) (here B.dV)

end Blk

/-! ## The last stores, over the folded gradients -/

theorem pay264_V (a b : FVec F S256x128 .f32) (l : IVec S256x128 1) (z e : FVec F S256x128 .f32) (x : Vec F S128x128 .f32) :
    k0_pay266 a b l z e x = Blk.dKV x (k0_pay264 a b l z e) := rfl
theorem pay264_here (a b : FVec F S256x128 .f32) (l : IVec S256x128 1) (z e : FVec F S256x128 .f32) :
    k0_pay268 a b l z e = Blk.here (k0_pay264 a b l z e) := rfl
theorem pay265_K (a : FVec F S256x128 .f32) (x : Vec F S128x128 .f32) : k0_pay265 a x = Blk.dKV x a := rfl
theorem pay267_here (a : FVec F S256x128 .f32) : k0_pay267 a = Blk.here a := rfl

/-- The sinks' gradients at the start. -/
def sink0 : Vec F S1x128 .f32 := k0_pay1 (F := F)
/-- The carry at the start. -/
def carry0 : Vec F S128x256 .f32 := k0_pay2 (F := F)

end Cert.KernelIdeal.Attn

end
-- ==== Proof.Math.KerOps.lean ====
/- The kernel's vector operations read at an index, over any vectors. -/
module

public import proofs.«01_k».proof.Proof.Attn.Block
public import proofs.«01_k».proof.Proof.Math.Model
public import Idealize.ShloMosaic.Lib.Tactic.WordOmega

@[expose] public section

set_option maxRecDepth 8192
set_option maxHeartbeats 100000

noncomputable section

namespace Cert.KernelIdeal.Attn

open Cert.KernelIdeal.Gen
open Idealize.ShloMosaic Idealize.ShloMosaic.TcCoe
open Cert.Row

theorem eighth : Ideal.ofBits FTy.f32 1040187392#32 = ((1 / 8 : ℝ) : EReal) := by
  simp [Ideal.ofBits, Ideal.ieee, -EReal.coe_mul]; norm_num
theorem minus_inf : Ideal.ofBits FTy.f32 4286578688#32 = ⊥ := by
  simp [Ideal.ofBits, Ideal.ieee]

/-- A choice by the half of the lanes. -/
theorem select_lane {α : Type} (l : Fin 128) (x y : α) : Scalar.select (IntOp.cmpi .slt (BitVec.ofNat 32 l.val) 64#32) x y = if l.val < 64 then x else y := by
  refine if_congr ?_ rfl rfl
  word_omega

/-! ## The tiles -/

theorem kCols_at (kp kc : FVec Ideal S128x256 .bf16) (k : Fin 256) (l : Fin 128) :
    kCols (F := Ideal) kp kc (ix2 k l) = if h : k.val < 128 then (kp (ix2 ⟨k.val, h⟩ ⟨l.val, by omega⟩) : EReal) else (kc (ix2 ⟨k.val - 128, by omega⟩ ⟨l.val, by omega⟩) : EReal) := by
  pointwise [kCols, kvCat]
theorem vCols_at (kp kc : FVec Ideal S128x256 .bf16) (k : Fin 256) (l : Fin 128) :
    vCols (F := Ideal) kp kc (ix2 k l) = if h : k.val < 128 then (kp (ix2 ⟨k.val, h⟩ ⟨128 + l.val, by omega⟩) : EReal) else (kc (ix2 ⟨k.val - 128, by omega⟩ ⟨128 + l.val, by omega⟩) : EReal) := by
  pointwise [vCols, kvCat]

theorem tile0_at (x : FVec Ideal S256x128 .f32) (y : Fin 512) (l : Fin 128) : tileOf (F := Ideal) 0 x (ix2 y l)
    = if h : y.val < 256 then (if l.val < 64 then (x (ix2 ⟨y.val, h⟩ l) : EReal) else 0)
      else if l.val < 64 then 0 else (x (ix2 ⟨y.val - 256, by omega⟩ ⟨(l.val + 128 - 64) % 128, by omega⟩) : EReal) := by
  pointwise [tileOf, stack, loLane, roll64, zTile]
  simp only [select_lane]
theorem tile1_at (x : FVec Ideal S256x128 .f32) (y : Fin 512) (l : Fin 128) : tileOf (F := Ideal) 1 x (ix2 y l)
    = if h : y.val < 256 then (if l.val < 64 then (x (ix2 ⟨y.val, h⟩ ⟨(l.val + 128 - 64) % 128, by omega⟩) : EReal) else 0)
      else if l.val < 64 then 0 else (x (ix2 ⟨y.val - 256, by omega⟩ l) : EReal) := by
  pointwise [tileOf, stack, loLane, roll64, zTile]
  simp only [select_lane]

theorem unpad_at (x y : FVec Ideal S512x128 .f32) (k : Fin 256) (l : Fin 128) : Blk.unpad (F := Ideal) x y (ix2 k l)
    = (if l.val < 64 then (x (ix2 ⟨k.val, by omega⟩ l) : EReal) + (x (ix2 ⟨256 + k.val, by omega⟩ ⟨(l.val + 128 - 64) % 128, by omega⟩) : EReal) else 0)
      + (if l.val < 64 then 0 else (y (ix2 ⟨k.val, by omega⟩ ⟨(l.val + 128 - 64) % 128, by omega⟩) : EReal) + (y (ix2 ⟨256 + k.val, by omega⟩ l) : EReal)) := by
  pointwise [Blk.unpad, loLane, roll64, zTile, Blk.top, Blk.bot]
  simp only [select_lane]

/-! ## The products -/

theorem rowsT_at (x : FVec Ideal S128x128 .bf16) (t : FVec Ideal S512x128 .bf16) (r : Fin 128) (y : Fin 512) :
    rowsT (F := Ideal) x t (ix2 r y) = ∑ l : Fin 128, (x (ix2 r l) : EReal) * (t (ix2 y l) : EReal) := by
  pointwise [rowsT]

theorem dQ_at (w : FVec Ideal S128x512 .bf16) (t : FVec Ideal S512x128 .bf16) (r : Fin 128) (l : Fin 128) :
    (truncf .bf16 (mulf (matmul dot_S128x512_S512x128_S128x128_1_0_0_1_n_n none w t (constant S128x128 .f32 0x00000000#32))
      (broadcast S128x128 (Scalar.ofBits .f32 0x3E000000#32))) bitsLt_bf16_f32 : FVec Ideal S128x128 .bf16) (ix2 r l)
      = (∑ y : Fin 512, (w (ix2 r y) : EReal) * (t (ix2 y l) : EReal)) * ((1 / 8 : ℝ) : EReal) := by
  pointwise
  rw [eighth]

theorem beside_at (a b : FVec Ideal S128x256 .bf16) (r : Fin 128) (y : Fin 512) : beside (F := Ideal) a b (ix2 r y)
    = if h : y.val < 256 then (a (ix2 r ⟨y.val, h⟩) : EReal) else (b (ix2 r ⟨y.val - 256, by omega⟩) : EReal) := by
  pointwise [beside]

/-- Four parts of 128, one after another. -/
theorem four (f : Fin 4 → Fin 128 → EReal) (x : Fin 512) :
    (if h : x.val < 128 then f 0 ⟨x.val, h⟩ else if h : x.val - 128 < 128 then f 1 ⟨x.val - 128, h⟩
      else if h : x.val - 128 - 128 < 128 then f 2 ⟨x.val - 128 - 128, h⟩ else f 3 ⟨x.val - 128 - 128 - 128, by omega⟩)
      = f ⟨x.val / 128, by omega⟩ ⟨x.val % 128, by omega⟩ := by
  split
  · exact congrArg₂ f (Fin.ext (by show 0 = x.val / 128; omega)) (Fin.ext (by show x.val = x.val % 128; omega))
  split
  · exact congrArg₂ f (Fin.ext (by show 1 = x.val / 128; omega)) (Fin.ext (by show x.val - 128 = x.val % 128; omega))
  split
  · exact congrArg₂ f (Fin.ext (by show 2 = x.val / 128; omega)) (Fin.ext (by show x.val - 128 - 128 = x.val % 128; omega))
  · exact congrArg₂ f (Fin.ext (by show 3 = x.val / 128; omega)) (Fin.ext (by show x.val - 128 - 128 - 128 = x.val % 128; omega))

/-- A sum over a product. -/
theorem sum_parts {M : Type} [AddCommMonoid M] {k : ℕ} (m n : ℕ) (hk : k = m * n) (f : ℕ → M) :
    (∑ i : Fin k, f i.val) = ∑ a : Fin m, ∑ b : Fin n, f (n * a.val + b.val) := by
  subst hk
  rw [← (finProdFinEquiv (m := m) (n := n)).sum_comp, Fintype.sum_prod_type]
  refine Finset.sum_congr rfl fun a _ => Finset.sum_congr rfl fun b _ => congrArg f ?_
  show b.val + n * a.val = _; omega

theorem cols_at (w : Fin 4 → FVec Ideal S128x512 .bf16) (x : Fin 4 → FVec Ideal S128x128 .bf16) (y : Fin 512) (l : Fin 128) : Blk.cols (F := Ideal) w x (ix2 y l)
    = ∑ R : Fin 512, (w ⟨R.val / 128, by omega⟩ (ix2 ⟨R.val % 128, by omega⟩ y) : EReal) * (x ⟨R.val / 128, by omega⟩ (ix2 ⟨R.val % 128, by omega⟩ l) : EReal) := by
  pointwise [Blk.cols]
  exact Finset.sum_congr rfl fun R _ => congrArg₂ (fun x y : EReal => x * y) (four (fun a r => w a (ix2 r y)) R) (four (fun a r => x a (ix2 r l)) R)

/-! ## A head -/

theorem lo_at (s : FVec Ideal S128x512 .f32) (r : Fin 128) (k : Fin 256) : lo (F := Ideal) s (ix2 r k) = (s (ix2 r ⟨k.val, by omega⟩) : EReal) := by
  pointwise [lo]
theorem hi_at (s : FVec Ideal S128x512 .f32) (r : Fin 128) (k : Fin 256) : hi (F := Ideal) s (ix2 r k) = (s (ix2 r ⟨256 + k.val, by omega⟩) : EReal) := by
  pointwise [hi]

theorem mask_bot : (Named.named κ "mask" 4048155338#32 : Ideal .f32) = (⊥ : EReal) := rfl

/-- The kernel's masked scores are the row's. -/
theorem masked_coe {v : IVec S128x256 1} {s : FVec Ideal S128x256 .f32} {r : Fin 128} {V : Fin 256 → Prop} [DecidablePred V] {s' : Fin 256 → ℝ}
    (hV : ∀ k, v (ix2 r k) = 1#1 ↔ V k) (hs : ∀ k, s (ix2 r k) = (s' k : EReal)) (k : Fin 256) :
    Scalar.select (v (ix2 r k)) ((s (ix2 r k) : EReal) * Ideal.ofBits FTy.f32 1040187392#32) (Named.named κ "mask" 4048155338#32 : Ideal .f32)
      = msk V (fun k => s' k * (1 / 8)) k := by
  refine if_congr (hV k) ?_ mask_bot
  rw [hs, eighth, ← EReal.coe_mul]

theorem prob_coe {v : IVec S128x256 1} {s : FVec Ideal S128x256 .f32} {r : Fin 128} {V : Fin 256 → Prop} [DecidablePred V] {s' : Fin 256 → ℝ} (σ : ℝ)
    (hV : ∀ k, v (ix2 r k) = 1#1 ↔ V k) (hs : ∀ k, s (ix2 r k) = (s' k : EReal)) (k : Fin 256) :
    prob (F := Ideal) v s (σ : EReal) (ix2 r k) = (pr V (fun k => s' k * (1 / 8)) σ k : EReal) := by
  pointwise [prob, expo, recip, expoSink, rowMax, rowSum, masked]
  rw [minus_inf]
  have e := fun k => masked_coe hV hs k
  refine Eq.trans ?_ (kernel_pr V (fun k => s' k * (1 / 8)) σ k)
  rw [← funext e]

theorem probSink_coe {v : IVec S128x256 1} {s : FVec Ideal S128x256 .f32} {r : Fin 128} {V : Fin 256 → Prop} [DecidablePred V] {s' : Fin 256 → ℝ} (σ : ℝ)
    (hV : ∀ k, v (ix2 r k) = 1#1 ↔ V k) (hs : ∀ k, s (ix2 r k) = (s' k : EReal)) :
    probSink (F := Ideal) v s (σ : EReal) (ix2 r 0) = (prSink V (fun k => s' k * (1 / 8)) σ : EReal) := by
  pointwise [probSink, expo, recip, expoSink, rowMax, rowSum, masked]
  rw [minus_inf]
  have e := fun k => masked_coe hV hs k
  refine Eq.trans ?_ (kernel_prSink V (fun k => s' k * (1 / 8)) σ)
  rw [← funext e]

theorem dScore_at (p d : FVec Ideal S128x256 .f32) (r : Fin 128) (k : Fin 256) : dScore (F := Ideal) p d (ix2 r k)
    = (p (ix2 r k) : EReal) * ((d (ix2 r k) : EReal) - ∑ x : Fin 256, (p (ix2 r x) : EReal) * (d (ix2 r x) : EReal)) := by
  pointwise [dScore, rowSum]

theorem sinkAdd_at (n : Fin 16) (ps : FVec Ideal S128x1 .f32) (p d : FVec Ideal S128x256 .f32) (acc : FVec Ideal S1x128 .f32) (l : Fin 128) :
    sinkAdd (F := Ideal) (BitVec.ofNat 32 n.val) ps p d acc (ix2 0 l)
      = (acc (ix2 0 l) : EReal) + if l.val = n.val then 0 - ∑ x : Fin 128, (ps (ix2 x 0) : EReal) * ∑ y : Fin 256, (p (ix2 x y) : EReal) * (d (ix2 x y) : EReal) else 0 := by
  pointwise [sinkAdd, rowSum]
  refine congrArg (fun z : EReal => _ + z) (if_congr ?_ rfl rfl)
  word_omega

end Cert.KernelIdeal.Attn

end
-- ==== Proof.Math.KerRow.lean ====
/- A block of the kernel over real arguments: its scores, probabilities and gradients are the model's. -/
module

public import proofs.«01_k».proof.Proof.Math.KerOps

@[expose] public section

set_option maxRecDepth 8192
set_option maxHeartbeats 100000

noncomputable section

namespace Cert.Row

/-- A group's tile over the reals. -/
def tl (g : ℕ) (X : ℕ → ℕ → ℝ) (y l : ℕ) : ℝ := if l / 64 = y / 256 then X (y % 256) (64 * g + l % 64) else 0

open Cert.KernelIdeal.Attn (sum_parts)

theorem tl_row (g : ℕ) (X : ℕ → ℕ → ℝ) (Q : ℕ → ℝ) (y : ℕ) (hy : y < 512) :
    (∑ l : Fin 128, Q l.val * tl g X y l.val) = ∑ d : Fin 64, Q (64 * (y / 256) + d.val) * X (y % 256) (64 * g + d.val) := by
  rw [sum_parts 2 64 rfl (fun l => Q l * tl g X y l), Fin.sum_univ_two]
  have key : ∀ e : ℕ, (∑ d : Fin 64, Q (64 * e + d.val) * tl g X y (64 * e + d.val))
      = if e = y / 256 then ∑ d : Fin 64, Q (64 * e + d.val) * X (y % 256) (64 * g + d.val) else 0 := by
    intro e
    by_cases h : e = y / 256
    · rw [if_pos h]
      refine Finset.sum_congr rfl fun d _ => ?_
      unfold tl
      rw [if_pos (by omega), show (64 * e + d.val) % 64 = d.val by omega]
    · rw [if_neg h]
      refine Finset.sum_eq_zero fun d _ => ?_
      unfold tl
      rw [if_neg (by omega), mul_zero]
  have h2 := Nat.div_add_mod y 256
  refine (congrArg₂ (· + ·) (key 0) (key 1)).trans ?_
  rcases (show y / 256 = 0 ∨ y / 256 = 1 by omega) with h | h
  · rw [h, if_pos rfl, if_neg (by decide), add_zero]
  · rw [h, if_neg (by decide), if_pos rfl, zero_add]

theorem tl_col (g : ℕ) (X : ℕ → ℕ → ℝ) (W : ℕ → ℝ) (l : ℕ) (hl : l < 128) :
    (∑ y : Fin 512, W y.val * tl g X y.val l) = ∑ k : Fin 256, W (256 * (l / 64) + k.val) * X k.val (64 * g + l % 64) := by
  rw [sum_parts 2 256 rfl (fun y => W y * tl g X y l), Fin.sum_univ_two]
  have key : ∀ e : ℕ, (∑ k : Fin 256, W (256 * e + k.val) * tl g X (256 * e + k.val) l)
      = if l / 64 = e then ∑ k : Fin 256, W (256 * e + k.val) * X k.val (64 * g + l % 64) else 0 := by
    intro e
    by_cases h : l / 64 = e
    · rw [if_pos h]
      refine Finset.sum_congr rfl fun k _ => ?_
      unfold tl
      rw [if_pos (by omega), show (256 * e + k.val) % 256 = k.val by omega]
    · rw [if_neg h]
      refine Finset.sum_eq_zero fun k _ => ?_
      unfold tl
      rw [if_neg (by omega), mul_zero]
  refine (congrArg₂ (· + ·) (key 0) (key 1)).trans ?_
  rcases (show l / 64 = 0 ∨ l / 64 = 1 by omega) with h | h
  · rw [h, if_pos rfl, if_neg (by decide), add_zero]
  · rw [h, if_neg (by decide), if_pos rfl, zero_add]

namespace Args

variable (I : Args)

/-- The columns a block reads as its window: the block before (itself, when there is none) and itself. -/
def win (n k l : ℕ) : ℝ := if k < 128 then I.kv (128 * (n - 1) + k) l else I.kv (128 * n + (k - 128)) l
/-- The scores of head `h` before they are scaled. -/
def raw (n h r : ℕ) (k : ℕ) : ℝ := ∑ d : Fin 64, I.q (128 * n + r) (64 * h + d.val) * I.win n k (64 * (h / 8) + d.val)
/-- The probabilities' gradients. -/
def rawG (n h r : ℕ) (k : ℕ) : ℝ := ∑ d : Fin 64, I.g (128 * n + r) (64 * h + d.val) * I.win n k (128 + (64 * (h / 8) + d.val))

variable {I}

theorem win_key {n r : ℕ} {k : Fin 256} (h : Ok n r k) (g d : ℕ) : I.win n k.val (64 * g + d) = I.key n g k.val d := by
  have h1 := h.2.2
  unfold win key
  rw [if_pos h1]
  by_cases hk : k.val < 128
  · rw [if_pos hk, show 128 * (n - 1) + k.val = 128 * n + k.val - 128 by omega]
  · rw [if_neg hk, show 128 * n + (k.val - 128) = 128 * n + k.val - 128 by omega]
theorem win_val {n r : ℕ} {k : Fin 256} (h : Ok n r k) (g d : ℕ) : I.win n k.val (128 + (64 * g + d)) = I.val n g k.val d := by
  have h1 := h.2.2
  unfold win val
  rw [if_pos h1, add_assoc]
  by_cases hk : k.val < 128
  · rw [if_pos hk, show 128 * (n - 1) + k.val = 128 * n + k.val - 128 by omega]
  · rw [if_neg hk, show 128 * n + (k.val - 128) = 128 * n + k.val - 128 by omega]

theorem raw_sc {n h r : ℕ} (k : Fin 256) (hk : Ok n r k) : I.raw n h r k.val * (1 / 8) = I.sc n h r k := by
  unfold raw sc
  refine congrArg (· * (1 / 8 : ℝ)) (Finset.sum_congr rfl fun d _ => ?_)
  rw [win_key hk, mul_comm]
theorem rawG_dp {n h r : ℕ} (k : Fin 256) (hk : Ok n r k) : I.rawG n h r k.val = I.dp n h r k := by
  unfold rawG dp
  refine Finset.sum_congr rfl fun d _ => ?_
  rw [win_val hk]

end Args

end Cert.Row

namespace Cert.KernelIdeal.Attn

open Cert.KernelIdeal.Gen
open Idealize.ShloMosaic Idealize.ShloMosaic.TcCoe
open Cert.Row

/-- What a block computes from, as real numbers. -/
structure BlkHolds (B : Blk Ideal) (I : Args) (n : ℕ) : Prop where
  valid : ∀ (r : Fin 128) (k : Fin 256), B.valid (ix2 r k) = 1#1 ↔ Args.Ok n r.val k
  q : ∀ (j : Fin 8) (r l : Fin 128), B.q j (ix2 r l) = (I.q (128 * n + r.val) (128 * j.val + l.val) : EReal)
  g : ∀ (j : Fin 8) (r l : Fin 128), B.g j (ix2 r l) = (I.g (128 * n + r.val) (128 * j.val + l.val) : EReal)
  kp : ∀ (r : Fin 128) (l : Fin 256), B.kp (ix2 r l) = (I.kv (128 * (n - 1) + r.val) l.val : EReal)
  kc : ∀ (r : Fin 128) (l : Fin 256), B.kc (ix2 r l) = (I.kv (128 * n + r.val) l.val : EReal)
  σ : ∀ h : Fin 16, B.σ h = (I.σ h.val : EReal)

theorem tile_coe (g : Fin 2) (x : FVec Ideal S256x128 .f32) (X : ℕ → ℕ → ℝ) (hx : ∀ (k : Fin 256) (l : Fin 128), x (ix2 k l) = (X k.val l.val : EReal))
    (y : Fin 512) (l : Fin 128) : tileOf (F := Ideal) g x (ix2 y l) = (tl g.val X y.val l.val : EReal) := by
  unfold tl
  have hg : g = 0 ∨ g = 1 := by omega
  rcases hg with rfl | rfl
  · refine (tile0_at x y l).trans ?_
    by_cases hy : y.val < 256 <;> by_cases hl : l.val < 64
    · rw [dif_pos hy, if_pos hl, if_pos (by omega), hx]
      exact congrArg Real.toEReal (congrArg₂ X (by show y.val = _; omega) (by show l.val = 64 * 0 + _; omega))
    · rw [dif_pos hy, if_neg hl, if_neg (by omega), EReal.coe_zero]
    · rw [dif_neg hy, if_pos hl, if_neg (by omega), EReal.coe_zero]
    · rw [dif_neg hy, if_neg hl, if_pos (by omega), hx]
      exact congrArg Real.toEReal (congrArg₂ X (by show y.val - 256 = _; omega) (by show (l.val + 128 - 64) % 128 = 64 * 0 + _; omega))
  · refine (tile1_at x y l).trans ?_
    by_cases hy : y.val < 256 <;> by_cases hl : l.val < 64
    · rw [dif_pos hy, if_pos hl, if_pos (by omega), hx]
      exact congrArg Real.toEReal (congrArg₂ X (by show y.val = _; omega) (by show (l.val + 128 - 64) % 128 = 64 * 1 + _; omega))
    · rw [dif_pos hy, if_neg hl, if_neg (by omega), EReal.coe_zero]
    · rw [dif_neg hy, if_pos hl, if_neg (by omega), EReal.coe_zero]
    · rw [dif_neg hy, if_neg hl, if_pos (by omega), hx]
      exact congrArg Real.toEReal (congrArg₂ X (by show y.val - 256 = _; omega) (by show l.val = 64 * 1 + _; omega))

variable {B : Blk Ideal} {I : Args} {n : ℕ} (H : BlkHolds B I n)
include H

theorem K_at (g : Fin 2) (y : Fin 512) (l : Fin 128) : B.K g (ix2 y l) = (tl g.val (I.win n) y.val l.val : EReal) := by
  refine tile_coe g _ _ (fun k l => ?_) y l
  refine (kCols_at B.kp B.kc k l).trans ?_
  unfold Args.win
  by_cases h : k.val < 128
  · rw [dif_pos h, if_pos h, H.kp]
  · rw [dif_neg h, if_neg h, H.kc]
theorem V_at (g : Fin 2) (y : Fin 512) (l : Fin 128) : B.V g (ix2 y l) = (tl g.val (fun k l => I.win n k (128 + l)) y.val l.val : EReal) := by
  refine tile_coe g _ _ (fun k l => ?_) y l
  refine (vCols_at B.kp B.kc k l).trans ?_
  unfold Args.win
  by_cases h : k.val < 128
  · rw [dif_pos h, if_pos h, H.kp]
  · rw [dif_neg h, if_neg h, H.kc]

theorem S_at (j : Fin 8) (r : Fin 128) (y : Fin 512) : B.S j (ix2 r y) = (I.raw n (2 * j.val + y.val / 256) r.val (y.val % 256) : EReal) := by
  refine (rowsT_at (B.q j) (B.K (Blk.grp j)) r y).trans ?_
  refine (Finset.sum_congr rfl fun l _ => (congrArg₂ (fun x y : EReal => x * y) (H.q j r l) (K_at H _ y l)).trans (EReal.coe_mul _ _).symm).trans ?_
  rw [← coe_sum, tl_row _ _ (fun l => I.q (128 * n + r.val) (128 * j.val + l)) y.val y.isLt]
  refine congrArg Real.toEReal ?_
  unfold Args.raw
  refine Finset.sum_congr rfl fun d _ => ?_
  have hy : y.val / 256 < 2 := by omega
  rw [show 128 * j.val + (64 * (y.val / 256) + d.val) = 64 * (2 * j.val + y.val / 256) + d.val by omega,
    show (Blk.grp j).val = (2 * j.val + y.val / 256) / 8 by show j.val / 4 = _; omega]

theorem dP_at (j : Fin 8) (r : Fin 128) (y : Fin 512) : B.dP j (ix2 r y) = (I.rawG n (2 * j.val + y.val / 256) r.val (y.val % 256) : EReal) := by
  refine (rowsT_at (B.g j) (B.V (Blk.grp j)) r y).trans ?_
  refine (Finset.sum_congr rfl fun l _ => (congrArg₂ (fun x y : EReal => x * y) (H.g j r l) (V_at H _ y l)).trans (EReal.coe_mul _ _).symm).trans ?_
  rw [← coe_sum, tl_row _ _ (fun l => I.g (128 * n + r.val) (128 * j.val + l)) y.val y.isLt]
  refine congrArg Real.toEReal ?_
  unfold Args.rawG
  refine Finset.sum_congr rfl fun d _ => ?_
  have hy : y.val / 256 < 2 := by omega
  rw [show 128 * j.val + (64 * (y.val / 256) + d.val) = 64 * (2 * j.val + y.val / 256) + d.val by omega,
    show (Blk.grp j).val = (2 * j.val + y.val / 256) / 8 by show j.val / 4 = _; omega]

/-! ## One head -/

/-- A head's scores as a pair holds them. -/
def IsRaw (I : Args) (n h : ℕ) (s : FVec Ideal S128x256 .f32) : Prop := ∀ (r : Fin 128) (k : Fin 256), s (ix2 r k) = (I.raw n h r.val k.val : EReal)
/-- A head's gradients of the probabilities as a pair holds them. -/
def IsRawG (I : Args) (n h : ℕ) (d : FVec Ideal S128x256 .f32) : Prop := ∀ (r : Fin 128) (k : Fin 256), d (ix2 r k) = (I.rawG n h r.val k.val : EReal)

theorem lo_raw (j : Fin 8) : IsRaw I n (2 * j.val) (lo (B.S j)) := fun r k => by
  refine (lo_at _ r k).trans ((S_at H j r _).trans (congrArg Real.toEReal ?_))
  rw [show 2 * j.val + k.val / 256 = 2 * j.val by omega, show k.val % 256 = k.val by omega]
theorem hi_raw (j : Fin 8) : IsRaw I n (2 * j.val + 1) (hi (B.S j)) := fun r k => by
  refine (hi_at _ r k).trans ((S_at H j r _).trans (congrArg Real.toEReal ?_))
  rw [show 2 * j.val + (256 + k.val) / 256 = 2 * j.val + 1 by omega, show (256 + k.val) % 256 = k.val by omega]
theorem lo_rawG (j : Fin 8) : IsRawG I n (2 * j.val) (lo (B.dP j)) := fun r k => by
  refine (lo_at _ r k).trans ((dP_at H j r _).trans (congrArg Real.toEReal ?_))
  rw [show 2 * j.val + k.val / 256 = 2 * j.val by omega, show k.val % 256 = k.val by omega]
theorem hi_rawG (j : Fin 8) : IsRawG I n (2 * j.val + 1) (hi (B.dP j)) := fun r k => by
  refine (hi_at _ r k).trans ((dP_at H j r _).trans (congrArg Real.toEReal ?_))
  rw [show 2 * j.val + (256 + k.val) / 256 = 2 * j.val + 1 by omega, show (256 + k.val) % 256 = k.val by omega]

section
variable {h : ℕ} {s d : FVec Ideal S128x256 .f32} (hs : IsRaw I n h s) (hd : IsRawG I n h d)
include hs

theorem prob_head (r : Fin 128) (k : Fin 256) : prob (F := Ideal) B.valid s (I.σ h : EReal) (ix2 r k) = (I.P n h r.val k : EReal) :=
  (prob_coe (I.σ h) (H.valid r) (hs r) k).trans (congrArg Real.toEReal (congrFun (pr_congr (I.σ h) (fun _ => Iff.rfl) fun k hk => Args.raw_sc k hk) k))

theorem probSink_head (r : Fin 128) : probSink (F := Ideal) B.valid s (I.σ h : EReal) (ix2 r 0)
    = (prSink (Args.Ok n r.val) (I.sc n h r.val) (I.σ h) : EReal) :=
  (probSink_coe (I.σ h) (H.valid r) (hs r)).trans (congrArg Real.toEReal (prSink_congr (I.σ h) (fun _ => Iff.rfl) fun k hk => Args.raw_sc k hk))

include hd

theorem mean_head (r : Fin 128) :
    (∑ k : Fin 256, (prob (F := Ideal) B.valid s (I.σ h : EReal) (ix2 r k) : EReal) * (d (ix2 r k) : EReal))
      = (mean (Args.Ok n r.val) (I.sc n h r.val) (I.dp n h r.val) (I.σ h) : EReal) := by
  have e : mean (Args.Ok n r.val) (I.sc n h r.val) (I.dp n h r.val) (I.σ h) = mean (Args.Ok n r.val) (I.sc n h r.val) (fun k => I.rawG n h r.val k.val) (I.σ h) :=
    mean_congr (I.σ h) (fun _ => Iff.rfl) (fun _ _ => rfl) fun k hk => (Args.rawG_dp k hk).symm
  rw [e]
  unfold mean
  rw [coe_sum]
  exact Finset.sum_congr rfl fun k _ => (congrArg₂ (fun x y : EReal => x * y) (prob_head H hs r k) (hd r k)).trans (EReal.coe_mul _ _).symm

theorem dScore_head (r : Fin 128) (k : Fin 256) : dScore (F := Ideal) (prob B.valid s (I.σ h : EReal)) d (ix2 r k) = (I.D n h r.val k : EReal) := by
  refine (dScore_at _ d r k).trans ?_
  refine (congrArg₂ (fun x y : EReal => x * ((d (ix2 r k) : EReal) - y)) (prob_head H hs r k) (mean_head H hs hd r)).trans ?_
  refine (congrArg (fun x : EReal => _ * (x - _)) (hd r k)).trans ?_
  rw [← EReal.coe_sub, ← EReal.coe_mul]
  refine congrArg Real.toEReal ?_
  by_cases hk : Args.Ok n r.val k
  · rw [Args.rawG_dp k hk]; rfl
  · unfold Args.P Args.D
    rw [pr_of_not _ _ _ hk, dsc_of_not _ _ _ _ hk, zero_mul]

theorem sink_head (hh : h < 16) (acc : FVec Ideal S1x128 .f32) (A : ℕ → ℝ) (hA : ∀ l : Fin 128, acc (ix2 0 l) = (A l.val : EReal)) (l : Fin 128) :
    sinkAdd (F := Ideal) (BitVec.ofNat 32 h) (probSink B.valid s (I.σ h : EReal)) (prob B.valid s (I.σ h : EReal)) d acc (ix2 0 l)
      = ((A l.val + if l.val = h then I.de n h else 0 : ℝ) : EReal) := by
  refine (sinkAdd_at ⟨h, hh⟩ _ _ d acc l).trans ?_
  rw [EReal.coe_add]
  refine congrArg₂ (fun x y : EReal => x + y) (hA l) ?_
  by_cases hl : l.val = h
  · rw [if_pos hl, if_pos hl]
    refine (congrArg (fun x : EReal => 0 - x) (Finset.sum_congr rfl fun r _ =>
      (congrArg₂ (fun x y : EReal => x * y) (probSink_head H hs r) (mean_head H hs hd r)).trans (EReal.coe_mul _ _).symm)).trans ?_
    rw [← coe_sum, ← EReal.coe_zero, ← EReal.coe_sub]
    refine congrArg Real.toEReal ?_
    unfold Args.de Args.E dsk
    rw [Finset.sum_neg_distrib, zero_sub]
  · rw [if_neg hl, if_neg hl, EReal.coe_zero]
end

end Cert.KernelIdeal.Attn

end
-- ==== Proof.Math.KerOut.lean ====
/- A block's results over real arguments: the gradients of its queries, of its window's keys and values, of the sinks. -/
module

public import proofs.«01_k».proof.Proof.Math.KerRow

@[expose] public section

set_option maxRecDepth 8192
set_option maxHeartbeats 100000

noncomputable section

namespace Cert.KernelIdeal.Attn

open Cert.KernelIdeal.Gen
open Idealize.ShloMosaic Idealize.ShloMosaic.TcCoe
open Cert.Row

theorem before_at (c : FVec Ideal S128x128 .f32) (x : FVec Ideal S256x128 .f32) (r l : Fin 128) :
    Blk.dKV (F := Ideal) c x (ix2 r l) = (c (ix2 r l) : EReal) + (x (ix2 ⟨r.val, by omega⟩ l) : EReal) := by
  pointwise [Blk.dKV, Blk.before]
theorem here_at (x : FVec Ideal S256x128 .f32) (r l : Fin 128) : Blk.here (F := Ideal) x (ix2 r l) = (x (ix2 ⟨128 + r.val, by omega⟩ l) : EReal) := by
  pointwise [Blk.here]
theorem scaled_at (x : FVec Ideal S256x128 .f32) (k : Fin 256) (l : Fin 128) :
    (mulf x (broadcast S256x128 (Scalar.ofBits .f32 0x3E000000#32)) : FVec Ideal S256x128 .f32) (ix2 k l) = (x (ix2 k l) : EReal) * ((1 / 8 : ℝ) : EReal) := by
  pointwise
  rw [eighth]
theorem outSink_at (B : Blk Ideal) (d : Vec Ideal S1x128 .f32) (l : Fin 128) :
    B.outSink d (ix2 0 l) = ((d : FVec Ideal S1x128 .f32) (ix2 0 l) : EReal) + (B.sinks 8 le_rfl (ix2 0 l) : EReal) := by
  unfold Blk.outSink
  generalize B.sinks 8 le_rfl = s
  pointwise
theorem sinks_zero (B : Blk Ideal) (h : 0 ≤ 8) (l : Fin 128) : B.sinks 0 h (ix2 0 l) = (0 : EReal) := by
  unfold Blk.sinks
  pointwise

/-- Eight heads, two by two. -/
theorem sum_heads (g : ℕ) (f : ℕ → ℕ → ℝ) :
    (∑ a : Fin 8, ∑ r : Fin 128, f (8 * g + a.val) r.val)
      = (∑ a : Fin 4, ∑ r : Fin 128, f (8 * g + 2 * a.val) r.val) + ∑ a : Fin 4, ∑ r : Fin 128, f (8 * g + 2 * a.val + 1) r.val := by
  rw [sum_parts 4 2 rfl (fun a => ∑ r : Fin 128, f (8 * g + a) r.val), ← Finset.sum_add_distrib]
  exact Finset.sum_congr rfl fun a _ => Fin.sum_univ_two _

variable {B : Blk Ideal} {I : Args} {n : ℕ} (H : BlkHolds B I n)
include H

theorem P_at (j : Fin 8) (r : Fin 128) (y : Fin 512) : B.P j (ix2 r y) = (I.P n (2 * j.val + y.val / 256) r.val ⟨y.val % 256, by omega⟩ : EReal) := by
  refine (beside_at _ _ r y).trans ?_
  by_cases h : y.val < 256
  · rw [dif_pos h]
    refine (congrArg (fun σ : EReal => prob (F := Ideal) B.valid (lo (B.S j)) σ (ix2 r ⟨y.val, h⟩)) (H.σ (Blk.even j))).trans ?_
    refine (prob_head H (lo_raw H j) r _).trans (congrArg Real.toEReal ?_)
    exact congrArg₂ (fun h k => I.P n h r.val k) (by show _ = 2 * j.val + y.val / 256; omega) (Fin.ext (by show y.val = y.val % 256; omega))
  · rw [dif_neg h]
    refine (congrArg (fun σ : EReal => prob (F := Ideal) B.valid (hi (B.S j)) σ (ix2 r ⟨y.val - 256, by omega⟩)) (H.σ (Blk.odd j))).trans ?_
    refine (prob_head H (hi_raw H j) r _).trans (congrArg Real.toEReal ?_)
    exact congrArg₂ (fun h k => I.P n h r.val k) (by show _ = 2 * j.val + y.val / 256; omega) (Fin.ext (by show y.val - 256 = y.val % 256; omega))

theorem dS_at (j : Fin 8) (r : Fin 128) (y : Fin 512) : B.dS j (ix2 r y) = (I.D n (2 * j.val + y.val / 256) r.val ⟨y.val % 256, by omega⟩ : EReal) := by
  refine (beside_at _ _ r y).trans ?_
  by_cases h : y.val < 256
  · rw [dif_pos h]
    refine (congrArg (fun σ : EReal => dScore (F := Ideal) (prob B.valid (lo (B.S j)) σ) (lo (B.dP j)) (ix2 r ⟨y.val, h⟩)) (H.σ (Blk.even j))).trans ?_
    refine (dScore_head H (lo_raw H j) (lo_rawG H j) r _).trans (congrArg Real.toEReal ?_)
    exact congrArg₂ (fun h k => I.D n h r.val k) (by show _ = 2 * j.val + y.val / 256; omega) (Fin.ext (by show y.val = y.val % 256; omega))
  · rw [dif_neg h]
    refine (congrArg (fun σ : EReal => dScore (F := Ideal) (prob B.valid (hi (B.S j)) σ) (hi (B.dP j)) (ix2 r ⟨y.val - 256, by omega⟩)) (H.σ (Blk.odd j))).trans ?_
    refine (dScore_head H (hi_raw H j) (hi_rawG H j) r _).trans (congrArg Real.toEReal ?_)
    exact congrArg₂ (fun h k => I.D n h r.val k) (by show _ = 2 * j.val + y.val / 256; omega) (Fin.ext (by show y.val - 256 = y.val % 256; omega))

/-! ## The queries -/

theorem dQ_coe (j : Fin 8) (r l : Fin 128) : B.dQ j (ix2 r l) = (I.dq n (2 * j.val + l.val / 64) r.val (l.val % 64) : EReal) := by
  refine (dQ_at (B.dS j) (B.K (Blk.grp j)) r l).trans ?_
  refine (congrArg (fun x : EReal => x * ((1 / 8 : ℝ) : EReal)) (Finset.sum_congr rfl fun y _ =>
    (congrArg₂ (fun x y : EReal => x * y) (dS_at H j r y) (K_at H _ y l)).trans (EReal.coe_mul _ _).symm)).trans ?_
  rw [← coe_sum, ← EReal.coe_mul]
  refine congrArg Real.toEReal ?_
  have e := tl_col (Blk.grp j).val (I.win n) (fun y => I.D n (2 * j.val + y / 256) r.val ⟨y % 256, by omega⟩) l.val l.isLt
  rw [e, Finset.sum_mul]
  unfold Args.dq
  refine Finset.sum_congr rfl fun k _ => congrArg (· * (1 / 8 : ℝ)) ?_
  have e1 : 2 * j.val + (256 * (l.val / 64) + k.val) / 256 = 2 * j.val + l.val / 64 := by omega
  have e2 : (⟨(256 * (l.val / 64) + k.val) % 256, by omega⟩ : Fin 256) = k := Fin.ext (by show (256 * (l.val / 64) + k.val) % 256 = k.val; omega)
  have e3 : (Blk.grp j).val = (2 * j.val + l.val / 64) / 8 := by show j.val / 4 = _; omega
  simp only [e1, e2, e3]
  by_cases hk : Args.Ok n r.val k
  · rw [Args.win_key hk]
  · unfold Args.D
    rw [dsc_of_not _ _ _ _ hk, zero_mul, zero_mul]

theorem outQ_coe (r : Fin 128) (c : Fin 1024) : B.outQ (ix2 r c) = (I.dq n (c.val / 64) r.val (c.val % 64) : EReal) := by
  refine (dQ_coe H ⟨c.val / 128, by omega⟩ r ⟨c.val % 128, by omega⟩).trans (congrArg Real.toEReal ?_)
  exact congrArg₂ (fun h d => I.dq n h r.val d) (by show 2 * (c.val / 128) + c.val % 128 / 64 = _; omega) (by show c.val % 128 % 64 = _; omega)

/-! ## The keys and the values -/

theorem gK_at (g : Fin 2) (y : Fin 512) (l : Fin 128) : B.gK g (ix2 y l)
    = ((∑ a : Fin 4, ∑ r : Fin 128, I.D n (8 * g.val + 2 * a.val + y.val / 256) r.val ⟨y.val % 256, by omega⟩
        * I.q (128 * n + r.val) (64 * (8 * g.val + 2 * a.val) + l.val) : ℝ) : EReal) := by
  refine (cols_at _ _ y l).trans ?_
  refine (Finset.sum_congr rfl fun R _ => (congrArg₂ (fun x y : EReal => x * y) (dS_at H _ _ y) (H.q _ _ l)).trans (EReal.coe_mul _ _).symm).trans ?_
  rw [← coe_sum]
  refine congrArg Real.toEReal ?_
  refine (sum_parts 4 128 rfl (fun R => I.D n (2 * (4 * g.val + R / 128) + y.val / 256) (R % 128) ⟨y.val % 256, by omega⟩
    * I.q (128 * n + R % 128) (128 * (4 * g.val + R / 128) + l.val))).trans ?_
  refine Finset.sum_congr rfl fun a _ => Finset.sum_congr rfl fun r _ => ?_
  rw [show (128 * a.val + r.val) / 128 = a.val by omega, show (128 * a.val + r.val) % 128 = r.val by omega,
    show 2 * (4 * g.val + a.val) = 8 * g.val + 2 * a.val by omega, show 128 * (4 * g.val + a.val) = 64 * (8 * g.val + 2 * a.val) by omega]

theorem gV_at (g : Fin 2) (y : Fin 512) (l : Fin 128) : B.gV g (ix2 y l)
    = ((∑ a : Fin 4, ∑ r : Fin 128, I.P n (8 * g.val + 2 * a.val + y.val / 256) r.val ⟨y.val % 256, by omega⟩
        * I.g (128 * n + r.val) (64 * (8 * g.val + 2 * a.val) + l.val) : ℝ) : EReal) := by
  refine (cols_at _ _ y l).trans ?_
  refine (Finset.sum_congr rfl fun R _ => (congrArg₂ (fun x y : EReal => x * y) (P_at H _ _ y) (H.g _ _ l)).trans (EReal.coe_mul _ _).symm).trans ?_
  rw [← coe_sum]
  refine congrArg Real.toEReal ?_
  refine (sum_parts 4 128 rfl (fun R => I.P n (2 * (4 * g.val + R / 128) + y.val / 256) (R % 128) ⟨y.val % 256, by omega⟩
    * I.g (128 * n + R % 128) (128 * (4 * g.val + R / 128) + l.val))).trans ?_
  refine Finset.sum_congr rfl fun a _ => Finset.sum_congr rfl fun r _ => ?_
  rw [show (128 * a.val + r.val) / 128 = a.val by omega, show (128 * a.val + r.val) % 128 = r.val by omega,
    show 2 * (4 * g.val + a.val) = 8 * g.val + 2 * a.val by omega, show 128 * (4 * g.val + a.val) = 64 * (8 * g.val + 2 * a.val) by omega]

omit H in
/-- Two tiles folded back: each lane's sum over its group's eight heads. -/
theorem unpad_coe (x : Fin 2 → FVec Ideal S512x128 .f32) (W : ℕ → ℕ → Fin 256 → ℝ) (Q : ℕ → ℕ → ℝ)
    (hx : ∀ (g : Fin 2) (y : Fin 512) (l : Fin 128), x g (ix2 y l) = ((∑ a : Fin 4, ∑ r : Fin 128,
      W (8 * g.val + 2 * a.val + y.val / 256) r.val ⟨y.val % 256, by omega⟩ * Q r.val (64 * (8 * g.val + 2 * a.val) + l.val) : ℝ) : EReal))
    (k : Fin 256) (l : Fin 128) : Blk.unpad (F := Ideal) (x 0) (x 1) (ix2 k l)
      = ((∑ a : Fin 8, ∑ r : Fin 128, W (8 * (l.val / 64) + a.val) r.val k * Q r.val (64 * (8 * (l.val / 64) + a.val) + l.val % 64) : ℝ) : EReal) := by
  refine (unpad_at _ _ k l).trans ?_
  rw [sum_heads (l.val / 64) (fun h r => W h r k * Q r (64 * h + l.val % 64)), EReal.coe_add]
  have ek : ∀ e : ℕ, (⟨(256 * e + k.val) % 256, by omega⟩ : Fin 256) = k := fun e => Fin.ext (by show (256 * e + k.val) % 256 = k.val; omega)
  by_cases hl : l.val < 64
  · rw [if_pos hl, if_pos hl, add_zero]
    refine congrArg₂ (fun x y : EReal => x + y) ((hx 0 _ _).trans (congrArg Real.toEReal ?_)) ((hx 0 _ _).trans (congrArg Real.toEReal ?_))
    · refine Finset.sum_congr rfl fun a _ => Finset.sum_congr rfl fun r _ => ?_
      refine congrArg₂ (· * ·) (congrArg₂ (fun h k => W h r.val k) ?_ (Fin.ext ?_)) (congrArg (Q r.val) ?_)
      · show 8 * 0 + 2 * a.val + k.val / 256 = _; omega
      · show k.val % 256 = k.val; omega
      · show 64 * (8 * 0 + 2 * a.val) + l.val = _; omega
    · refine Finset.sum_congr rfl fun a _ => Finset.sum_congr rfl fun r _ => ?_
      refine congrArg₂ (· * ·) (congrArg₂ (fun h k => W h r.val k) ?_ (Fin.ext ?_)) (congrArg (Q r.val) ?_)
      · show 8 * 0 + 2 * a.val + (256 + k.val) / 256 = _; omega
      · show (256 + k.val) % 256 = k.val; omega
      · show 64 * (8 * 0 + 2 * a.val) + (l.val + 128 - 64) % 128 = _; omega
  · rw [if_neg hl, if_neg hl, zero_add]
    refine congrArg₂ (fun x y : EReal => x + y) ((hx 1 _ _).trans (congrArg Real.toEReal ?_)) ((hx 1 _ _).trans (congrArg Real.toEReal ?_))
    · refine Finset.sum_congr rfl fun a _ => Finset.sum_congr rfl fun r _ => ?_
      refine congrArg₂ (· * ·) (congrArg₂ (fun h k => W h r.val k) ?_ (Fin.ext ?_)) (congrArg (Q r.val) ?_)
      · show 8 * 1 + 2 * a.val + k.val / 256 = _; omega
      · show k.val % 256 = k.val; omega
      · show 64 * (8 * 1 + 2 * a.val) + (l.val + 128 - 64) % 128 = _; omega
    · refine Finset.sum_congr rfl fun a _ => Finset.sum_congr rfl fun r _ => ?_
      refine congrArg₂ (· * ·) (congrArg₂ (fun h k => W h r.val k) ?_ (Fin.ext ?_)) (congrArg (Q r.val) ?_)
      · show 8 * 1 + 2 * a.val + (256 + k.val) / 256 = _; omega
      · show (256 + k.val) % 256 = k.val; omega
      · show 64 * (8 * 1 + 2 * a.val) + l.val = _; omega

theorem dK_at (k : Fin 256) (l : Fin 128) : B.dK (ix2 k l) = (I.dkw n (l.val / 64) k (l.val % 64) : EReal) := by
  refine (scaled_at _ k l).trans ?_
  refine (congrArg (fun x : EReal => x * ((1 / 8 : ℝ) : EReal)) (unpad_coe B.gK (I.D n) (fun r => I.q (128 * n + r)) (gK_at H) k l)).trans ?_
  rw [← EReal.coe_mul]
  refine congrArg Real.toEReal ?_
  unfold Args.dkw
  rw [Finset.sum_mul]
  exact Finset.sum_congr rfl fun a _ => Finset.sum_mul _ _ _

theorem dV_at (k : Fin 256) (l : Fin 128) : B.dV (ix2 k l) = (I.dvw n (l.val / 64) k (l.val % 64) : EReal) :=
  unpad_coe B.gV (I.P n) (fun r => I.g (128 * n + r)) (gV_at H) k l

theorem outCarry_coe (r : Fin 128) (c : Fin 256) : (B.outCarry : FVec Ideal S128x256 .f32) (ix2 r c)
    = ((if c.val < 128 then I.dkw n (c.val / 64) ⟨128 + r.val, by omega⟩ (c.val % 64)
        else I.dvw n ((c.val - 128) / 64) ⟨128 + r.val, by omega⟩ ((c.val - 128) % 64) : ℝ) : EReal) := by
  unfold Blk.outCarry putHalves
  by_cases h : c.val < 128
  · refine (dif_pos h).trans ?_
    rw [if_pos h]
    exact (here_at _ r _).trans (dK_at H _ ⟨c.val, h⟩)
  · refine (dif_neg h).trans ?_
    rw [if_neg h]
    exact (here_at _ r _).trans (dV_at H _ ⟨c.val - 128, by omega⟩)

theorem outKV_coe (d : Vec Ideal S128x256 .f32) (D : ℕ → ℕ → ℝ) (hd : ∀ (r : Fin 128) (c : Fin 256), (d : FVec Ideal S128x256 .f32) (ix2 r c) = (D r.val c.val : EReal))
    (r : Fin 128) (c : Fin 256) : (B.outKV d : FVec Ideal S128x256 .bf16) (ix2 r c)
    = ((D r.val c.val + if c.val < 128 then I.dkw n (c.val / 64) ⟨r.val, by omega⟩ (c.val % 64)
        else I.dvw n ((c.val - 128) / 64) ⟨r.val, by omega⟩ ((c.val - 128) % 64) : ℝ) : EReal) := by
  unfold Blk.outKV putHalves
  rw [EReal.coe_add]
  by_cases h : c.val < 128
  · refine (dif_pos h).trans ?_
    rw [if_pos h]
    refine (before_at _ _ r ⟨c.val, h⟩).trans (congrArg₂ (fun x y : EReal => x + y) ?_ (dK_at H _ ⟨c.val, h⟩))
    refine Eq.trans ?_ (hd r c)
    refine congrArg (d : FVec Ideal S128x256 .f32) ?_
    funext a
    match a with
    | ⟨0, _⟩ => exact Fin.ext (by show 0 + 1 * r.val = r.val; omega)
    | ⟨1, _⟩ => exact Fin.ext (by show 0 + 1 * c.val = c.val; omega)
  · refine (dif_neg h).trans ?_
    rw [if_neg h]
    refine (before_at _ _ r ⟨c.val - 128, by omega⟩).trans (congrArg₂ (fun x y : EReal => x + y) ?_ (dV_at H _ ⟨c.val - 128, by omega⟩))
    refine Eq.trans ?_ (hd r c)
    refine congrArg (d : FVec Ideal S128x256 .f32) ?_
    funext a
    match a with
    | ⟨0, _⟩ => exact Fin.ext (by show 0 + 1 * r.val = r.val; omega)
    | ⟨1, _⟩ => exact Fin.ext (by show 128 + 1 * (c.val - 128) = c.val; omega)

/-! ## The sinks -/

theorem sinks_coe : ∀ (k : ℕ) (hk : k ≤ 8) (l : Fin 128), B.sinks k hk (ix2 0 l) = ((if l.val < 2 * k then I.de n l.val else 0 : ℝ) : EReal)
  | 0, hk, l => by rw [if_neg (by omega), EReal.coe_zero]; exact sinks_zero B hk l
  | k + 1, hk, l => by
    have ih := sinks_coe k (Nat.le_of_succ_le hk)
    have hk0 : 2 * k < 16 := by omega
    have hk1 : 2 * k + 1 < 16 := by omega
    have h1 := sink_head H (lo_raw H ⟨k, hk⟩) (lo_rawG H ⟨k, hk⟩) hk0 _
      (fun l => if l < 2 * k then I.de n l else 0) ih
    have h2 := sink_head H (hi_raw H ⟨k, hk⟩) (hi_rawG H ⟨k, hk⟩) hk1 _
      (fun l => (if l < 2 * k then I.de n l else 0) + if l = 2 * k then I.de n (2 * k) else 0) h1 l
    have e0 : B.σ (Blk.even ⟨k, hk⟩) = (I.σ (2 * k) : EReal) := H.σ _
    have e1 : B.σ (Blk.odd ⟨k, hk⟩) = (I.σ (2 * k + 1) : EReal) := H.σ _
    unfold Blk.sinks pairSink
    rw [e0, e1]
    refine h2.trans (congrArg Real.toEReal ?_)
    dsimp only
    rcases Nat.lt_trichotomy l.val (2 * k) with h | h | h
    · rw [if_pos h, if_neg (by omega), if_neg (by omega), if_pos (by omega), add_zero, add_zero]
    · rw [if_neg (by omega), if_pos h, if_neg (by omega), if_pos (by omega), add_zero, zero_add, h]
    · by_cases h3 : l.val = 2 * k + 1
      · rw [if_neg (by omega), if_neg (by omega), if_pos h3, if_pos (by omega), zero_add, zero_add, h3]
      · rw [if_neg (by omega), if_neg (by omega), if_neg h3, if_neg (by omega), zero_add, zero_add]

theorem outSink_coe (d : Vec Ideal S1x128 .f32) (D : ℕ → ℝ) (hd : ∀ l : Fin 128, (d : FVec Ideal S1x128 .f32) (ix2 0 l) = (D l.val : EReal)) (l : Fin 128) :
    (B.outSink d : FVec Ideal S1x128 .f32) (ix2 0 l) = ((D l.val + if l.val < 16 then I.de n l.val else 0 : ℝ) : EReal) := by
  refine (outSink_at B d l).trans ?_
  rw [EReal.coe_add]
  exact congrArg₂ (fun x y : EReal => x + y) (hd l) (sinks_coe H 8 le_rfl l)

end Cert.KernelIdeal.Attn

end
-- ==== Proof.Attn.Zero.lean ====
/- A half read of a carry just set to zero. -/
module

public import proofs.«01_k».proof.Proof.Attn.Block
public import Idealize.ShloMosaic.Lib.Pipeline.Value

@[expose] public section

set_option maxRecDepth 16384

noncomputable section

namespace Cert.KernelIdeal.Attn

open Idealize.ShloMosaic Idealize.ShloMosaic.TcCoe
open Idealize.ShloMosaic.Pointwise
open Cert.KernelIdeal.Gen

variable {F : FTy → Type} [FloatOps F] [Named F]

/-- The left half read of a buffer just filled with the carry at the start. -/
theorem left_zero {κ : Kind} {sp : Space} (v : View sig κ sp S128x256 .f32) :
    v.readCov (Val := Elt F) [⟨Rect.unit ![0, 0] S128x256.size inb_S128x256_S128x256_0_0, k0_pay2 (F := F)⟩] leftRect.toLoadRect = leftOf carry0 := by
  unfold View.readCov
  rw [View.readAt_eq_ld, View.read_writes_full]
  rfl
/-- The right half of it. -/
theorem right_zero {κ : Kind} {sp : Space} (v : View sig κ sp S128x256 .f32) :
    v.readCov (Val := Elt F) [⟨Rect.unit ![0, 0] S128x256.size inb_S128x256_S128x256_0_0, k0_pay2 (F := F)⟩] rightRect.toLoadRect = rightOf carry0 := by
  unfold View.readCov
  rw [View.readAt_eq_ld, View.read_writes_full]
  rfl

end Cert.KernelIdeal.Attn

end
-- ==== Proof.Attn.RunC.lean ====
/- The body at the last point: it writes the keys' and values' gradients of the last block from the carry. -/
module

public import proofs.«01_k».proof.Proof.Attn.Block
public import Idealize.ShloMosaic.Lib.Pipeline.FrameBody
public import Idealize.ShloMosaic.Lib.Tactic

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at the last point: it writes the keys' and values' gradients of the last block from the carry. -/
theorem runC (c : Dev nD) (i : grid0.Coords) (arg1 : Memref sig .tc .smem S1x16 .f32) (harg1 : arg1.IsWhole) (arg2 : Memref sig .tc .vmem S128x1024 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x256 .bf16) (harg7 : arg7.IsWhole) (arg8 : Memref sig .tc .vmem S1x128 .f32) (harg8 : arg8.IsWhole) (arg9 : Memref sig .tc .vmem S128x256 .f32) (harg9 : arg9.IsWhole) (hc0 : ¬cond0_0 i) (hc1 : ¬cond0_1 i) (hc2 : cond0_2 i)
    (x0 : Vec F S1x16 .f32) (x1 : Vec F S128x1024 .bf16) (x2 : Vec F S128x256 .bf16) (x3 : Vec F S128x256 .bf16) (x4 : Vec F S128x1024 .bf16) (d6 : Vec F S128x1024 .bf16) (d8 : Vec F S1x128 .f32) (d9 : Vec F S128x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare d6 ∗ (∃ d, owns (c : Thread nD τ) arg7 fullShare d) ∗ owns (c : Thread nD τ) arg8 fullShare d8 ∗ owns (c : Thread nD τ) arg9 fullShare d9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare d6 ∗ owns (c : Thread nD τ) arg7 fullShare (k0_pay3 d9) ∗ owns (c : Thread nD τ) arg8 fullShare d8 ∗ owns (c : Thread nD τ) arg9 fullShare d9) -∗ K ⟨⟩))
      ⊢ wp frame (wpE (defs₀ (F := F)) Variants.none c none) E (cc0_attn_bwd i arg1 harg1 arg2 harg2 arg3 harg3 arg4 harg4 arg5 harg5 arg6 harg6 arg7 harg7 arg8 harg8 arg9 harg9) K := by
  simp only [cc0_attn_bwd_eq_skeleton]; unfold cc0_attn_bwd_skel
  simp only [k0_part22_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
  obtain rfl := harg1.eq_unread hf0; obtain rfl := harg2.eq_unread hf1; obtain rfl := harg3.eq_unread hf2; obtain rfl := harg4.eq_unread hf3; obtain rfl := harg5.eq_unread hf4
  obtain rfl := harg6.eq_unread hf5; obtain rfl := harg8.eq_unread hf7; obtain rfl := harg9.eq_unread hfs0
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro
    have h9 : View.readAt (Elt F) arg9.view (Rect.unit ![0, 0] S128x256.size inb_S128x256_S128x256_0_0).toLoadRect (harg9.unread d9) = d9 :=
      funext fun y => (harg9.readAt_unread d9 _ y).trans (congrArg d9 (Rect.emb_unit_full inb_S128x256_S128x256_0_0 y))
    refine (View.read_writes_full arg7.view _ inb_S128x256_S128x256_0_0 _ []).trans ?_
    conv_rhs => rw [← h9]
  isplitl [H7]
  · iexists _; isplitr; · ipureintro; exact harg8.read_unread _
    iexact H7
  iexists _; isplitr; · ipureintro; exact harg9.read_unread _
  iexact HS0

end Cert.KernelIdeal.Attn

end
-- ==== Proof.Attn.RunA.lean ====
/- The body at the first point: it clears the sinks and the carry, then writes the gradients of its block. -/
module

public import proofs.«01_k».proof.Proof.Attn.Zero
public import proofs.«01_k».proof.Proof.Attn.RunC
public import Idealize.ShloMosaic.Lib.Pipeline.FrameBody
public import Idealize.ShloMosaic.Lib.Tactic

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at the first point: it clears the sinks and the carry, then writes the gradients of its block. -/
theorem runA (c : Dev nD) (i : grid0.Coords) (arg1 : Memref sig .tc .smem S1x16 .f32) (harg1 : arg1.IsWhole) (arg2 : Memref sig .tc .vmem S128x1024 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x256 .bf16) (harg7 : arg7.IsWhole) (arg8 : Memref sig .tc .vmem S1x128 .f32) (harg8 : arg8.IsWhole) (arg9 : Memref sig .tc .vmem S128x256 .f32) (harg9 : arg9.IsWhole) (hc0 : cond0_0 i) (hc1 : cond0_1 i) (hc2 : ¬cond0_2 i)
    (x0 : Vec F S1x16 .f32) (x1 : Vec F S128x1024 .bf16) (x2 : Vec F S128x256 .bf16) (x3 : Vec F S128x256 .bf16) (x4 : Vec F S128x1024 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (blkAt (BitVec.ofNat 32 (i 0).val) x0 x1 x2 x3 x4).outQ ∗ owns (c : Thread nD τ) arg7 fullShare ((blkAt (BitVec.ofNat 32 (i 0).val) x0 x1 x2 x3 x4).outKV carry0) ∗ owns (c : Thread nD τ) arg8 fullShare ((blkAt (BitVec.ofNat 32 (i 0).val) x0 x1 x2 x3 x4).outSink sink0) ∗ owns (c : Thread nD τ) arg9 fullShare (blkAt (BitVec.ofNat 32 (i 0).val) x0 x1 x2 x3 x4).outCarry) -∗ K ⟨⟩))
      ⊢ wp frame (wpE (defs₀ (F := F)) Variants.none c none) E (cc0_attn_bwd i arg1 harg1 arg2 harg2 arg3 harg3 arg4 harg4 arg5 harg5 arg6 harg6 arg7 harg7 arg8 harg8 arg9 harg9) K := by
  simp only [cc0_attn_bwd_eq_skeleton]; unfold cc0_attn_bwd_skel
  simp only [k0_part22_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  rw [← blkLd_eq (BitVec.ofNat 32 (i 0).val) arg1 harg1 arg2 harg2 arg3 harg3 arg4 harg4 arg5 harg5 x0 x1 x2 x3 x4]
  have hK : runA.sl.v922 c i arg1 harg1 arg2 harg2 arg3 harg3 arg4 harg4 arg5 harg5 x0 x1 x2 x3 x4 = (blkLd (BitVec.ofNat 32 (i 0).val) arg1 harg1 arg2 harg2 arg3 harg3 arg4 harg4 arg5 harg5 x0 x1 x2 x3 x4).dK := rfl
  have hV : k0_pay264 (runA.sl.v908 c i arg1 harg1 arg2 harg2 arg3 harg3 arg4 harg4 arg5 harg5 x0 x1 x2 x3 x4) (runA.sl.v909 c i arg1 harg1 arg2 harg2 arg3 harg3 arg4 harg4 arg5 harg5 x0 x1 x2 x3 x4) (cmpi CmpIPredicate.slt runA.sl.v31 runA.sl.v32) runA.sl.v37 (runA.sl.v925 c i arg1 harg1 arg2 harg2 arg3 harg3 arg4 harg4 arg5 harg5 x0 x1 x2 x3 x4)
      = (blkLd (BitVec.ofNat 32 (i 0).val) arg1 harg1 arg2 harg2 arg3 harg3 arg4 harg4 arg5 harg5 x0 x1 x2 x3 x4).dV := rfl
  isplitl [H5]
  · iexists _; isplitr; swap; · iexact H5
    ipureintro
    exact read_cols arg6.view f5 (blkLd (BitVec.ofNat 32 (i 0).val) arg1 harg1 arg2 harg2 arg3 harg3 arg4 harg4 arg5 harg5 x0 x1 x2 x3 x4).dQ
  isplitl [H6]
  · iexists _; isplitr; swap; · iexact H6
    ipureintro
    have hl : (runA.sl.v930 c arg9 : Vec F S128x128 .f32) = leftOf carry0 := left_zero arg9.view
    have hr : (runA.sl.v935 c arg9 : Vec F S128x128 .f32) = rightOf carry0 := right_zero arg9.view
    rw [pay264_V, pay265_K, hK, hV, hl, hr]
    exact read_halves (e := .bf16) arg7.view f6 _ _
  isplitl [H7]
  · iexists _; isplitr; swap; · iexact H7
    ipureintro
    have h8 : (runA.sl.v870 c arg8 : Vec F S1x128 .f32) = sink0 := View.readCov_full arg8.view _ _ _ _
    refine (View.read_writes_full arg8.view _ inb_S1x128_S1x128_0_0 _ _).trans ?_
    unfold Blk.outSink
    conv_rhs => rw [← h8]
    rfl
  iexists _; isplitr; swap; · iexact HS0
  ipureintro
  rw [pay264_here, pay267_here, hK, hV]
  exact read_halves (e := .f32) arg9.view _ _ _

end Cert.KernelIdeal.Attn

end
-- ==== Proof.Attn.RunB.lean ====
/- The body at a point between the first and the last: it writes the gradients of its block, over the carry and the sinks it is handed. -/
module

public import proofs.«01_k».proof.Proof.Attn.RunA
public import Idealize.ShloMosaic.Lib.Pipeline.FrameBody
public import Idealize.ShloMosaic.Lib.Tactic

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at a point between the first and the last: it writes the gradients of its block, over the carry and the sinks it is handed. -/
theorem runB (c : Dev nD) (i : grid0.Coords) (arg1 : Memref sig .tc .smem S1x16 .f32) (harg1 : arg1.IsWhole) (arg2 : Memref sig .tc .vmem S128x1024 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x256 .bf16) (harg7 : arg7.IsWhole) (arg8 : Memref sig .tc .vmem S1x128 .f32) (harg8 : arg8.IsWhole) (arg9 : Memref sig .tc .vmem S128x256 .f32) (harg9 : arg9.IsWhole) (hc0 : ¬cond0_0 i) (hc1 : cond0_1 i) (hc2 : ¬cond0_2 i)
    (x0 : Vec F S1x16 .f32) (x1 : Vec F S128x1024 .bf16) (x2 : Vec F S128x256 .bf16) (x3 : Vec F S128x256 .bf16) (x4 : Vec F S128x1024 .bf16) (d8 : Vec F S1x128 .f32) (d9 : Vec F S128x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare d8 ∗ owns (c : Thread nD τ) arg9 fullShare d9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (blkAt (BitVec.ofNat 32 (i 0).val) x0 x1 x2 x3 x4).outQ ∗ owns (c : Thread nD τ) arg7 fullShare ((blkAt (BitVec.ofNat 32 (i 0).val) x0 x1 x2 x3 x4).outKV d9) ∗ owns (c : Thread nD τ) arg8 fullShare ((blkAt (BitVec.ofNat 32 (i 0).val) x0 x1 x2 x3 x4).outSink d8) ∗ owns (c : Thread nD τ) arg9 fullShare (blkAt (BitVec.ofNat 32 (i 0).val) x0 x1 x2 x3 x4).outCarry) -∗ K ⟨⟩))
      ⊢ wp frame (wpE (defs₀ (F := F)) Variants.none c none) E (cc0_attn_bwd i arg1 harg1 arg2 harg2 arg3 harg3 arg4 harg4 arg5 harg5 arg6 harg6 arg7 harg7 arg8 harg8 arg9 harg9) K := by
  simp only [cc0_attn_bwd_eq_skeleton]; unfold cc0_attn_bwd_skel
  simp only [k0_part22_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%fs0, %hfs0, HS0⟩, Hk⟩
  obtain rfl := harg1.eq_unread hf0; obtain rfl := harg2.eq_unread hf1; obtain rfl := harg3.eq_unread hf2; obtain rfl := harg4.eq_unread hf3; obtain rfl := harg5.eq_unread hf4
  obtain rfl := harg8.eq_unread hf7; obtain rfl := harg9.eq_unread hfs0
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  rw [← blkLd_eq (BitVec.ofNat 32 (i 0).val) arg1 harg1 arg2 harg2 arg3 harg3 arg4 harg4 arg5 harg5 x0 x1 x2 x3 x4]
  have hK : runB.sl.v922 c i arg1 harg1 arg2 harg2 arg3 harg3 arg4 harg4 arg5 harg5 x0 x1 x2 x3 x4 = (blkLd (BitVec.ofNat 32 (i 0).val) arg1 harg1 arg2 harg2 arg3 harg3 arg4 harg4 arg5 harg5 x0 x1 x2 x3 x4).dK := rfl
  have hV : k0_pay264 (runB.sl.v908 c i arg1 harg1 arg2 harg2 arg3 harg3 arg4 harg4 arg5 harg5 x0 x1 x2 x3 x4) (runB.sl.v909 c i arg1 harg1 arg2 harg2 arg3 harg3 arg4 harg4 arg5 harg5 x0 x1 x2 x3 x4) (cmpi CmpIPredicate.slt runB.sl.v31 runB.sl.v32) runB.sl.v37 (runB.sl.v925 c i arg1 harg1 arg2 harg2 arg3 harg3 arg4 harg4 arg5 harg5 x0 x1 x2 x3 x4)
      = (blkLd (BitVec.ofNat 32 (i 0).val) arg1 harg1 arg2 harg2 arg3 harg3 arg4 harg4 arg5 harg5 x0 x1 x2 x3 x4).dV := rfl
  isplitl [H5]
  · iexists _; isplitr; swap; · iexact H5
    ipureintro
    exact read_cols arg6.view f5 (blkLd (BitVec.ofNat 32 (i 0).val) arg1 harg1 arg2 harg2 arg3 harg3 arg4 harg4 arg5 harg5 x0 x1 x2 x3 x4).dQ
  isplitl [H6]
  · iexists _; isplitr; swap; · iexact H6
    ipureintro
    have hl : View.readAt (Elt F) arg9.view leftRect.toLoadRect (harg9.unread d9) = leftOf d9 := funext fun y => harg9.readAt_unread d9 _ y
    have hr : View.readAt (Elt F) arg9.view rightRect.toLoadRect (harg9.unread d9) = rightOf d9 := funext fun y => harg9.readAt_unread d9 _ y
    rw [pay264_V, pay265_K, hK, hV, hl, hr]
    exact read_halves (e := .bf16) arg7.view f6 _ _
  isplitl [H7]
  · iexists _; isplitr; swap; · iexact H7
    ipureintro
    have h8 : View.readAt (Elt F) arg8.view (Rect.unit ![0, 0] S1x128.size inb_S1x128_S1x128_0_0).toLoadRect (harg8.unread d8) = d8 := funext fun y => (harg8.readAt_unread d8 _ y).trans (congrArg d8 (Rect.emb_unit_full inb_S1x128_S1x128_0_0 y))
    refine (View.read_writes_full arg8.view _ inb_S1x128_S1x128_0_0 _ []).trans ?_
    unfold Blk.outSink
    conv_rhs => rw [← h8]
    rfl
  iexists _; isplitr; swap; · iexact HS0
  ipureintro
  rw [pay264_here, pay267_here, hK, hV]
  exact read_halves (e := .f32) arg9.view _ _ _

end Cert.KernelIdeal.Attn

end
-- ==== Proof.Attn.Data.lean ====
/- What the launch holds at each point: the block of a point, the carried gradients of the keys and values, the sinks'
   gradients summed so far, and the proof data made of them. -/
module

public import proofs.«01_k».proof.Proof.Attn.RunB

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The contents, point by point -/

/-- The point a block is worked on (the last block for any later number). -/
def pt (n : ℕ) : Fin cfg0.N := ⟨min n 31, by rw [show cfg0.N = 33 from N_0]; omega⟩

theorem pt_eq (t : Fin cfg0.N) (h : t.val < 32) : pt t.val = t := Fin.ext (by show min t.val 31 = t.val; omega)

/-- Block `n` of core `c`'s arrays. -/
def blkN (c : Dev nD) (n : ℕ) : Blk F :=
  blkAt (BitVec.ofNat 32 (grid0.coords (pt n) 0).val) (iblk m c 0 (pt n)) (iblk m c 1 (pt n)) (iblk m c 2 (pt n)) (iblk m c 3 (pt n)) (iblk m c 4 (pt n))

/-- What is carried into point `n`. -/
def held (c : Dev nD) : ℕ → Vec F S128x256 .f32
  | 0 => carry0
  | n + 1 => (blkN m c n).outCarry

/-- The sinks' gradients of the blocks before `n`. -/
def sinkN (c : Dev nD) : ℕ → Vec F S1x128 .f32
  | 0 => sink0
  | n + 1 => (blkN m c n).outSink (sinkN c n)

/-- The gradients written at point `t` for the keys and values. -/
def kvAt (c : Dev nD) (n : ℕ) : Vec F S128x256 .bf16 :=
  if n < 32 then (blkN m c n).outKV (held m c n) else k0_pay3 (held m c 32)

/-- The carried scratch and the generator's register, on entering point `t`: nothing known at the first point, what is carried later. -/
def inv (c : Dev nD) (t : ℕ) : sProp 𝕄 :=
  if t = 0 then Pipeline.ΦA spec0 c
  else iprop(owns (c : Thread nD τ) scM0_0 fullShare (held m c (min t 32)) ∗ (∃ r, prngReg c r))

/-- The proof data: each input's buffer at its block, each output's at what is written there. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (blkN m c t.val).outQ
    | ⟨6, _⟩ => kvAt m c t.val
    | ⟨7, _⟩ => sinkN m c (min (t.val + 1) 32)
  Φ t := inv m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (blkN m c t.val).outQ := by dsimp only [dats]
theorem after0_6 (c : Dev nD) (t : Fin cfg0.N) : (dats m 0 c).after 6 t = kvAt m c t.val := by dsimp only [dats]
theorem after0_7 (c : Dev nD) (t : Fin cfg0.N) : (dats m 0 c).after 7 t = sinkN m c (min (t.val + 1) 32) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The outputs' schedule -/

theorem idle5_live : ∀ t : Fin cfg0.N, t.val < 32 → cfg0.idle 5 (grid0.coords t) = false :=
  (by decide +kernel : ∀ t : Fin grid0.N, t.val < 32 → idle0 5 (grid0.coords t) = false)
theorem idle5_last : ∀ t : Fin cfg0.N, t.val = 32 → cfg0.idle 5 (grid0.coords t) = true :=
  (by decide +kernel : ∀ t : Fin grid0.N, t.val = 32 → idle0 5 (grid0.coords t) = true)
theorem idle6_live : ∀ t : Fin cfg0.N, cfg0.idle 6 (grid0.coords t) = false :=
  (by decide +kernel : ∀ t : Fin grid0.N, idle0 6 (grid0.coords t) = false)
theorem idle7_live : ∀ t : Fin cfg0.N, t.val < 32 → cfg0.idle 7 (grid0.coords t) = false :=
  (by decide +kernel : ∀ t : Fin grid0.N, t.val < 32 → idle0 7 (grid0.coords t) = false)
theorem idle7_last : ∀ t : Fin cfg0.N, t.val = 32 → cfg0.idle 7 (grid0.coords t) = true :=
  (by decide +kernel : ∀ t : Fin grid0.N, t.val = 32 → idle0 7 (grid0.coords t) = true)

theorem flush5 : ∀ t : Fin cfg0.N, (cfg0.win 5).flush t = true ↔ t.val ≠ 31 :=
  (by decide +kernel : ∀ t : Fin grid0.N, win0_5.flush t = true ↔ t.val ≠ 31)
theorem flush6 : ∀ t : Fin cfg0.N, (cfg0.win 6).flush t = true ↔ t.val ≠ 0 :=
  (by decide +kernel : ∀ t : Fin grid0.N, win0_6.flush t = true ↔ t.val ≠ 0)
theorem flush7 : ∀ t : Fin cfg0.N, (cfg0.win 7).flush t = true ↔ t.val = 32 :=
  (by decide +kernel : ∀ t : Fin grid0.N, win0_7.flush t = true ↔ t.val = 32)

/-- An output's buffer that was not written back at the point before, where the body stored into it, holds what was stored. -/
theorem before_step {c : Dev nD} (dat : Dat τ (Elt F) Unit ℕ (UR sig nD τ) ℕ cfg0 c) (w : Fin cfg0.W) (hw : (cfg0.win w).isOut = true) (t : Fin cfg0.N) (ht : t.val ≠ 0)
    (hfl : (cfg0.win w).flush ⟨t.val - 1, Nat.lt_of_le_of_lt (Nat.sub_le _ _) t.isLt⟩ = false)
    (hi : cfg0.idle w (cfg0.grid.coords ⟨t.val - 1, Nat.lt_of_le_of_lt (Nat.sub_le _ _) t.isLt⟩) = false)
    (hclip : ∀ (i : cfg0.grid.Coords) a, (cfg0.win w).clip i a = none) (d) :
    dat.before w t d = dat.after w ⟨t.val - 1, Nat.lt_of_le_of_lt (Nat.sub_le _ _) t.isLt⟩ := by
  rw [dat.before_of_pos w t ht ((cfg0.win w).fetch_out hw t), hfl, if_neg Bool.false_ne_true]
  unfold Dat.left
  rw [hi]
  show dat.kept w _ d = _
  unfold Dat.kept
  rw [Pipeline.fill_of_clip_none w _ (hclip _) d (dat.after w _), Window.fill_cut]

theorem before0_5 (c : Dev nD) (t : Fin cfg0.N) (h : t.val = 32) (d) : (dats m 0 c).before 5 t d = (blkN m c t.val).outQ := by
  rw [before_step (dats m 0 c) 5 rfl t (by omega) (by rw [← Bool.not_eq_true, flush5]; simp only [h]; decide)
    (idle5_live ⟨t.val - 1, Nat.lt_of_le_of_lt (Nat.sub_le _ _) t.isLt⟩ (by simp only [h]; decide)) (fun _ _ => rfl) d, after0_5]
  have : blkN m c (t.val - 1) = blkN m c t.val := by
    unfold blkN
    rw [show pt (t.val - 1) = pt t.val from Fin.ext (by show min (t.val - 1) 31 = min t.val 31; omega)]
  simp only [this]

theorem before0_7 (c : Dev nD) (t : Fin cfg0.N) (h : t.val ≠ 0) (d) : (dats m 0 c).before 7 t d = sinkN m c t.val := by
  have hN : t.val < 33 := lt_of_lt_of_eq t.isLt (show cfg0.N = 33 from N_0)
  rw [before_step (dats m 0 c) 7 rfl t h (by rw [← Bool.not_eq_true, flush7]; show ¬ (t.val - 1 = 32); omega)
    (idle7_live ⟨t.val - 1, Nat.lt_of_le_of_lt (Nat.sub_le _ _) t.isLt⟩ (by show t.val - 1 < 32; omega)) (fun _ _ => rfl) d, after0_7]
  congr 1
  show min (t.val - 1 + 1) 32 = t.val
  omega

end Cert.KernelIdeal.Attn

end
-- ==== Proof.Attn.Launch.lean ====
/- The launch: the body keeps the proof data at every point, so every run ends with the outputs' arrays at what was
   written back, the arguments unchanged and the counters at zero. -/
module

public import proofs.«01_k».proof.Proof.Attn.Data
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the body finds and leaves -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem inv_zero (c : Dev nD) : inv m c 0 = Pipeline.ΦA spec0 c := if_pos rfl
theorem inv_pos (c : Dev nD) (t : ℕ) (h : t ≠ 0) :
    inv m c t = iprop(owns (c : Thread nD τ) scM0_0 fullShare (held m c (min t 32)) ∗ (∃ r, prngReg c r)) := if_neg h

/-- A window where the body stores, or that is written back, is left at what the data name. -/
theorem leaves_after (c : Dev nD) (w : Fin cfg0.W) (t : Fin cfg0.N)
    (h : cfg0.idle w (cfg0.grid.coords t) = false ∨ (cfg0.win w).flush t = true) :
    (dats m 0 c).leavesExact w t = owns (c : Thread nD τ) ((cfg0.win w).stage (cfg0.slots t w)) fullShare ((dats m 0 c).after w t) := by
  unfold Dat.leavesExact
  rcases h with h | h
  · rw [h]
  · rw [h]; cases cfg0.idle w (cfg0.grid.coords t) <;> rfl

/-- Every window is left so at every point. -/
theorem leaves_all (w : Fin 8) (t : Fin cfg0.N) :
    cfg0.idle w (cfg0.grid.coords t) = false ∨ (cfg0.win w).flush t = true := by
  have hN : t.val < 33 := lt_of_lt_of_eq t.isLt (show cfg0.N = 33 from N_0)
  by_cases h : t.val < 32
  · left
    fin_cases w
    · rfl
    · rfl
    · rfl
    · rfl
    · rfl
    · exact idle5_live t h
    · exact idle6_live t
    · exact idle7_live t h
  · fin_cases w
    · exact .inl rfl
    · exact .inl rfl
    · exact .inl rfl
    · exact .inl rfl
    · exact .inl rfl
    · exact .inr ((flush5 t).mpr (by omega))
    · exact .inl (idle6_live t)
    · exact .inr ((flush7 t).mpr (by omega))

/-- Block `t` is the one the body finds at point `t`. -/
theorem blkN_eq (c : Dev nD) (t : Fin cfg0.N) (h : t.val < 32) :
    blkN m c t.val = blkAt (BitVec.ofNat 32 (grid0.coords t 0).val) (iblk m c 0 t) (iblk m c 1 t) (iblk m c 2 t) (iblk m c 3 t) (iblk m c 4 t) := by
  unfold blkN; rw [pt_eq t h]

set_option maxHeartbeats 2400000 in
/-- The body keeps the proof data at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [leaves_after m c 0 t (leaves_all 0 t), leaves_after m c 1 t (leaves_all 1 t), leaves_after m c 2 t (leaves_all 2 t), leaves_after m c 3 t (leaves_all 3 t), leaves_after m c 4 t (leaves_all 4 t), leaves_after m c 5 t (leaves_all 5 t), leaves_after m c 6 t (leaves_all 6 t), leaves_after m c 7 t (leaves_all 7 t)]
  simp only [before0_0, before0_1, before0_2, before0_3, before0_4, after0_0, after0_1, after0_2, after0_3, after0_4, after0_5, after0_6, after0_7]
  rw [show (dats m 0 c).Φ t.succ = inv m c (t.val + 1) from rfl,
    show (dats m 0 c).owesAt () t.succ = (dats m 0 c).owesAt () t.castSucc from rfl,
    show (dats m 0 c).Φ t.castSucc = inv m c t.val from rfl, inv_pos m c (t.val + 1) (Nat.succ_ne_zero _)]
  have hN : t.val < 33 := lt_of_lt_of_eq t.isLt (show cfg0.N = 33 from N_0)
  by_cases h1 : t.val < 32
  · have e1 : min (t.val + 1) 32 = t.val + 1 := by omega
    have e2 : min t.val 32 = t.val := by omega
    have ek : kvAt m c t.val = (blkN m c t.val).outKV (held m c t.val) := if_pos h1
    rw [e1, ek, show held m c (t.val + 1) = (blkN m c t.val).outCarry from rfl,
      show sinkN m c (t.val + 1) = (blkN m c t.val).outSink (sinkN m c t.val) from rfl, blkN_eq m c t h1]
    by_cases h0 : t.val = 0
    · rw [h0, inv_zero, PhiA0_eq, show held m c 0 = carry0 from rfl, show sinkN m c 0 = sink0 from rfl]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runA c (grid0.coords t) _ _ _ _ _ _ _ _ _ _ _ _ _ _ _ _ _ _ ((hcond0_0 t).mpr (by omega)) ((hcond0_1 t).mpr h1) (fun h => absurd ((hcond0_2 t).mp h) (by omega)) (iblk m c 0 t) (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      iintro ⟨H0, H1, H2, H3, H4, H5, H6, H7, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [inv_pos m c t.val h0, e2]
      simp only [before0_7 m c t h0]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runB c (grid0.coords t) _ _ _ _ _ _ _ _ _ _ _ _ _ _ _ _ _ _ (fun h => absurd ((hcond0_0 t).mp h) (by omega)) ((hcond0_1 t).mpr h1) (fun h => absurd ((hcond0_2 t).mp h) (by omega)) (iblk m c 0 t) (iblk m c 1 t) (iblk m c 2 t) (iblk m c 3 t) (iblk m c 4 t) (sinkN m c t.val) (held m c t.val) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      isplitl [HS0]; · iexact HS0
      iintro ⟨H0, H1, H2, H3, H4, H5, H6, H7, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · have h32 : t.val = 32 := by omega
    rw [inv_pos m c t.val (by omega)]
    simp only [before0_7 m c t (by omega), before0_5 m c t h32]
    rw [show min (t.val + 1) 32 = 32 by omega, show min t.val 32 = 32 by omega,
      show sinkN m c t.val = sinkN m c 32 by rw [h32], show kvAt m c t.val = k0_pay3 (held m c 32) from if_neg h1]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runC c (grid0.coords t) _ _ _ _ _ _ _ _ _ _ _ _ _ _ _ _ _ _ (fun h => absurd ((hcond0_0 t).mp h) (by omega)) (fun h => h1 ((hcond0_1 t).mp h)) ((hcond0_2 t).mpr (by omega)) (iblk m c 0 t) (iblk m c 1 t) (iblk m c 2 t) (iblk m c 3 t) (iblk m c 4 t) (blkN m c t.val).outQ (sinkN m c 32) (held m c 32) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexact HS0
    iintro ⟨H0, H1, H2, H3, H4, H5, H6, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every run ends with the outputs' arrays at what was written back, and the counters at zero. -/
theorem run_main_quiescent : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => by rw [show (dats m 0 c).Φ 0 = inv m c 0 from rfl, inv_zero])
    (hout := fun c => by
      rw [show (dats m 0 c).Φ (Fin.last cfg0.N) = inv m c cfg0.N from rfl, inv_pos m c cfg0.N (by rw [show cfg0.N = 33 from N_0]; decide), PhiA0_eq]
      iintro ⟨HS, Hg⟩
      isplitl [HS]
      · iexists _; iexact HS
      iexact Hg)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Attn

end
-- ==== Proof.Attn.Arrays.lean ====
/- The arrays: the rows of the arguments a block reads, and what the three results hold at the end of a run. -/
module

public import proofs.«01_k».proof.Proof.Attn.Launch
public import Idealize.ShloMosaic.Lib.Pipeline.Value
public import Idealize.ShloMosaic.Lib.ValueIdx

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Where the windows lie -/

theorem index1 : ∀ t : Fin cfg0.N, t.val < 32 → win0_1.index t 0 = t.val ∧ win0_1.index t 1 = 0 :=
  (by decide +kernel : ∀ t : Fin grid0.N, t.val < 32 → win0_1.index t 0 = t.val ∧ win0_1.index t 1 = 0)
theorem index2 : ∀ t : Fin cfg0.N, t.val < 32 → win0_2.index t 0 = t.val - 1 ∧ win0_2.index t 1 = 0 :=
  (by decide +kernel : ∀ t : Fin grid0.N, t.val < 32 → win0_2.index t 0 = t.val - 1 ∧ win0_2.index t 1 = 0)
theorem index3 : ∀ t : Fin cfg0.N, t.val < 32 → win0_3.index t 0 = t.val ∧ win0_3.index t 1 = 0 :=
  (by decide +kernel : ∀ t : Fin grid0.N, t.val < 32 → win0_3.index t 0 = t.val ∧ win0_3.index t 1 = 0)
theorem index4 : ∀ t : Fin cfg0.N, t.val < 32 → win0_4.index t 0 = t.val ∧ win0_4.index t 1 = 0 :=
  (by decide +kernel : ∀ t : Fin grid0.N, t.val < 32 → win0_4.index t 0 = t.val ∧ win0_4.index t 1 = 0)
theorem index5 : ∀ t : Fin cfg0.N, win0_5.index t 0 = min t.val 31 ∧ win0_5.index t 1 = 0 :=
  (by decide +kernel : ∀ t : Fin grid0.N, win0_5.index t 0 = min t.val 31 ∧ win0_5.index t 1 = 0)
theorem index6 : ∀ t : Fin cfg0.N, win0_6.index t 0 = t.val - 1 ∧ win0_6.index t 1 = 0 :=
  (by decide +kernel : ∀ t : Fin grid0.N, win0_6.index t 0 = t.val - 1 ∧ win0_6.index t 1 = 0)
theorem index0 : ∀ t : Fin cfg0.N, win0_0.index t 0 = 0 ∧ win0_0.index t 1 = 0 :=
  (by decide +kernel : ∀ t : Fin grid0.N, win0_0.index t 0 = 0 ∧ win0_0.index t 1 = 0)
theorem index7 : ∀ t : Fin cfg0.N, win0_7.index t 0 = 0 ∧ win0_7.index t 1 = 0 :=
  (by decide +kernel : ∀ t : Fin grid0.N, win0_7.index t 0 = 0 ∧ win0_7.index t 1 = 0)
theorem coord0 : ∀ t : Fin cfg0.N, (grid0.coords t 0).val = t.val :=
  (by decide +kernel : ∀ t : Fin grid0.N, (grid0.coords t 0).val = t.val)

/-! ## The arguments' rows -/

/-- A row of a block. -/
def row (b : ℕ) (r : Fin 128) (h : b < 32) : Fin 4096 := ⟨128 * b + r.val, by omega⟩

variable (c : Dev nD)

theorem iblk0_eq (t : Fin cfg0.N) : iblk m c 0 t = (m (c.tc.loc main_arg2) : Vec F S1x16 .f32) := by
  funext y
  have h0 : (y 0).val < 1 := (y 0).isLt
  unfold iblk
  rw [View.read_apply]
  show m (c.tc.loc main_arg2) _ = m (c.tc.loc main_arg2) _
  congr 1
  funext a
  apply Fin.ext
  match a with
  | ⟨0, _⟩ => show win0_0.index t 0 * 1 + 1 * (y 0).val = (y 0).val; rw [(index0 t).1]; omega
  | ⟨1, _⟩ => show win0_0.index t 1 * 16 + 1 * (y 1).val = (y 1).val; rw [(index0 t).2]; omega

theorem iblk1_eq (t : Fin cfg0.N) (h : t.val < 32) (r : Fin 128) (l : Fin 1024) :
    (iblk m c 1 t : Vec F S128x1024 .bf16) (ix2 r l) = (m (c.tc.loc main_arg0) : Vec F S4096x1024 .bf16) (ix2 (row t.val r h) l) := by
  unfold iblk
  rw [View.read_apply]
  show m (c.tc.loc main_arg0) _ = m (c.tc.loc main_arg0) _
  congr 1
  funext a
  apply Fin.ext
  match a with
  | ⟨0, _⟩ => show win0_1.index t 0 * 128 + 1 * r.val = 128 * t.val + r.val; rw [(index1 t h).1]; omega
  | ⟨1, _⟩ => show win0_1.index t 1 * 1024 + 1 * l.val = l.val; rw [(index1 t h).2]; omega

theorem iblk2_eq (t : Fin cfg0.N) (h : t.val < 32) (r : Fin 128) (l : Fin 256) :
    (iblk m c 2 t : Vec F S128x256 .bf16) (ix2 r l) = (m (c.tc.loc main_arg1) : Vec F S4096x256 .bf16) (ix2 (row (t.val - 1) r (by omega)) l) := by
  unfold iblk
  rw [View.read_apply]
  show m (c.tc.loc main_arg1) _ = m (c.tc.loc main_arg1) _
  congr 1
  funext a
  apply Fin.ext
  match a with
  | ⟨0, _⟩ => show win0_2.index t 0 * 128 + 1 * r.val = 128 * (t.val - 1) + r.val; rw [(index2 t h).1]; omega
  | ⟨1, _⟩ => show win0_2.index t 1 * 256 + 1 * l.val = l.val; rw [(index2 t h).2]; omega

theorem iblk3_eq (t : Fin cfg0.N) (h : t.val < 32) (r : Fin 128) (l : Fin 256) :
    (iblk m c 3 t : Vec F S128x256 .bf16) (ix2 r l) = (m (c.tc.loc main_arg1) : Vec F S4096x256 .bf16) (ix2 (row t.val r h) l) := by
  unfold iblk
  rw [View.read_apply]
  show m (c.tc.loc main_arg1) _ = m (c.tc.loc main_arg1) _
  congr 1
  funext a
  apply Fin.ext
  match a with
  | ⟨0, _⟩ => show win0_3.index t 0 * 128 + 1 * r.val = 128 * t.val + r.val; rw [(index3 t h).1]; omega
  | ⟨1, _⟩ => show win0_3.index t 1 * 256 + 1 * l.val = l.val; rw [(index3 t h).2]; omega

theorem iblk4_eq (t : Fin cfg0.N) (h : t.val < 32) (r : Fin 128) (l : Fin 1024) :
    (iblk m c 4 t : Vec F S128x1024 .bf16) (ix2 r l) = (m (c.tc.loc main_arg3) : Vec F S4096x1024 .bf16) (ix2 (row t.val r h) l) := by
  unfold iblk
  rw [View.read_apply]
  show m (c.tc.loc main_arg3) _ = m (c.tc.loc main_arg3) _
  congr 1
  funext a
  apply Fin.ext
  match a with
  | ⟨0, _⟩ => show win0_4.index t 0 * 128 + 1 * r.val = 128 * t.val + r.val; rw [(index4 t h).1]; omega
  | ⟨1, _⟩ => show win0_4.index t 1 * 1024 + 1 * l.val = l.val; rw [(index4 t h).2]; omega

/-! ## The results -/

/-- The gradients of the queries. -/
def resQ : Vec F S4096x1024 .bf16 := fun y =>
  (blkN m c ((y 0).val / 128)).outQ (ix2 ⟨(y 0).val % 128, Nat.mod_lt _ (by decide)⟩ (y 1))

/-- The gradients of the keys and values. -/
def resKV : Vec F S4096x256 .bf16 := fun y =>
  kvAt m c ((y 0).val / 128 + 1) (ix2 ⟨(y 0).val % 128, Nat.mod_lt _ (by decide)⟩ (y 1))

/-- The gradients of the sinks. -/
def resSink : Vec F S1x128 .f32 := sinkN m c 32

theorem blkN_min (n : ℕ) : blkN m c (min n 31) = blkN m c n := by
  unfold blkN
  rw [show pt (min n 31) = pt n from Fin.ext (by show min (min n 31) 31 = min n 31; omega)]

theorem final5 : (dats m 0 c).arrAt 5 cfg0.N = resQ m c := by
  refine (dats m 0 c).arrAt_eq_of_cover 5 (resQ m c) ?_ ?_
  · intro t hf
    funext y
    rw [View.read_apply]
    have hN : t.val < 33 := lt_of_lt_of_eq t.isLt (show cfg0.N = 33 from N_0)
    have hy : (y 0).val < 128 := (y 0).isLt
    have hy1 : (y 1).val < 1024 := (y 1).isLt
    show (cfg0.win 5).cut (grid0.coords t) ((dats m 0 c).after 5 t) y = resQ m c _
    rw [after0_5]
    unfold resQ
    have e0 : (((cfg0.win 5).blk t).view.emb y 0).val = 128 * min t.val 31 + (y 0).val := by
      show win0_5.index t 0 * 128 + 1 * (y 0).val = _
      rw [(index5 t).1]; omega
    have e1 : (((cfg0.win 5).blk t).view.emb y 1).val = (y 1).val := by
      show win0_5.index t 1 * 1024 + 1 * (y 1).val = _
      rw [(index5 t).2]; omega
    have eb : (((cfg0.win 5).blk t).view.emb y 0).val / 128 = min t.val 31 := by omega
    rw [eb, blkN_min]
    show (blkN m c t.val).outQ _ = (blkN m c t.val).outQ _
    congr 1
    funext a
    apply Fin.ext
    match a with
    | ⟨0, _⟩ => show (y 0).val = (((cfg0.win 5).blk t).view.emb y 0).val % 128; omega
    | ⟨1, _⟩ => show (y 1).val = (((cfg0.win 5).blk t).view.emb y 1).val; omega
  · intro i
    have h0 : (i 0 : Nat) < 4096 := (i 0).isLt
    have h1 : (i 1 : Nat) < 1024 := (i 1).isLt
    let t : Fin cfg0.N := ⟨if (i 0 : Nat) / 128 = 31 then 32 else (i 0 : Nat) / 128, by rw [show cfg0.N = 33 from N_0]; split <;> omega⟩
    have ht : min t.val 31 = (i 0 : Nat) / 128 := by show min (if (i 0 : Nat) / 128 = 31 then 32 else (i 0 : Nat) / 128) 31 = (i 0 : Nat) / 128; split <;> omega
    refine ⟨t, (flush5 t).mpr (by show (if (i 0 : Nat) / 128 = 31 then 32 else (i 0 : Nat) / 128) ≠ 31; split <;> omega), ?_⟩
    show i ∈ ((View.whole main_v0_0).slice (win0_5.rect t)).set
    rw [View.set_slice_whole, Rect.mem_set_unit]
    intro a
    match a with
    | ⟨0, _⟩ => show win0_5.index t 0 * 128 ≤ (i 0 : Nat) ∧ (i 0 : Nat) < win0_5.index t 0 * 128 + 128
                rw [(index5 t).1, ht]; omega
    | ⟨1, _⟩ => show win0_5.index t 1 * 1024 ≤ (i 1 : Nat) ∧ (i 1 : Nat) < win0_5.index t 1 * 1024 + 1024
                rw [(index5 t).2]; omega

theorem final6 : (dats m 0 c).arrAt 6 cfg0.N = resKV m c := by
  refine (dats m 0 c).arrAt_eq_of_cover 6 (resKV m c) ?_ ?_
  · intro t hf
    funext y
    rw [View.read_apply]
    have hN : t.val < 33 := lt_of_lt_of_eq t.isLt (show cfg0.N = 33 from N_0)
    have ht0 := (flush6 t).mp hf
    have hy : (y 0).val < 128 := (y 0).isLt
    have hy1 : (y 1).val < 256 := (y 1).isLt
    show (cfg0.win 6).cut (grid0.coords t) ((dats m 0 c).after 6 t) y = resKV m c _
    rw [after0_6]
    unfold resKV
    have e0 : (((cfg0.win 6).blk t).view.emb y 0).val = 128 * (t.val - 1) + (y 0).val := by
      show win0_6.index t 0 * 128 + 1 * (y 0).val = _
      rw [(index6 t).1]; omega
    have e1 : (((cfg0.win 6).blk t).view.emb y 1).val = (y 1).val := by
      show win0_6.index t 1 * 256 + 1 * (y 1).val = _
      rw [(index6 t).2]; omega
    have eb : (((cfg0.win 6).blk t).view.emb y 0).val / 128 + 1 = t.val := by omega
    rw [eb]
    show kvAt m c t.val _ = kvAt m c t.val _
    congr 1
    funext a
    apply Fin.ext
    match a with
    | ⟨0, _⟩ => show (y 0).val = (((cfg0.win 6).blk t).view.emb y 0).val % 128; omega
    | ⟨1, _⟩ => show (y 1).val = (((cfg0.win 6).blk t).view.emb y 1).val; omega
  · intro i
    have h0 : (i 0 : Nat) < 4096 := (i 0).isLt
    have h1 : (i 1 : Nat) < 256 := (i 1).isLt
    let t : Fin cfg0.N := ⟨(i 0 : Nat) / 128 + 1, by rw [show cfg0.N = 33 from N_0]; omega⟩
    refine ⟨t, (flush6 t).mpr (Nat.succ_ne_zero _), ?_⟩
    show i ∈ ((View.whole main_v0_1).slice (win0_6.rect t)).set
    rw [View.set_slice_whole, Rect.mem_set_unit]
    intro a
    match a with
    | ⟨0, _⟩ => show win0_6.index t 0 * 128 ≤ (i 0 : Nat) ∧ (i 0 : Nat) < win0_6.index t 0 * 128 + 128
                rw [(index6 t).1, show t.val - 1 = (i 0 : Nat) / 128 from rfl]; omega
    | ⟨1, _⟩ => show win0_6.index t 1 * 256 ≤ (i 1 : Nat) ∧ (i 1 : Nat) < win0_6.index t 1 * 256 + 256
                rw [(index6 t).2]; omega

theorem final7 : (dats m 0 c).arrAt 7 cfg0.N = resSink m c := by
  refine (dats m 0 c).arrAt_eq_of_cover 7 (resSink m c) ?_ ?_
  · intro t hf
    funext y
    rw [View.read_apply]
    have ht := (flush7 t).mp hf
    show (cfg0.win 7).cut (grid0.coords t) ((dats m 0 c).after 7 t) y = resSink m c _
    rw [after0_7, ht]
    show sinkN m c 32 _ = sinkN m c 32 _
    congr 1
    funext a
    apply Fin.ext
    match a with
    | ⟨0, _⟩ => show (y 0).val = win0_7.index t 0 * 1 + 1 * (y 0).val; rw [(index7 t).1]; omega
    | ⟨1, _⟩ => show (y 1).val = win0_7.index t 1 * 128 + 1 * (y 1).val; rw [(index7 t).2]; omega
  · intro i
    have h0 : (i 0 : Nat) < 1 := (i 0).isLt
    have h1 : (i 1 : Nat) < 128 := (i 1).isLt
    let t : Fin cfg0.N := ⟨32, by rw [show cfg0.N = 33 from N_0]; decide⟩
    refine ⟨t, (flush7 t).mpr rfl, ?_⟩
    show i ∈ ((View.whole main_v0_2).slice (win0_7.rect t)).set
    rw [View.set_slice_whole, Rect.mem_set_unit]
    intro a
    match a with
    | ⟨0, _⟩ => show win0_7.index t 0 * 1 ≤ (i 0 : Nat) ∧ (i 0 : Nat) < win0_7.index t 0 * 1 + 1
                rw [(index7 t).1]; omega
    | ⟨1, _⟩ => show win0_7.index t 1 * 128 ≤ (i 1 : Nat) ∧ (i 1 : Nat) < win0_7.index t 1 * 128 + 128
                rw [(index7 t).2]; omega

/-- Every run ends with the three results' arrays so, and the arguments unchanged. -/
theorem run : θ_run defs (onTc (τ := τ) (main (F := F))) ⟨m, fun _ => 0, ρ⟩ (fun r => ∀ c : Dev nD,
      r.2.mem ((c.tc : Thread nD τ).loc main_v0_0) = resQ m c
      ∧ r.2.mem ((c.tc : Thread nD τ).loc main_v0_1) = resKV m c
      ∧ r.2.mem ((c.tc : Thread nD τ).loc main_v0_2) = resSink m c) :=
  (θ_run defs _ _).mono (fun _ h c => ⟨((h c).1 5).trans (final5 m c), ((h c).1 6).trans (final6 m c), ((h c).1 7).trans (final7 m c)⟩)
    (run_main m ρ)

end Cert.KernelIdeal.Attn

end
-- ==== Proof.Math.KerResult.lean ====
/- The kernel's three results over real arguments. -/
module

public import proofs.«01_k».proof.Proof.Math.KerOut
public import proofs.«01_k».proof.Proof.Attn.Arrays

@[expose] public section

set_option maxRecDepth 8192
set_option maxHeartbeats 100000

noncomputable section

namespace Cert.KernelIdeal.Attn

open Cert.KernelIdeal.Gen
open Idealize.ShloMosaic Idealize.ShloMosaic.TcCoe
open Cert.Row

/-- Where the mask of block `n` lets a row attend. -/
theorem mask_at (n : ℕ) (hn : n < 32) (r : Fin 128) (k : Fin 256) :
    k0_pay4 (BitVec.ofNat 32 n) (ix2 r k) = 1#1 ↔ Args.Ok n r.val k := by
  have e : k0_pay4 (BitVec.ofNat 32 n) (ix2 r k)
      = IntOp.ori (IntOp.andi (IntOp.andi (IntOp.cmpi .slt (BitVec.ofNat 32 k.val) 128#32) (IntOp.cmpi .sgt (BitVec.ofNat 32 k.val) (BitVec.ofNat 32 r.val)))
            (IntOp.cmpi .sge (BitVec.ofNat 32 k.val) (Scalar.select (Scalar.cmpi .eq (BitVec.ofNat 32 n) 0#32) 128#32 0#32)))
          (IntOp.andi (IntOp.cmpi .sge (BitVec.ofNat 32 k.val) 128#32) (IntOp.cmpi .sle (IntOp.subi (BitVec.ofNat 32 k.val) 128#32) (BitVec.ofNat 32 r.val))) := by
    pointwise [k0_pay4]
  rw [e]
  have s : Scalar.select (Scalar.cmpi .eq (BitVec.ofNat 32 n) 0#32) 128#32 0#32 = BitVec.ofNat 32 (if n = 0 then 128 else 0) := by
    by_cases h : n = 0
    · subst h; rfl
    · rw [if_neg h]
      refine if_neg fun h1 => h ?_
      have h2 := (WordCmp.cmpi_eq_ofNat (w := 32) (a := n) (b := 0) (by omega) (by omega)).symm.trans h1
      exact (WordCmp.ofBool_decide_eq_one_iff _).mp h2
  have d : (IntOp.subi (BitVec.ofNat 32 k.val) 128#32).toInt = (k.val : ℤ) - 128 := by
    simp only [IntOp.subi, BitVec.toInt_eq_toNat_cond, BitVec.toNat_sub, BitVec.toNat_ofNat]
    omega
  have t : ∀ a : ℕ, a < 256 → (BitVec.ofNat 32 a).toInt = (a : ℤ) := fun a h => WordCmp.toInt_ofNat_of_lt (by omega)
  have c : (128#32 : BitVec 32).toInt = 128 := by decide
  rw [s, WordCmp.cmpi_slt_eq, WordCmp.cmpi_sgt_eq, WordCmp.cmpi_sge_eq, WordCmp.cmpi_sge_eq, WordCmp.cmpi_sle_eq, d, t k.val k.isLt, t r.val (by omega),
    t (if n = 0 then 128 else 0) (by split <;> omega), c]
  rw [WordCmp.andi_ofBool, ← Bool.decide_and, WordCmp.andi_ofBool, ← Bool.decide_and, WordCmp.andi_ofBool, ← Bool.decide_and, WordCmp.ori_ofBool, ← Bool.decide_or,
    WordCmp.ofBool_decide_eq_one_iff]
  unfold Args.Ok
  split <;> omega

/-- The carried gradients start from zero. -/
theorem carry0_at (r : Fin 128) (c : Fin 256) : (carry0 (F := Ideal) : FVec Ideal S128x256 .f32) (ix2 r c) = (0 : EReal) := by
  pointwise [carry0, k0_pay2]
theorem sink0_at (l : Fin 128) : (sink0 (F := Ideal) : FVec Ideal S1x128 .f32) (ix2 0 l) = (0 : EReal) := by
  pointwise [sink0, k0_pay1]
theorem last_at (x : Vec Ideal S128x256 .f32) (r : Fin 128) (c : Fin 256) : k0_pay3 x (ix2 r c) = ((x : FVec Ideal S128x256 .f32) (ix2 r c) : EReal) := by
  pointwise [k0_pay3]

theorem col_emb (j : Fin 8) (r l : Fin 128) : (colRect j).emb (ix2 r l) = (ix2 r ⟨128 * j.val + l.val, by omega⟩ : S128x1024.Idx) := by
  funext a
  match a with
  | ⟨0, _⟩ => exact Fin.ext (by show 0 + 1 * r.val = r.val; omega)
  | ⟨1, _⟩ => exact Fin.ext (by show 128 * j.val + 1 * l.val = 128 * j.val + l.val; omega)

theorem sink_emb (h : Fin 16) : (sinkRect h).emb (Shape.Idx.first (show 0 < S1x1.numel by decide)) = (ix2 0 h : S1x16.Idx) := by
  funext a
  match a with
  | ⟨0, _⟩ => exact Fin.ext (by show 0 + 1 * 0 = 0; omega)
  | ⟨1, _⟩ => exact Fin.ext (by show h.val + 1 * 0 = h.val; omega)

variable (m : (ℓ : Loc nD τ sig) → Buf (Elt Ideal) ℓ) (c : Dev nD)

/-- The arguments hold these reals. -/
structure ArgsHold (I : Args) : Prop where
  q : ∀ (t : Fin 4096) (l : Fin 1024), (m (c.tc.loc main_arg0) : FVec Ideal S4096x1024 .bf16) (ix2 t l) = (I.q t.val l.val : EReal)
  kv : ∀ (t : Fin 4096) (l : Fin 256), (m (c.tc.loc main_arg1) : FVec Ideal S4096x256 .bf16) (ix2 t l) = (I.kv t.val l.val : EReal)
  σ : ∀ h : Fin 16, (m (c.tc.loc main_arg2) : FVec Ideal S1x16 .f32) (ix2 0 h) = (I.σ h.val : EReal)
  g : ∀ (t : Fin 4096) (l : Fin 1024), (m (c.tc.loc main_arg3) : FVec Ideal S4096x1024 .bf16) (ix2 t l) = (I.g t.val l.val : EReal)

variable {m c} {I : Args} (A : ArgsHold m c I)
include A

theorem blk_holds (n : ℕ) (hn : n < 32) : BlkHolds (blkN m c n) I n := by
  have ht : (pt n).val = n := by show min n 31 = n; omega
  have h32 : (pt n).val < 32 := by omega
  refine ⟨fun r k => ?_, fun j r l => ?_, fun j r l => ?_, fun r l => ?_, fun r l => ?_, fun h => ?_⟩
  · have e : (grid0.coords (pt n) 0).val = n := (coord0 (pt n)).trans ht
    show k0_pay4 (BitVec.ofNat 32 (grid0.coords (pt n) 0).val) (ix2 r k) = 1#1 ↔ _
    rw [e]
    exact mask_at n hn r k
  · show (iblk m c 1 (pt n) : FVec Ideal S128x1024 .bf16) ((colRect j).emb (ix2 r l)) = _
    rw [col_emb]
    refine (iblk1_eq m c (pt n) h32 r _).trans ((A.q _ _).trans (congrArg Real.toEReal (congrArg₂ I.q ?_ rfl)))
    show 128 * (pt n).val + r.val = _; rw [ht]
  · show (iblk m c 4 (pt n) : FVec Ideal S128x1024 .bf16) ((colRect j).emb (ix2 r l)) = _
    rw [col_emb]
    refine (iblk4_eq m c (pt n) h32 r _).trans ((A.g _ _).trans (congrArg Real.toEReal (congrArg₂ I.g ?_ rfl)))
    show 128 * (pt n).val + r.val = _; rw [ht]
  · refine (iblk2_eq m c (pt n) h32 r l).trans ((A.kv _ _).trans (congrArg Real.toEReal (congrArg₂ I.kv ?_ rfl)))
    show 128 * ((pt n).val - 1) + r.val = _; rw [ht]
  · refine (iblk3_eq m c (pt n) h32 r l).trans ((A.kv _ _).trans (congrArg Real.toEReal (congrArg₂ I.kv ?_ rfl)))
    show 128 * (pt n).val + r.val = _; rw [ht]
  · show (iblk m c 0 (pt n) : FVec Ideal S1x16 .f32) ((sinkRect h).emb _) = _
    rw [sink_emb, iblk0_eq]
    exact A.σ h

/-! ## The queries' gradients -/

theorem resQ_at (t : Fin 4096) (l : Fin 1024) : (resQ m c : FVec Ideal S4096x1024 .bf16) (ix2 t l) = (I.outQ t.val l.val : EReal) :=
  outQ_coe (blk_holds A (t.val / 128) (by omega)) ⟨t.val % 128, by omega⟩ l

/-! ## The keys' and values' gradients -/

omit A in
/-- What is carried into block `n`. -/
def heldR (I : Args) : ℕ → ℕ → ℕ → ℝ
  | 0, _, _ => 0
  | n + 1, r, c => if h : r < 128 then (if c < 128 then I.dkw n (c / 64) ⟨128 + r, by omega⟩ (c % 64) else I.dvw n ((c - 128) / 64) ⟨128 + r, by omega⟩ ((c - 128) % 64)) else 0

omit A in
theorem heldR_succ (n : ℕ) (r : Fin 128) (c : ℕ) : heldR I (n + 1) r.val c
    = if c < 128 then I.dkw n (c / 64) ⟨128 + r.val, by omega⟩ (c % 64) else I.dvw n ((c - 128) / 64) ⟨128 + r.val, by omega⟩ ((c - 128) % 64) :=
  dif_pos r.isLt

theorem held_at : ∀ (n : ℕ) (_ : n ≤ 32) (r : Fin 128) (l : Fin 256), (held m c n : FVec Ideal S128x256 .f32) (ix2 r l) = (heldR I n r.val l.val : EReal)
  | 0, _, r, l => (carry0_at r l).trans EReal.coe_zero.symm
  | n + 1, h, r, l => by
    refine (outCarry_coe (blk_holds A n (by omega)) r l).trans (congrArg Real.toEReal ?_)
    rw [heldR_succ]

theorem kv_at (n : ℕ) (hn : n < 32) (r : Fin 128) (l : Fin 256) :
    (kvAt m c (n + 1) : FVec Ideal S128x256 .bf16) (ix2 r l) = ((if l.val < 128 then Args.fold I.dkw n (l.val / 64) r (l.val % 64)
      else Args.fold I.dvw n ((l.val - 128) / 64) r ((l.val - 128) % 64) : ℝ) : EReal) := by
  unfold kvAt
  by_cases h : n + 1 < 32
  · rw [if_pos h]
    refine (outKV_coe (blk_holds A (n + 1) h) (held m c (n + 1)) _ (held_at A (n + 1) (by omega)) r l).trans (congrArg Real.toEReal ?_)
    rw [heldR_succ]
    unfold Args.fold
    by_cases hl : l.val < 128
    · rw [if_pos hl, if_pos hl, if_pos hl, if_pos (by omega)]
    · rw [if_neg hl, if_neg hl, if_neg hl, if_pos (by omega)]
  · rw [if_neg h]
    have e : n = 31 := by omega
    subst e
    refine (last_at _ r l).trans ((held_at A 32 le_rfl r l).trans (congrArg Real.toEReal ?_))
    rw [heldR_succ]
    unfold Args.fold
    by_cases hl : l.val < 128
    · rw [if_pos hl, if_pos hl, if_neg (by omega), add_zero]
    · rw [if_neg hl, if_neg hl, if_neg (by omega), add_zero]

theorem resKV_at (t : Fin 4096) (l : Fin 256) : (resKV m c : FVec Ideal S4096x256 .bf16) (ix2 t l) = (I.outKV t.val l.val : EReal) :=
  kv_at A (t.val / 128) (by omega) ⟨t.val % 128, by omega⟩ l

/-! ## The sinks' gradients -/

theorem sinkN_at : ∀ (n : ℕ) (_ : n ≤ 32) (l : Fin 128), (sinkN m c n : FVec Ideal S1x128 .f32) (ix2 0 l)
    = ((∑ i : Fin n, if l.val < 16 then I.de i.val l.val else 0 : ℝ) : EReal)
  | 0, _, l => (sink0_at l).trans (by rw [Fin.sum_univ_zero, EReal.coe_zero])
  | n + 1, h, l => by
    refine (outSink_coe (blk_holds A n (by omega)) (sinkN m c n) (fun l => ∑ i : Fin n, if l < 16 then I.de i.val l else 0)
      (sinkN_at n (by omega)) l).trans (congrArg Real.toEReal ?_)
    exact (Fin.sum_univ_castSucc (fun i : Fin (n + 1) => if l.val < 16 then I.de i.val l.val else 0)).symm

theorem resSink_at (l : Fin 128) : (resSink m c : FVec Ideal S1x128 .f32) (ix2 0 l) = (I.outS l.val : EReal) := by
  refine (sinkN_at A 32 le_rfl l).trans (congrArg Real.toEReal ?_)
  unfold Args.outS
  by_cases h : l.val < 16
  · rw [if_pos h]; exact Finset.sum_congr rfl fun n _ => if_pos h
  · rw [if_neg h]; exact Finset.sum_eq_zero fun n _ => if_neg h

end Cert.KernelIdeal.Attn

end
-- ==== Proof.Math.Finite.lean ====
/- The precondition: every element of the arguments is a real number. -/
module

public import proofs.«01_k».proof.Pre_finite
public import Idealize.ShloMosaic.Lib.ReduceAll
public import Idealize.ShloMosaic.Lib.Pointwise
public import Idealize.ShloMosaic.Lib.WordCmp
public import Idealize.ShloMosaic.PureOps.Ideal

@[expose] public section

set_option maxHeartbeats 100000

noncomputable section

namespace Cert.Pre_finite

open Idealize.ShloMosaic

theorem facts : Facts := ⟨by decide, by decide, by decide, by decide, by decide, by decide, by decide, by decide⟩

attribute [local instance] facts

instance : Subsingleton S_.Idx := ⟨fun a b => funext fun i => i.elim0⟩

theorem infinity : Ideal.ofBits FTy.f32 2139095040#32 = ⊤ := by
  simp [Ideal.ofBits, Ideal.ieee]

/-- A number whose size is below infinity is real. -/
theorem real_of_abs (z : EReal) (h : Ideal.cmp .olt (max z (-z)) ⊤ = 1#1) : ((z.toReal : ℝ) : EReal) = z := by
  have h1 : max z (-z) < ⊤ := (WordCmp.ofBool_decide_eq_one_iff _).mp h
  refine EReal.coe_toReal ?_ ?_
  · rintro rfl; exact absurd h1 (by simp)
  · rintro rfl; exact absurd h1 (by simp)

theorem real_cell {s : Shape} {φ : FTy} (x : FVec Ideal s φ) (b : FVec Ideal s φ) (i : s.Idx) (hb : b i = (⊤ : EReal)) (h : cmpf .olt (Host.absf x) b i = 1#1) :
    (((x i : EReal).toReal : ℝ) : EReal) = (x i : EReal) := by
  refine real_of_abs (x i) (Eq.trans ?_ h)
  show Ideal.cmp .olt _ _ = Ideal.cmp .olt _ (b i)
  rw [hb]
  rfl

theorem and_parts (a b : IVec S_ 1) (h : andi a b = fun _ => 1#1) : (a = fun _ => 1#1) ∧ (b = fun _ => 1#1) :=
  ⟨funext fun i => (IntOp.andi_eq_one.1 (congrFun h i)).1, funext fun i => (IntOp.andi_eq_one.1 (congrFun h i)).2⟩

theorem top_at {s : Shape} (h : S_.BroadcastsInDim s (![] : Fin 0 → Fin s.rank)) (i : s.Idx) :
    (broadcastInDim s ![] h (constant S_ .f32 0x7F800000#32) : FVec Ideal s .f32) i = (⊤ : EReal) := infinity

/-- The precondition read: all four arguments hold real numbers. -/
theorem reals (q : FVec Ideal S4096x1024 .bf16) (kv : FVec Ideal S4096x256 .bf16) (σ : FVec Ideal S1x16 .f32) (g : FVec Ideal S4096x1024 .bf16)
    (h : fn (F := Ideal) q kv σ g = fun _ => 1#1) :
    (∀ i, (((q i : EReal).toReal : ℝ) : EReal) = (q i : EReal)) ∧ (∀ i, (((kv i : EReal).toReal : ℝ) : EReal) = (kv i : EReal))
      ∧ (∀ i, (((σ i : EReal).toReal : ℝ) : EReal) = (σ i : EReal)) ∧ (∀ i, (((g i : EReal).toReal : ℝ) : EReal) = (g i : EReal)) := by
  unfold fn fn_part1 at h
  dsimp only at h
  obtain ⟨h, hg⟩ := and_parts _ _ h
  obtain ⟨h, hσ⟩ := and_parts _ _ h
  obtain ⟨hq, hkv⟩ := and_parts _ _ h
  have e : S_.Idx := fun i => i.elim0
  exact ⟨fun i => real_cell (φ := .f32) q _ i (top_at _ i) (Host.reduce_andi_all _ _ _ _ e (congrFun hq e) i),
    fun i => real_cell (φ := .f32) kv _ i (top_at _ i) (Host.reduce_andi_all _ _ _ _ e (congrFun hkv e) i),
    fun i => real_cell σ _ i (top_at _ i) (Host.reduce_andi_all _ _ _ _ e (congrFun hσ e) i),
    fun i => real_cell (φ := .f32) g _ i (top_at _ i) (Host.reduce_andi_all _ _ _ _ e (congrFun hg e) i)⟩

end Cert.Pre_finite

end
-- ==== Proof.Math.Equal.lean ====
/- The kernel's results are the reference's: the claims about values, and the frames. -/
module

public import proofs.«01_k».proof.Defs
public import proofs.«01_k».proof.Proof.Math.RefOut
public import proofs.«01_k».proof.Proof.Math.KerResult
public import proofs.«01_k».proof.Proof.Math.Finite
public import Idealize.ShloMosaic.Lib.Quiescent

@[expose] public section

set_option maxRecDepth 8192
set_option maxHeartbeats 200000

noncomputable section

namespace Cert.Attn

open Idealize.ShloMosaic Idealize.ShloMosaic.TcCoe Idealize.SL.Sem
open Idealize.ShloMosaic.StableHlo
open Cert.Row

attribute [local instance] Cert.Pre_finite.facts

/-- Arrays of two axes agree when they agree at every row and column. -/
theorem ext2 {a b : ℕ} {α : Type} {f g : Shape.Idx ⟨2, ![a, b]⟩ → α} (h : ∀ (t : Fin a) (l : Fin b), f (ix2 t l) = g (ix2 t l)) : f = g := by
  funext y
  have e : y = ix2 (y 0) (y 1) := funext fun i => match i with | ⟨0, _⟩ => rfl | ⟨1, _⟩ => rfl
  rw [e]
  exact h _ _

/-- An array's entries as reals. -/
def realAt {a b : ℕ} (f : Shape.Idx ⟨2, ![a, b]⟩ → EReal) (t l : ℕ) : ℝ := if h : t < a ∧ l < b then (f (ix2 ⟨t, h.1⟩ ⟨l, h.2⟩)).toReal else 0

theorem realAt_coe {a b : ℕ} {f : Shape.Idx ⟨2, ![a, b]⟩ → EReal} (hf : ∀ i, (((f i).toReal : ℝ) : EReal) = f i) (t : Fin a) (l : Fin b) :
    f (ix2 t l) = (realAt f t.val l.val : EReal) := by
  unfold realAt
  rw [dif_pos ⟨t.isLt, l.isLt⟩]
  exact (hf _).symm

/-- The reals the arguments hold. -/
def args (m : (ℓ : Loc Cert.KernelIdeal.nD Cert.KernelIdeal.τ Cert.KernelIdeal.sig) → Buf (Elt Ideal) ℓ) (c : Dev Cert.KernelIdeal.nD) : Args where
  q := realAt (a := 4096) (b := 1024) (m (c.tc.loc Cert.KernelIdeal.main_arg0))
  kv := realAt (a := 4096) (b := 256) (m (c.tc.loc Cert.KernelIdeal.main_arg1))
  σ := realAt (a := 1) (b := 16) (m (c.tc.loc Cert.KernelIdeal.main_arg2)) 0
  g := realAt (a := 4096) (b := 1024) (m (c.tc.loc Cert.KernelIdeal.main_arg3))

theorem args_hold (m : (ℓ : Loc Cert.KernelIdeal.nD Cert.KernelIdeal.τ Cert.KernelIdeal.sig) → Buf (Elt Ideal) ℓ) (h : Cert.Pre_KernelIdeal_finite m)
    (c : Dev Cert.KernelIdeal.nD) : Cert.KernelIdeal.Attn.ArgsHold m c (args m c) := by
  obtain ⟨hq, hkv, hσ, hg⟩ := Cert.Pre_finite.reals _ _ _ _ (h c)
  exact ⟨fun t l => realAt_coe hq t l, fun t l => realAt_coe hkv t l, fun l => realAt_coe hσ 0 l, fun t l => realAt_coe hg t l⟩

/-- The reference's run, its results by name. -/
theorem run_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem (c.tc.loc Cert.ReferenceIdeal.main_v151) = Cert.ReferenceIdeal.Attn.refQ (launchContents m c)
      ∧ r.2.mem (c.tc.loc Cert.ReferenceIdeal.main_v150) = Cert.ReferenceIdeal.Attn.refKV (launchContents m c)
      ∧ r.2.mem (c.tc.loc Cert.ReferenceIdeal.main_v152) = Cert.ReferenceIdeal.Attn.refS (launchContents m c)
      ∧ r.2.mem (c.tc.loc Cert.ReferenceIdeal.main_arg0) = m (c.tc.loc Cert.ReferenceIdeal.main_arg0)
      ∧ r.2.mem (c.tc.loc Cert.ReferenceIdeal.main_arg1) = m (c.tc.loc Cert.ReferenceIdeal.main_arg1)
      ∧ r.2.mem (c.tc.loc Cert.ReferenceIdeal.main_arg2) = m (c.tc.loc Cert.ReferenceIdeal.main_arg2)
      ∧ r.2.mem (c.tc.loc Cert.ReferenceIdeal.main_arg3) = m (c.tc.loc Cert.ReferenceIdeal.main_arg3)) := by
  unfold Cert.ReferenceIdeal.Attn.refQ Cert.ReferenceIdeal.Attn.refKV Cert.ReferenceIdeal.Attn.refS
  exact Cert.ReferenceIdeal.Value.run (F := Ideal) m g

/-- The reference's frame. -/
theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem (c.tc.loc Cert.ReferenceIdeal.main_arg0) = m (c.tc.loc Cert.ReferenceIdeal.main_arg0)
      ∧ r.2.mem (c.tc.loc Cert.ReferenceIdeal.main_arg1) = m (c.tc.loc Cert.ReferenceIdeal.main_arg1)
      ∧ r.2.mem (c.tc.loc Cert.ReferenceIdeal.main_arg2) = m (c.tc.loc Cert.ReferenceIdeal.main_arg2)
      ∧ r.2.mem (c.tc.loc Cert.ReferenceIdeal.main_arg3) = m (c.tc.loc Cert.ReferenceIdeal.main_arg3))
      ∧ r.2.sem = fun _ => 0) :=
  (θ_run _ _ _).mono (fun r h => ⟨fun c => (h c).2.2.2, sem_eq_zero_of_no_sems (by decide) r.2⟩) (run_reference m g)

/-- On real arguments the kernel and the reference compute the same three arrays. -/
theorem algebraic : Cert.algebraic_KernelIdeal_ReferenceIdeal_pre_finite := by
  intro m g m' g' hpre hagree
  refine ⟨fun c => Cert.KernelIdeal.Attn.resQ m c, fun c => Cert.KernelIdeal.Attn.resKV m c, fun c => Cert.KernelIdeal.Attn.resSink m c, ?_, ?_⟩
  · exact (θ_run _ _ _).mono (fun r h c => ⟨(h.1 c).1, (h.1 c).2.1, (h.1 c).2.2, h.2.1 c⟩)
      (θ_run_and (Cert.KernelIdeal.Attn.run m g) (Cert.KernelIdeal.Attn.frame m g))
  · refine (θ_run _ _ _).mono (fun r h c => ?_) (run_reference m' g')
    have A := args_hold m hpre c
    have H : Cert.ReferenceIdeal.Attn.Holds (launchContents m' c) (args m c) :=
      ⟨fun t l => (congrFun (hagree c).1 (ix2 t l)).trans (A.q t l), fun t l => (congrFun (hagree c).2.1 (ix2 t l)).trans (A.kv t l),
        fun l => (congrFun (hagree c).2.2.1 (ix2 0 l)).trans (A.σ l), fun t l => (congrFun (hagree c).2.2.2 (ix2 t l)).trans (A.g t l)⟩
    obtain ⟨h1, h2, h3, hargs⟩ := h c
    refine ⟨h1.trans ?_, h2.trans ?_, h3.trans ?_, hargs⟩
    · exact ext2 fun t l => (Cert.ReferenceIdeal.Attn.refQ_at H t l).trans (Cert.KernelIdeal.Attn.resQ_at A t l).symm
    · exact ext2 fun t l => (Cert.ReferenceIdeal.Attn.refKV_at H t l).trans (Cert.KernelIdeal.Attn.resKV_at A t l).symm
    · refine ext2 fun t l => ?_
      obtain rfl : t = 0 := Subsingleton.elim _ _
      exact (Cert.ReferenceIdeal.Attn.refS_at H l).trans (Cert.KernelIdeal.Attn.resSink_at A l).symm

end Cert.Attn

end
-- ==== Proof.Ffn.Launch.lean ====
/- The whole program's run, every result array named by what its call leaves in it. -/
module

public import proofs.«01_k».proof.Proof.Gen.Kernel2Ideal.Frame

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with every buffer outside the kernels' scopes at the last boundary's contents, and every counter at zero. -/
theorem run_main : θ_run defs (onTc (τ := τ) (main (F := F))) ⟨m, fun _ => 0, ρ⟩ (fun r =>
      (∀ c : Dev nD, ∀ b ∈ Pipeline.ucRefs τ sig, r.2.mem ((c : Dev nD), b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The frame: the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨(h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c),
       (h.1 c _ (mem_uc main_arg3 (by decide))).trans (W4_main_arg3 m ρ c),
       (h.1 c _ (mem_uc main_arg4 (by decide))).trans (W4_main_arg4 m ρ c)⟩, h.2⟩) (run_main m ρ)

/-- The four results, at the last boundary's contents. -/
theorem run : θ_run defs (onTc (τ := τ) (main (F := F))) ⟨m, fun _ => 0, ρ⟩ (fun r => ∀ c : Dev nD,
      r.2.mem ((c.tc : Thread nD τ).loc main_v1_0) = V4 m ρ c main_v1_0
      ∧ r.2.mem ((c.tc : Thread nD τ).loc main_v1_1) = V4 m ρ c main_v1_1
      ∧ r.2.mem ((c.tc : Thread nD τ).loc main_v2) = V4 m ρ c main_v2
      ∧ r.2.mem ((c.tc : Thread nD τ).loc main_v3) = V4 m ρ c main_v3) :=
  (θ_run defs _ _).mono (fun _ h c =>
      ⟨h.1 c _ (mem_uc main_v1_0 (by decide)), h.1 c _ (mem_uc main_v1_1 (by decide)),
       h.1 c _ (mem_uc main_v2 (by decide)), h.1 c _ (mem_uc main_v3 (by decide))⟩) (run_main m ρ)

end Cert.Kernel2Ideal.Ffn

end
-- ==== Proof.Ffn.Printed.lean ====
/- The frame of the feed-forward program as printed, taken from the idealized program's: the two have the same text. -/
module

public import proofs.«01_k».proof.Defs
public import proofs.«01_k».proof.Proof.Gen.Kernel2
public import proofs.«01_k».proof.Proof.Ffn.Launch

@[expose] public section

set_option maxRecDepth 8192

noncomputable section

namespace Cert.Ffn

open Idealize.ShloMosaic Idealize.ShloMosaic.TcCoe Idealize.SL.Sem

/-! ## The bodies, the tables and the programs are the same -/

theorem body0_eq : Cert.Kernel2.cc0_ffn_gate_up (F := Bits) = Cert.Kernel2Ideal.cc0_ffn_gate_up (F := Bits) := by
  with_unfolding_all rfl
theorem body1_eq : Cert.Kernel2.cc1_d_gate_up (F := Bits) = Cert.Kernel2Ideal.cc1_d_gate_up (F := Bits) := by
  with_unfolding_all rfl
theorem body2_eq : Cert.Kernel2.cc2_d_w_down (F := Bits) = Cert.Kernel2Ideal.cc2_d_w_down (F := Bits) := by
  with_unfolding_all rfl
theorem body3_eq : Cert.Kernel2.cc3_d_u2 (F := Bits) = Cert.Kernel2Ideal.cc3_d_u2 (F := Bits) := by
  with_unfolding_all rfl

set_option maxHeartbeats 1000000 in
theorem bodies_eq : Cert.Kernel2.defs₀ (F := Bits) = Cert.Kernel2Ideal.defs₀ (F := Bits) := by
  refine congrArg Defs.onTc (funext fun (l : Fin 4) => ?_)
  obtain ⟨n, hn⟩ := l
  rcases n with _ | _ | _ | _ | n
  · funext ⟨t, s⟩
    show Cert.Kernel2.cc0_ffn_gate_up (F := Bits) _ _ _ _ _ _ _ _ _ _ _ _ _ = _
    rw [body0_eq]
    rfl
  · funext ⟨t, s⟩
    show Cert.Kernel2.cc1_d_gate_up (F := Bits) _ _ _ _ _ _ _ _ _ _ _ _ _ = _
    rw [body1_eq]
    rfl
  · funext ⟨t, s⟩
    show Cert.Kernel2.cc2_d_w_down (F := Bits) _ _ _ _ _ _ _ = _
    rw [body2_eq]
    rfl
  · funext ⟨t, s⟩
    show Cert.Kernel2.cc3_d_u2 (F := Bits) _ _ _ _ _ _ _ _ _ _ _ = _
    rw [body3_eq]
    rfl
  · exact absurd hn (by omega)

theorem defs_eq : Cert.Kernel2.defs (F := Bits) = Cert.Kernel2Ideal.defs (F := Bits) :=
  congrArg (Pipeline.defs Cert.Kernel2Ideal.pcfgs) bodies_eq

theorem main_eq : Cert.Kernel2.main (F := Bits) = Cert.Kernel2Ideal.main (F := Bits) := rfl

/-- The frame of the program as printed: it runs, its arguments stay, its counters end at zero. -/
theorem frame_kernel : Cert.quiescent_Kernel2 (hKernel2 := Cert.Kernel2.Gen.facts) := fun m g _ => by
  rw [defs_eq, main_eq]
  exact Cert.Kernel2Ideal.Ffn.frame (F := Bits) m g

end Cert.Ffn

end
-- ==== Proof.Ffn.Model.lean ====
/- The feed-forward layer's gradients over the reals: what both programs compute. -/
module

public import proofs.«01_k».proof.Proof.Math.Row
public import Idealize.ShloMosaic.PureOps.Ideal

@[expose] public section

set_option maxHeartbeats 100000

noncomputable section

namespace Cert.Ffn

open Idealize.ShloMosaic

/-- The arguments as reals: the normed input, the three weights with the features in rows, the gradient of the layer's output. -/
structure Args where
  u : ℕ → ℕ → ℝ
  wg : ℕ → ℕ → ℝ
  wu : ℕ → ℕ → ℝ
  wd : ℕ → ℕ → ℝ
  h : ℕ → ℕ → ℝ

/-- The logistic function. -/
def sg (x : ℝ) : ℝ := (1 + Real.exp (-x))⁻¹

namespace Args

variable (A : Args)

/-- The gate product, at a token and a feature. -/
def gate (t f : ℕ) : ℝ := ∑ k : Fin 1024, A.u t k.val * A.wg f k.val
/-- The up product. -/
def up (t f : ℕ) : ℝ := ∑ k : Fin 1024, A.u t k.val * A.wu f k.val
/-- The gated product. -/
def z (t f : ℕ) : ℝ := A.gate t f * sg (A.gate t f) * A.up t f
/-- The gated product's derivative in the gate. -/
def zGate (t f : ℕ) : ℝ := A.up t f * sg (A.gate t f) * (1 + A.gate t f * (1 - sg (A.gate t f)))
/-- The gated product's derivative in the up product. -/
def zUp (t f : ℕ) : ℝ := A.gate t f * sg (A.gate t f)
/-- The gradient of the gated product. -/
def dz (t f : ℕ) : ℝ := ∑ k : Fin 1024, A.h t k.val * A.wd f k.val
/-- The gradient of the gate. -/
def dGate (t f : ℕ) : ℝ := A.dz t f * A.zGate t f
/-- The gradient of the up product. -/
def dUp (t f : ℕ) : ℝ := A.dz t f * A.zUp t f
/-- The gradient of the down weights. -/
def dWd (f l : ℕ) : ℝ := ∑ t : Fin 4096, A.z t.val f * A.h t.val l
/-- The gradient of the input. -/
def dU (t l : ℕ) : ℝ := (∑ f : Fin 2816, A.dGate t f.val * A.wg f.val l) + ∑ f : Fin 2816, A.dUp t f.val * A.wu f.val l

end Args

/-! ## The logistic function, as each program writes it -/

theorem sg_tanh (x : ℝ) : (1 / 2) * Real.tanh ((1 / 2) * x) + 1 / 2 = sg x := by
  have h1 : Real.exp x = Real.exp ((1 / 2) * x) * Real.exp ((1 / 2) * x) := by rw [← Real.exp_add]; congr 1; ring
  have hp := Real.exp_pos ((1 / 2) * x)
  have hq : Real.exp (-x) = (Real.exp ((1 / 2) * x))⁻¹ * (Real.exp ((1 / 2) * x))⁻¹ := by rw [Real.exp_neg, h1, mul_inv]
  unfold sg
  rw [Real.tanh_eq_sinh_div_cosh, Real.sinh_eq, Real.cosh_eq, hq, Real.exp_neg]
  field_simp
  ring

theorem half : Ideal.ofBits FTy.f32 1056964608#32 = ((1 / 2 : ℝ) : EReal) := by
  simp [Ideal.ofBits, Ideal.ieee, -EReal.coe_mul]; norm_num
theorem one : Ideal.ofBits FTy.f32 1065353216#32 = ((1 : ℝ) : EReal) := by
  simp [Ideal.ofBits, Ideal.ieee, -EReal.coe_mul]; norm_num

/-- The kernel's form. -/
theorem sg_ker (x : ℝ) : ((1 / 2 : ℝ) : EReal) * Ideal.tanh (((1 / 2 : ℝ) : EReal) * (x : EReal)) + ((1 / 2 : ℝ) : EReal) = (sg x : EReal) := by
  rw [← sg_tanh, ← EReal.coe_mul]
  show ((1 / 2 : ℝ) : EReal) * (Real.tanh ((1 / 2) * x) : EReal) + ((1 / 2 : ℝ) : EReal) = _
  rw [← EReal.coe_mul, ← EReal.coe_add]

/-- The reference's form. -/
theorem sg_ref (x : ℝ) : Ideal.div ((1 : ℝ) : EReal) (((1 : ℝ) : EReal) + Ideal.exp (-(x : EReal))) = (sg x : EReal) := by
  rw [← EReal.coe_neg]
  show Ideal.div ((1 : ℝ) : EReal) (((1 : ℝ) : EReal) + (Real.exp (-x) : EReal)) = _
  rw [← EReal.coe_add, Cert.Row.div_coe (by positivity)]
  unfold sg
  rw [one_mul]

/-- A sum of products of reals. -/
theorem dot_coe {n : ℕ} {f g : Fin n → EReal} {a b : Fin n → ℝ} (hf : ∀ k, f k = (a k : EReal)) (hg : ∀ k, g k = (b k : EReal)) :
    (∑ k : Fin n, f k * g k) = ((∑ k : Fin n, a k * b k : ℝ) : EReal) := by
  rw [Cert.Row.coe_sum]
  refine Finset.sum_congr rfl fun k _ => ?_
  rw [hf, hg, EReal.coe_mul]

end Cert.Ffn

end
-- ==== Proof.Ffn.Cell.lean ====
/- What each call's body stores, at an element of its block. -/
module

public import proofs.«01_k».proof.Proof.Gen.Kernel2Ideal.Skeleton
public import proofs.«01_k».proof.Proof.Ffn.Model
public import Idealize.ShloMosaic.Lib.Pointwise
public import Idealize.ShloMosaic.Lib.ValueIdx

@[expose] public section

set_option maxRecDepth 8192
set_option maxHeartbeats 100000

noncomputable section

namespace Cert.Kernel2Ideal.Ffn

open Cert.Kernel2Ideal Cert.Kernel2Ideal.Gen
open Idealize.ShloMosaic Idealize.ShloMosaic.TcCoe
open Cert.Ffn

section
variable (x : FVec Ideal S1024x1024 .bf16) (w v : FVec Ideal S1408x1024 .bf16) (r : Fin 1024) (l : Fin 1408)

theorem gate_at : k0_pay1 (F := Ideal) x w (ix2 r l) = ∑ k : Fin 1024, (x (ix2 r k) : EReal) * (w (ix2 l k) : EReal) := by
  pointwise [k0_pay1]
theorem up_at : k0_pay2 (F := Ideal) x v (ix2 r l) = ∑ k : Fin 1024, (x (ix2 r k) : EReal) * (v (ix2 l k) : EReal) := by
  pointwise [k0_pay2]
theorem dz_at : k1_pay1 (F := Ideal) x w (ix2 r l) = ∑ k : Fin 1024, (x (ix2 r k) : EReal) * (w (ix2 l k) : EReal) := by
  pointwise [k1_pay1]

variable {g b : ℝ}

theorem sig_at (hg : k0_pay1 (F := Ideal) x w (ix2 r l) = (g : EReal)) : k0_pay3 (F := Ideal) x w (ix2 r l) = (sg g : EReal) := by
  have e : k0_pay3 (F := Ideal) x w (ix2 r l) = Ideal.ofBits FTy.f32 1056964608#32 * Ideal.tanh (Ideal.ofBits FTy.f32 1056964608#32 * k0_pay1 (F := Ideal) x w (ix2 r l))
      + Ideal.ofBits FTy.f32 1056964608#32 := rfl
  rw [e, hg, half, sg_ker]

theorem zUp_at (hg : k0_pay1 (F := Ideal) x w (ix2 r l) = (g : EReal)) : k0_pay6 (F := Ideal) x w (ix2 r l) = ((g * sg g : ℝ) : EReal) := by
  have e : k0_pay6 (F := Ideal) x w (ix2 r l) = (k0_pay1 (F := Ideal) x w (ix2 r l) : EReal) * (k0_pay3 (F := Ideal) x w (ix2 r l) : EReal) := rfl
  rw [e, sig_at x w r l hg, hg, EReal.coe_mul]

theorem z_at (hg : k0_pay1 (F := Ideal) x w (ix2 r l) = (g : EReal)) (hb : k0_pay2 (F := Ideal) x v (ix2 r l) = (b : EReal)) :
    k0_pay7 (F := Ideal) x w x v (ix2 r l) = ((g * sg g * b : ℝ) : EReal) := by
  have e : k0_pay7 (F := Ideal) x w x v (ix2 r l) = (k0_pay1 (F := Ideal) x w (ix2 r l) : EReal) * (k0_pay3 (F := Ideal) x w (ix2 r l) : EReal) * (k0_pay2 (F := Ideal) x v (ix2 r l) : EReal) := rfl
  rw [e, sig_at x w r l hg, hg, hb, EReal.coe_mul, EReal.coe_mul]

theorem zGate_at (hg : k0_pay1 (F := Ideal) x w (ix2 r l) = (g : EReal)) (hb : k0_pay2 (F := Ideal) x v (ix2 r l) = (b : EReal)) :
    k0_pay5 (F := Ideal) x w x v (ix2 r l) = ((b * sg g * (1 + g * (1 - sg g)) : ℝ) : EReal) := by
  have e : k0_pay5 (F := Ideal) x w x v (ix2 r l) = (k0_pay2 (F := Ideal) x v (ix2 r l) : EReal) * (k0_pay3 (F := Ideal) x w (ix2 r l) : EReal)
      * (Ideal.ofBits FTy.f32 1065353216#32 + (k0_pay1 (F := Ideal) x w (ix2 r l) : EReal) * (Ideal.ofBits FTy.f32 1065353216#32 - (k0_pay3 (F := Ideal) x w (ix2 r l) : EReal))) := rfl
  rw [e, sig_at x w r l hg, hg, hb, one]
  norm_cast

variable (d : FVec Ideal S1024x1408 .bf16)

theorem dGate_at (hg : k1_pay1 (F := Ideal) x w (ix2 r l) = (g : EReal)) (hb : d (ix2 r l) = (b : EReal)) :
    k1_pay2 (F := Ideal) x w d (ix2 r l) = ((g * b : ℝ) : EReal) := by
  have e : k1_pay2 (F := Ideal) x w d (ix2 r l) = (k1_pay1 (F := Ideal) x w (ix2 r l) : EReal) * (d (ix2 r l) : EReal) := by
    pointwise [k1_pay2]
  rw [e, hg, hb, EReal.coe_mul]
theorem dUp_at (hg : k1_pay1 (F := Ideal) x w (ix2 r l) = (g : EReal)) (hb : d (ix2 r l) = (b : EReal)) :
    k1_pay3 (F := Ideal) x w d (ix2 r l) = ((g * b : ℝ) : EReal) := by
  have e : k1_pay3 (F := Ideal) x w d (ix2 r l) = (k1_pay1 (F := Ideal) x w (ix2 r l) : EReal) * (d (ix2 r l) : EReal) := by
    pointwise [k1_pay3]
  rw [e, hg, hb, EReal.coe_mul]
end

theorem dWd_at (z : FVec Ideal S4096x256 .bf16) (h : FVec Ideal S4096x1024 .bf16) (r : Fin 256) (l : Fin 1024) :
    k2_pay1 (F := Ideal) z h (ix2 r l) = ∑ t : Fin 4096, (z (ix2 t r) : EReal) * (h (ix2 t l) : EReal) := by
  pointwise [k2_pay1]

theorem dU_at (x y : FVec Ideal S1024x2816 .bf16) (w v : FVec Ideal S2816x512 .bf16) (r : Fin 1024) (l : Fin 512) :
    k3_pay1 (F := Ideal) x w y v (ix2 r l) = (∑ f : Fin 2816, (x (ix2 r f) : EReal) * (w (ix2 f l) : EReal)) + ∑ f : Fin 2816, (y (ix2 r f) : EReal) * (v (ix2 f l) : EReal) := by
  pointwise [k3_pay1]

end Cert.Kernel2Ideal.Ffn

end
-- ==== Proof.Ffn.Regions.lean ====
/- What each call leaves in its result arrays, when its arguments hold given reals. -/
module

public import proofs.«01_k».proof.Proof.Gen.Kernel2Ideal.Frame
public import proofs.«01_k».proof.Proof.Ffn.Cell
public import Idealize.ShloMosaic.Lib.Pipeline.ValueKit

@[expose] public section

set_option maxRecDepth 16384

noncomputable section

namespace Cert.Kernel2Ideal.Ffn

open Idealize.ShloMosaic Idealize.ShloMosaic.TcCoe Idealize.ShloMosaic.Tactic
open Idealize.ShloMosaic.Pipeline (Dat Cfg Window)
open Cert.Kernel2Ideal Cert.Kernel2Ideal.Gen
open Cert.Ffn

/-- An array of reals, at its rows and columns. -/
def arr {a b : ℕ} (f : ℕ → ℕ → ℝ) : Shape.Idx ⟨2, ![a, b]⟩ → EReal := fun y => ((f (y 0).val (y 1).val : ℝ) : EReal)

theorem ix2_eta {a b : ℕ} (y : Shape.Idx ⟨2, ![a, b]⟩) : y = ix2 (y 0) (y 1) :=
  funext fun i => match i with | ⟨0, _⟩ => rfl | ⟨1, _⟩ => rfl

/-! ## Where the blocks lie -/

theorem index0_0 : ∀ t : Fin cfg0.N, win0_0.index t 0 = t.val % 4 ∧ win0_0.index t 1 = 0 :=
  (by decide +kernel : ∀ t : Fin grid0.N, win0_0.index t 0 = t.val % 4 ∧ win0_0.index t 1 = 0)
theorem index0_1 : ∀ t : Fin cfg0.N, win0_1.index t 0 = t.val / 4 ∧ win0_1.index t 1 = 0 :=
  (by decide +kernel : ∀ t : Fin grid0.N, win0_1.index t 0 = t.val / 4 ∧ win0_1.index t 1 = 0)
theorem index0_2 : ∀ t : Fin cfg0.N, win0_2.index t 0 = t.val / 4 ∧ win0_2.index t 1 = 0 :=
  (by decide +kernel : ∀ t : Fin grid0.N, win0_2.index t 0 = t.val / 4 ∧ win0_2.index t 1 = 0)
theorem index0_3 : ∀ t : Fin cfg0.N, win0_3.index t 0 = t.val % 4 ∧ win0_3.index t 1 = t.val / 4 :=
  (by decide +kernel : ∀ t : Fin grid0.N, win0_3.index t 0 = t.val % 4 ∧ win0_3.index t 1 = t.val / 4)
theorem index0_4 : ∀ t : Fin cfg0.N, win0_4.index t 0 = t.val % 4 ∧ win0_4.index t 1 = t.val / 4 :=
  (by decide +kernel : ∀ t : Fin grid0.N, win0_4.index t 0 = t.val % 4 ∧ win0_4.index t 1 = t.val / 4)
theorem index0_5 : ∀ t : Fin cfg0.N, win0_5.index t 0 = t.val % 4 ∧ win0_5.index t 1 = t.val / 4 :=
  (by decide +kernel : ∀ t : Fin grid0.N, win0_5.index t 0 = t.val % 4 ∧ win0_5.index t 1 = t.val / 4)

variable (V : (c : Dev nD) → (b : Ref sig .tc) → Buf (Elt Ideal) ((c.tc : Thread nD τ).loc b)) (c : Dev nD)

/-! ## The gate and up products -/

variable {u wg wu : ℕ → ℕ → ℝ}

theorem iblk0_0 (h : V c main_arg0 = arr (a := 4096) (b := 1024) u) (t : Fin cfg0.N) (r k : Fin 1024) :
    (iblk0 V c 0 t : FVec Ideal S1024x1024 .bf16) (ix2 r k) = ((u (t.val % 4 * 1024 + r.val) k.val : ℝ) : EReal) := by
  unfold iblk0
  rw [View.read_apply]
  show V c main_arg0 _ = _
  rw [h]
  unfold arr
  have e0 : (((cfg0.win 0).blk t).view.emb (ix2 r k) 0).val = t.val % 4 * 1024 + r.val := by
    show win0_0.index t 0 * 1024 + 1 * r.val = _
    rw [(index0_0 t).1]; omega
  have e1 : (((cfg0.win 0).blk t).view.emb (ix2 r k) 1).val = k.val := by
    show win0_0.index t 1 * 1024 + 1 * k.val = _
    rw [(index0_0 t).2]; omega
  exact congrArg₂ (fun i j => ((u i j : ℝ) : EReal)) e0 e1

theorem iblk0_1 (h : V c main_arg1 = arr (a := 2816) (b := 1024) wg) (t : Fin cfg0.N) (r : Fin 1408) (k : Fin 1024) :
    (iblk0 V c 1 t : FVec Ideal S1408x1024 .bf16) (ix2 r k) = ((wg (t.val / 4 * 1408 + r.val) k.val : ℝ) : EReal) := by
  unfold iblk0
  rw [View.read_apply]
  show V c main_arg1 _ = _
  rw [h]
  unfold arr
  have e0 : (((cfg0.win 1).blk t).view.emb (ix2 r k) 0).val = t.val / 4 * 1408 + r.val := by
    show win0_1.index t 0 * 1408 + 1 * r.val = _
    rw [(index0_1 t).1]; omega
  have e1 : (((cfg0.win 1).blk t).view.emb (ix2 r k) 1).val = k.val := by
    show win0_1.index t 1 * 1024 + 1 * k.val = _
    rw [(index0_1 t).2]; omega
  exact congrArg₂ (fun i j => ((wg i j : ℝ) : EReal)) e0 e1

theorem iblk0_2 (h : V c main_arg2 = arr (a := 2816) (b := 1024) wu) (t : Fin cfg0.N) (r : Fin 1408) (k : Fin 1024) :
    (iblk0 V c 2 t : FVec Ideal S1408x1024 .bf16) (ix2 r k) = ((wu (t.val / 4 * 1408 + r.val) k.val : ℝ) : EReal) := by
  unfold iblk0
  rw [View.read_apply]
  show V c main_arg2 _ = _
  rw [h]
  unfold arr
  have e0 : (((cfg0.win 2).blk t).view.emb (ix2 r k) 0).val = t.val / 4 * 1408 + r.val := by
    show win0_2.index t 0 * 1408 + 1 * r.val = _
    rw [(index0_2 t).1]; omega
  have e1 : (((cfg0.win 2).blk t).view.emb (ix2 r k) 1).val = k.val := by
    show win0_2.index t 1 * 1024 + 1 * k.val = _
    rw [(index0_2 t).2]; omega
  exact congrArg₂ (fun i j => ((wu i j : ℝ) : EReal)) e0 e1

variable (A : Args)

theorem gate0 (h0 : V c main_arg0 = arr (a := 4096) (b := 1024) A.u) (h1 : V c main_arg1 = arr (a := 2816) (b := 1024) A.wg) (t : Fin cfg0.N) (r : Fin 1024) (l : Fin 1408) :
    k0_pay1 (F := Ideal) (iblk0 V c 0 t) (iblk0 V c 1 t) (ix2 r l) = ((A.gate (t.val % 4 * 1024 + r.val) (t.val / 4 * 1408 + l.val) : ℝ) : EReal) :=
  (gate_at _ _ r l).trans (dot_coe (fun k => iblk0_0 V c h0 t r k) (fun k => iblk0_1 V c h1 t l k))
theorem up0 (h0 : V c main_arg0 = arr (a := 4096) (b := 1024) A.u) (h2 : V c main_arg2 = arr (a := 2816) (b := 1024) A.wu) (t : Fin cfg0.N) (r : Fin 1024) (l : Fin 1408) :
    k0_pay2 (F := Ideal) (iblk0 V c 0 t) (iblk0 V c 2 t) (ix2 r l) = ((A.up (t.val % 4 * 1024 + r.val) (t.val / 4 * 1408 + l.val) : ℝ) : EReal) :=
  (up_at _ _ r l).trans (dot_coe (fun k => iblk0_0 V c h0 t r k) (fun k => iblk0_2 V c h2 t l k))

theorem final0_3 (h0 : V c main_arg0 = arr (a := 4096) (b := 1024) A.u) (h1 : V c main_arg1 = arr (a := 2816) (b := 1024) A.wg) (h2 : V c main_arg2 = arr (a := 2816) (b := 1024) A.wu) :
    (dat0 V c).arrAt 3 cfg0.N = arr (a := 4096) (b := 2816) A.zGate := by
  refine (dat0 V c).arrAt_eq_of_covers 3 _ (by decide +kernel) fun t hf y => ?_
  blk_simp
  rw [after0_3]
  frame_out
  obtain ⟨r, l, rfl⟩ : ∃ (r : Fin 1024) (l : Fin 1408), y = ix2 r l := ⟨y 0, y 1, ix2_eta y⟩
  refine (zGate_at _ _ _ r l (gate0 V c A h0 h1 t r l) (up0 V c A h0 h2 t r l)).trans ?_
  unfold arr
  have e0 : (((View.whole main_v0_0).slice (win0_3.rect t)).emb (ix2 r l) 0).val = t.val % 4 * 1024 + r.val := by
    show win0_3.index t 0 * 1024 + 1 * r.val = _
    rw [(index0_3 t).1]; omega
  have e1 : (((View.whole main_v0_0).slice (win0_3.rect t)).emb (ix2 r l) 1).val = t.val / 4 * 1408 + l.val := by
    show win0_3.index t 1 * 1408 + 1 * l.val = _
    rw [(index0_3 t).2]; omega
  exact (congrArg₂ (fun i j => ((A.zGate i j : ℝ) : EReal)) e0 e1).symm

theorem final0_4 (h0 : V c main_arg0 = arr (a := 4096) (b := 1024) A.u) (h1 : V c main_arg1 = arr (a := 2816) (b := 1024) A.wg) :
    (dat0 V c).arrAt 4 cfg0.N = arr (a := 4096) (b := 2816) A.zUp := by
  refine (dat0 V c).arrAt_eq_of_covers 4 _ (by decide +kernel) fun t hf y => ?_
  blk_simp
  rw [after0_4]
  frame_out
  obtain ⟨r, l, rfl⟩ : ∃ (r : Fin 1024) (l : Fin 1408), y = ix2 r l := ⟨y 0, y 1, ix2_eta y⟩
  refine (zUp_at _ _ r l (gate0 V c A h0 h1 t r l)).trans ?_
  unfold arr
  have e0 : (((View.whole main_v0_1).slice (win0_4.rect t)).emb (ix2 r l) 0).val = t.val % 4 * 1024 + r.val := by
    show win0_4.index t 0 * 1024 + 1 * r.val = _
    rw [(index0_4 t).1]; omega
  have e1 : (((View.whole main_v0_1).slice (win0_4.rect t)).emb (ix2 r l) 1).val = t.val / 4 * 1408 + l.val := by
    show win0_4.index t 1 * 1408 + 1 * l.val = _
    rw [(index0_4 t).2]; omega
  exact (congrArg₂ (fun i j => ((A.zUp i j : ℝ) : EReal)) e0 e1).symm

theorem final0_5 (h0 : V c main_arg0 = arr (a := 4096) (b := 1024) A.u) (h1 : V c main_arg1 = arr (a := 2816) (b := 1024) A.wg) (h2 : V c main_arg2 = arr (a := 2816) (b := 1024) A.wu) :
    (dat0 V c).arrAt 5 cfg0.N = arr (a := 4096) (b := 2816) A.z := by
  refine (dat0 V c).arrAt_eq_of_covers 5 _ (by decide +kernel) fun t hf y => ?_
  blk_simp
  rw [after0_5]
  frame_out
  obtain ⟨r, l, rfl⟩ : ∃ (r : Fin 1024) (l : Fin 1408), y = ix2 r l := ⟨y 0, y 1, ix2_eta y⟩
  refine (z_at _ _ _ r l (gate0 V c A h0 h1 t r l) (up0 V c A h0 h2 t r l)).trans ?_
  unfold arr
  have e0 : (((View.whole main_v0_2).slice (win0_5.rect t)).emb (ix2 r l) 0).val = t.val % 4 * 1024 + r.val := by
    show win0_5.index t 0 * 1024 + 1 * r.val = _
    rw [(index0_5 t).1]; omega
  have e1 : (((View.whole main_v0_2).slice (win0_5.rect t)).emb (ix2 r l) 1).val = t.val / 4 * 1408 + l.val := by
    show win0_5.index t 1 * 1408 + 1 * l.val = _
    rw [(index0_5 t).2]; omega
  exact (congrArg₂ (fun i j => ((A.z i j : ℝ) : EReal)) e0 e1).symm

end Cert.Kernel2Ideal.Ffn

end
-- ==== Proof.Ffn.Backward.lean ====
/- The three backward calls' result arrays, when their arguments hold given reals. -/
module

public import proofs.«01_k».proof.Proof.Gen.Kernel2Ideal.Frame
public import proofs.«01_k».proof.Proof.Ffn.Regions

@[expose] public section

set_option maxRecDepth 16384

noncomputable section

namespace Cert.Kernel2Ideal.Ffn

open Idealize.ShloMosaic Idealize.ShloMosaic.TcCoe Idealize.ShloMosaic.Tactic
open Idealize.ShloMosaic.Pipeline (Dat Cfg Window)
open Cert.Kernel2Ideal Cert.Kernel2Ideal.Gen
open Cert.Ffn

/-! ## Where the blocks lie -/

theorem index1_0 : ∀ t : Fin cfg1.N, win1_0.index t 0 = t.val % 4 ∧ win1_0.index t 1 = 0 :=
  (by decide +kernel : ∀ t : Fin grid1.N, win1_0.index t 0 = t.val % 4 ∧ win1_0.index t 1 = 0)
theorem index1_1 : ∀ t : Fin cfg1.N, win1_1.index t 0 = t.val / 4 ∧ win1_1.index t 1 = 0 :=
  (by decide +kernel : ∀ t : Fin grid1.N, win1_1.index t 0 = t.val / 4 ∧ win1_1.index t 1 = 0)
theorem index1_2 : ∀ t : Fin cfg1.N, win1_2.index t 0 = t.val % 4 ∧ win1_2.index t 1 = t.val / 4 :=
  (by decide +kernel : ∀ t : Fin grid1.N, win1_2.index t 0 = t.val % 4 ∧ win1_2.index t 1 = t.val / 4)
theorem index1_3 : ∀ t : Fin cfg1.N, win1_3.index t 0 = t.val % 4 ∧ win1_3.index t 1 = t.val / 4 :=
  (by decide +kernel : ∀ t : Fin grid1.N, win1_3.index t 0 = t.val % 4 ∧ win1_3.index t 1 = t.val / 4)
theorem index1_4 : ∀ t : Fin cfg1.N, win1_4.index t 0 = t.val % 4 ∧ win1_4.index t 1 = t.val / 4 :=
  (by decide +kernel : ∀ t : Fin grid1.N, win1_4.index t 0 = t.val % 4 ∧ win1_4.index t 1 = t.val / 4)
theorem index1_5 : ∀ t : Fin cfg1.N, win1_5.index t 0 = t.val % 4 ∧ win1_5.index t 1 = t.val / 4 :=
  (by decide +kernel : ∀ t : Fin grid1.N, win1_5.index t 0 = t.val % 4 ∧ win1_5.index t 1 = t.val / 4)
theorem index2_0 : ∀ t : Fin cfg2.N, win2_0.index t 0 = 0 ∧ win2_0.index t 1 = t.val :=
  (by decide +kernel : ∀ t : Fin grid2.N, win2_0.index t 0 = 0 ∧ win2_0.index t 1 = t.val)
theorem index2_1 : ∀ t : Fin cfg2.N, win2_1.index t 0 = 0 ∧ win2_1.index t 1 = 0 :=
  (by decide +kernel : ∀ t : Fin grid2.N, win2_1.index t 0 = 0 ∧ win2_1.index t 1 = 0)
theorem index2_2 : ∀ t : Fin cfg2.N, win2_2.index t 0 = t.val ∧ win2_2.index t 1 = 0 :=
  (by decide +kernel : ∀ t : Fin grid2.N, win2_2.index t 0 = t.val ∧ win2_2.index t 1 = 0)
theorem index3_0 : ∀ t : Fin cfg3.N, win3_0.index t 0 = t.val / 2 ∧ win3_0.index t 1 = 0 :=
  (by decide +kernel : ∀ t : Fin grid3.N, win3_0.index t 0 = t.val / 2 ∧ win3_0.index t 1 = 0)
theorem index3_1 : ∀ t : Fin cfg3.N, win3_1.index t 0 = t.val / 2 ∧ win3_1.index t 1 = 0 :=
  (by decide +kernel : ∀ t : Fin grid3.N, win3_1.index t 0 = t.val / 2 ∧ win3_1.index t 1 = 0)
theorem index3_2 : ∀ t : Fin cfg3.N, win3_2.index t 0 = 0 ∧ win3_2.index t 1 = t.val % 2 :=
  (by decide +kernel : ∀ t : Fin grid3.N, win3_2.index t 0 = 0 ∧ win3_2.index t 1 = t.val % 2)
theorem index3_3 : ∀ t : Fin cfg3.N, win3_3.index t 0 = 0 ∧ win3_3.index t 1 = t.val % 2 :=
  (by decide +kernel : ∀ t : Fin grid3.N, win3_3.index t 0 = 0 ∧ win3_3.index t 1 = t.val % 2)
theorem index3_4 : ∀ t : Fin cfg3.N, win3_4.index t 0 = t.val / 2 ∧ win3_4.index t 1 = t.val % 2 :=
  (by decide +kernel : ∀ t : Fin grid3.N, win3_4.index t 0 = t.val / 2 ∧ win3_4.index t 1 = t.val % 2)

variable (V : (c : Dev nD) → (b : Ref sig .tc) → Buf (Elt Ideal) ((c.tc : Thread nD τ).loc b)) (c : Dev nD)
variable {f : ℕ → ℕ → ℝ} (A : Args)

/-! ## The gradients of the gate and up products -/

theorem iblk1_0 (h : V c main_arg4 = arr (a := 4096) (b := 1024) f) (t : Fin cfg1.N) (r : Fin 1024) (k : Fin 1024) :
    (iblk1 V c 0 t : FVec Ideal S1024x1024 .bf16) (ix2 r k) = ((f (t.val % 4 * 1024 + r.val) (k.val) : ℝ) : EReal) := by
  unfold iblk1
  rw [View.read_apply]
  show V c main_arg4 _ = _
  rw [h]
  unfold arr
  have e0 : (((cfg1.win 0).blk t).view.emb (ix2 r k) 0).val = t.val % 4 * 1024 + r.val := by
    show win1_0.index t 0 * 1024 + 1 * r.val = _
    rw [(index1_0 t).1]; omega
  have e1 : (((cfg1.win 0).blk t).view.emb (ix2 r k) 1).val = k.val := by
    show win1_0.index t 1 * 1024 + 1 * k.val = _
    rw [(index1_0 t).2]; omega
  exact congrArg₂ (fun i j => ((f i j : ℝ) : EReal)) e0 e1

theorem iblk1_1 (h : V c main_arg3 = arr (a := 2816) (b := 1024) f) (t : Fin cfg1.N) (r : Fin 1408) (k : Fin 1024) :
    (iblk1 V c 1 t : FVec Ideal S1408x1024 .bf16) (ix2 r k) = ((f (t.val / 4 * 1408 + r.val) (k.val) : ℝ) : EReal) := by
  unfold iblk1
  rw [View.read_apply]
  show V c main_arg3 _ = _
  rw [h]
  unfold arr
  have e0 : (((cfg1.win 1).blk t).view.emb (ix2 r k) 0).val = t.val / 4 * 1408 + r.val := by
    show win1_1.index t 0 * 1408 + 1 * r.val = _
    rw [(index1_1 t).1]; omega
  have e1 : (((cfg1.win 1).blk t).view.emb (ix2 r k) 1).val = k.val := by
    show win1_1.index t 1 * 1024 + 1 * k.val = _
    rw [(index1_1 t).2]; omega
  exact congrArg₂ (fun i j => ((f i j : ℝ) : EReal)) e0 e1

theorem iblk1_2 (h : V c main_v0_0 = arr (a := 4096) (b := 2816) f) (t : Fin cfg1.N) (r : Fin 1024) (k : Fin 1408) :
    (iblk1 V c 2 t : FVec Ideal S1024x1408 .bf16) (ix2 r k) = ((f (t.val % 4 * 1024 + r.val) (t.val / 4 * 1408 + k.val) : ℝ) : EReal) := by
  unfold iblk1
  rw [View.read_apply]
  show V c main_v0_0 _ = _
  rw [h]
  unfold arr
  have e0 : (((cfg1.win 2).blk t).view.emb (ix2 r k) 0).val = t.val % 4 * 1024 + r.val := by
    show win1_2.index t 0 * 1024 + 1 * r.val = _
    rw [(index1_2 t).1]; omega
  have e1 : (((cfg1.win 2).blk t).view.emb (ix2 r k) 1).val = t.val / 4 * 1408 + k.val := by
    show win1_2.index t 1 * 1408 + 1 * k.val = _
    rw [(index1_2 t).2]; omega
  exact congrArg₂ (fun i j => ((f i j : ℝ) : EReal)) e0 e1

theorem iblk1_3 (h : V c main_v0_1 = arr (a := 4096) (b := 2816) f) (t : Fin cfg1.N) (r : Fin 1024) (k : Fin 1408) :
    (iblk1 V c 3 t : FVec Ideal S1024x1408 .bf16) (ix2 r k) = ((f (t.val % 4 * 1024 + r.val) (t.val / 4 * 1408 + k.val) : ℝ) : EReal) := by
  unfold iblk1
  rw [View.read_apply]
  show V c main_v0_1 _ = _
  rw [h]
  unfold arr
  have e0 : (((cfg1.win 3).blk t).view.emb (ix2 r k) 0).val = t.val % 4 * 1024 + r.val := by
    show win1_3.index t 0 * 1024 + 1 * r.val = _
    rw [(index1_3 t).1]; omega
  have e1 : (((cfg1.win 3).blk t).view.emb (ix2 r k) 1).val = t.val / 4 * 1408 + k.val := by
    show win1_3.index t 1 * 1408 + 1 * k.val = _
    rw [(index1_3 t).2]; omega
  exact congrArg₂ (fun i j => ((f i j : ℝ) : EReal)) e0 e1

theorem dz1 (h4 : V c main_arg4 = arr (a := 4096) (b := 1024) A.h) (h3 : V c main_arg3 = arr (a := 2816) (b := 1024) A.wd) (t : Fin cfg1.N) (r : Fin 1024) (l : Fin 1408) :
    k1_pay1 (F := Ideal) (iblk1 V c 0 t) (iblk1 V c 1 t) (ix2 r l) = ((A.dz (t.val % 4 * 1024 + r.val) (t.val / 4 * 1408 + l.val) : ℝ) : EReal) :=
  (dz_at _ _ r l).trans (dot_coe (fun k => iblk1_0 V c h4 t r k) (fun k => iblk1_1 V c h3 t l k))

theorem final1_4 (h4 : V c main_arg4 = arr (a := 4096) (b := 1024) A.h) (h3 : V c main_arg3 = arr (a := 2816) (b := 1024) A.wd) (hz : V c main_v0_0 = arr (a := 4096) (b := 2816) A.zGate) :
    (dat1 V c).arrAt 4 cfg1.N = arr (a := 4096) (b := 2816) A.dGate := by
  refine (dat1 V c).arrAt_eq_of_covers 4 _ (by decide +kernel) fun t hf y => ?_
  blk_simp
  rw [after1_4]
  frame_out
  obtain ⟨r, l, rfl⟩ : ∃ (r : Fin 1024) (l : Fin 1408), y = ix2 r l := ⟨y 0, y 1, ix2_eta y⟩
  refine (dGate_at _ _ r l _ (dz1 V c A h4 h3 t r l) (iblk1_2 V c hz t r l)).trans ?_
  unfold arr
  have e0 : (((View.whole main_v1_0).slice (win1_4.rect t)).emb (ix2 r l) 0).val = t.val % 4 * 1024 + r.val := by
    show win1_4.index t 0 * 1024 + 1 * r.val = _
    rw [(index1_4 t).1]; omega
  have e1 : (((View.whole main_v1_0).slice (win1_4.rect t)).emb (ix2 r l) 1).val = t.val / 4 * 1408 + l.val := by
    show win1_4.index t 1 * 1408 + 1 * l.val = _
    rw [(index1_4 t).2]; omega
  exact (congrArg₂ (fun i j => ((A.dGate i j : ℝ) : EReal)) e0 e1).symm

theorem final1_5 (h4 : V c main_arg4 = arr (a := 4096) (b := 1024) A.h) (h3 : V c main_arg3 = arr (a := 2816) (b := 1024) A.wd) (hz : V c main_v0_1 = arr (a := 4096) (b := 2816) A.zUp) :
    (dat1 V c).arrAt 5 cfg1.N = arr (a := 4096) (b := 2816) A.dUp := by
  refine (dat1 V c).arrAt_eq_of_covers 5 _ (by decide +kernel) fun t hf y => ?_
  blk_simp
  rw [after1_5]
  frame_out
  obtain ⟨r, l, rfl⟩ : ∃ (r : Fin 1024) (l : Fin 1408), y = ix2 r l := ⟨y 0, y 1, ix2_eta y⟩
  refine (dUp_at _ _ r l _ (dz1 V c A h4 h3 t r l) (iblk1_3 V c hz t r l)).trans ?_
  unfold arr
  have e0 : (((View.whole main_v1_1).slice (win1_5.rect t)).emb (ix2 r l) 0).val = t.val % 4 * 1024 + r.val := by
    show win1_5.index t 0 * 1024 + 1 * r.val = _
    rw [(index1_5 t).1]; omega
  have e1 : (((View.whole main_v1_1).slice (win1_5.rect t)).emb (ix2 r l) 1).val = t.val / 4 * 1408 + l.val := by
    show win1_5.index t 1 * 1408 + 1 * l.val = _
    rw [(index1_5 t).2]; omega
  exact (congrArg₂ (fun i j => ((A.dUp i j : ℝ) : EReal)) e0 e1).symm

/-! ## The gradient of the down weights -/

theorem iblk2_0 (h : V c main_v0_2 = arr (a := 4096) (b := 2816) f) (t : Fin cfg2.N) (r : Fin 4096) (k : Fin 256) :
    (iblk2 V c 0 t : FVec Ideal S4096x256 .bf16) (ix2 r k) = ((f (r.val) (t.val * 256 + k.val) : ℝ) : EReal) := by
  unfold iblk2
  rw [View.read_apply]
  show V c main_v0_2 _ = _
  rw [h]
  unfold arr
  have e0 : (((cfg2.win 0).blk t).view.emb (ix2 r k) 0).val = r.val := by
    show win2_0.index t 0 * 4096 + 1 * r.val = _
    rw [(index2_0 t).1]; omega
  have e1 : (((cfg2.win 0).blk t).view.emb (ix2 r k) 1).val = t.val * 256 + k.val := by
    show win2_0.index t 1 * 256 + 1 * k.val = _
    rw [(index2_0 t).2]; omega
  exact congrArg₂ (fun i j => ((f i j : ℝ) : EReal)) e0 e1

theorem iblk2_1 (h : V c main_arg4 = arr (a := 4096) (b := 1024) f) (t : Fin cfg2.N) (r : Fin 4096) (k : Fin 1024) :
    (iblk2 V c 1 t : FVec Ideal S4096x1024 .bf16) (ix2 r k) = ((f (r.val) (k.val) : ℝ) : EReal) := by
  unfold iblk2
  rw [View.read_apply]
  show V c main_arg4 _ = _
  rw [h]
  unfold arr
  have e0 : (((cfg2.win 1).blk t).view.emb (ix2 r k) 0).val = r.val := by
    show win2_1.index t 0 * 4096 + 1 * r.val = _
    rw [(index2_1 t).1]; omega
  have e1 : (((cfg2.win 1).blk t).view.emb (ix2 r k) 1).val = k.val := by
    show win2_1.index t 1 * 1024 + 1 * k.val = _
    rw [(index2_1 t).2]; omega
  exact congrArg₂ (fun i j => ((f i j : ℝ) : EReal)) e0 e1

theorem final2_2 (h4 : V c main_arg4 = arr (a := 4096) (b := 1024) A.h) (hz : V c main_v0_2 = arr (a := 4096) (b := 2816) A.z) :
    (dat2 V c).arrAt 2 cfg2.N = arr (a := 2816) (b := 1024) A.dWd := by
  refine (dat2 V c).arrAt_eq_of_covers 2 _ (by decide +kernel) fun t hf y => ?_
  blk_simp
  rw [after2_2]
  unfold outsAt2
  frame_out
  obtain ⟨r, l, rfl⟩ : ∃ (r : Fin 256) (l : Fin 1024), y = ix2 r l := ⟨y 0, y 1, ix2_eta y⟩
  refine ((dWd_at _ _ r l).trans (dot_coe (fun k => iblk2_0 V c hz t k r) (fun k => iblk2_1 V c h4 t k l))).trans ?_
  unfold arr
  have e0 : (((View.whole main_v2).slice (win2_2.rect t)).emb (ix2 r l) 0).val = t.val * 256 + r.val := by
    show win2_2.index t 0 * 256 + 1 * r.val = _
    rw [(index2_2 t).1]; omega
  have e1 : (((View.whole main_v2).slice (win2_2.rect t)).emb (ix2 r l) 1).val = l.val := by
    show win2_2.index t 1 * 1024 + 1 * l.val = _
    rw [(index2_2 t).2]; omega
  exact (congrArg₂ (fun i j => ((A.dWd i j : ℝ) : EReal)) e0 e1).symm

/-! ## The gradient of the input -/

theorem iblk3_0 (h : V c main_v1_0 = arr (a := 4096) (b := 2816) f) (t : Fin cfg3.N) (r : Fin 1024) (k : Fin 2816) :
    (iblk3 V c 0 t : FVec Ideal S1024x2816 .bf16) (ix2 r k) = ((f (t.val / 2 * 1024 + r.val) (k.val) : ℝ) : EReal) := by
  unfold iblk3
  rw [View.read_apply]
  show V c main_v1_0 _ = _
  rw [h]
  unfold arr
  have e0 : (((cfg3.win 0).blk t).view.emb (ix2 r k) 0).val = t.val / 2 * 1024 + r.val := by
    show win3_0.index t 0 * 1024 + 1 * r.val = _
    rw [(index3_0 t).1]; omega
  have e1 : (((cfg3.win 0).blk t).view.emb (ix2 r k) 1).val = k.val := by
    show win3_0.index t 1 * 2816 + 1 * k.val = _
    rw [(index3_0 t).2]; omega
  exact congrArg₂ (fun i j => ((f i j : ℝ) : EReal)) e0 e1

theorem iblk3_1 (h : V c main_v1_1 = arr (a := 4096) (b := 2816) f) (t : Fin cfg3.N) (r : Fin 1024) (k : Fin 2816) :
    (iblk3 V c 1 t : FVec Ideal S1024x2816 .bf16) (ix2 r k) = ((f (t.val / 2 * 1024 + r.val) (k.val) : ℝ) : EReal) := by
  unfold iblk3
  rw [View.read_apply]
  show V c main_v1_1 _ = _
  rw [h]
  unfold arr
  have e0 : (((cfg3.win 1).blk t).view.emb (ix2 r k) 0).val = t.val / 2 * 1024 + r.val := by
    show win3_1.index t 0 * 1024 + 1 * r.val = _
    rw [(index3_1 t).1]; omega
  have e1 : (((cfg3.win 1).blk t).view.emb (ix2 r k) 1).val = k.val := by
    show win3_1.index t 1 * 2816 + 1 * k.val = _
    rw [(index3_1 t).2]; omega
  exact congrArg₂ (fun i j => ((f i j : ℝ) : EReal)) e0 e1

theorem iblk3_2 (h : V c main_arg1 = arr (a := 2816) (b := 1024) f) (t : Fin cfg3.N) (r : Fin 2816) (k : Fin 512) :
    (iblk3 V c 2 t : FVec Ideal S2816x512 .bf16) (ix2 r k) = ((f (r.val) (t.val % 2 * 512 + k.val) : ℝ) : EReal) := by
  unfold iblk3
  rw [View.read_apply]
  show V c main_arg1 _ = _
  rw [h]
  unfold arr
  have e0 : (((cfg3.win 2).blk t).view.emb (ix2 r k) 0).val = r.val := by
    show win3_2.index t 0 * 2816 + 1 * r.val = _
    rw [(index3_2 t).1]; omega
  have e1 : (((cfg3.win 2).blk t).view.emb (ix2 r k) 1).val = t.val % 2 * 512 + k.val := by
    show win3_2.index t 1 * 512 + 1 * k.val = _
    rw [(index3_2 t).2]; omega
  exact congrArg₂ (fun i j => ((f i j : ℝ) : EReal)) e0 e1

theorem iblk3_3 (h : V c main_arg2 = arr (a := 2816) (b := 1024) f) (t : Fin cfg3.N) (r : Fin 2816) (k : Fin 512) :
    (iblk3 V c 3 t : FVec Ideal S2816x512 .bf16) (ix2 r k) = ((f (r.val) (t.val % 2 * 512 + k.val) : ℝ) : EReal) := by
  unfold iblk3
  rw [View.read_apply]
  show V c main_arg2 _ = _
  rw [h]
  unfold arr
  have e0 : (((cfg3.win 3).blk t).view.emb (ix2 r k) 0).val = r.val := by
    show win3_3.index t 0 * 2816 + 1 * r.val = _
    rw [(index3_3 t).1]; omega
  have e1 : (((cfg3.win 3).blk t).view.emb (ix2 r k) 1).val = t.val % 2 * 512 + k.val := by
    show win3_3.index t 1 * 512 + 1 * k.val = _
    rw [(index3_3 t).2]; omega
  exact congrArg₂ (fun i j => ((f i j : ℝ) : EReal)) e0 e1

theorem final3_4 (h1 : V c main_arg1 = arr (a := 2816) (b := 1024) A.wg) (h2 : V c main_arg2 = arr (a := 2816) (b := 1024) A.wu) (hg : V c main_v1_0 = arr (a := 4096) (b := 2816) A.dGate) (hu : V c main_v1_1 = arr (a := 4096) (b := 2816) A.dUp) :
    (dat3 V c).arrAt 4 cfg3.N = arr (a := 4096) (b := 1024) A.dU := by
  refine (dat3 V c).arrAt_eq_of_covers 4 _ (by decide +kernel) fun t hf y => ?_
  blk_simp
  rw [after3_4]
  frame_out
  obtain ⟨r, l, rfl⟩ : ∃ (r : Fin 1024) (l : Fin 512), y = ix2 r l := ⟨y 0, y 1, ix2_eta y⟩
  refine ((dU_at _ _ _ _ r l).trans ((congrArg₂ (fun x y : EReal => x + y) (dot_coe (fun k => iblk3_0 V c hg t r k) (fun k => iblk3_2 V c h1 t k l))
    (dot_coe (fun k => iblk3_1 V c hu t r k) (fun k => iblk3_3 V c h2 t k l))).trans (EReal.coe_add _ _).symm)).trans ?_
  unfold arr
  have e0 : (((View.whole main_v3).slice (win3_4.rect t)).emb (ix2 r l) 0).val = t.val / 2 * 1024 + r.val := by
    show win3_4.index t 0 * 1024 + 1 * r.val = _
    rw [(index3_4 t).1]; omega
  have e1 : (((View.whole main_v3).slice (win3_4.rect t)).emb (ix2 r l) 1).val = t.val % 2 * 512 + l.val := by
    show win3_4.index t 1 * 512 + 1 * l.val = _
    rw [(index3_4 t).2]; omega
  exact (congrArg₂ (fun i j => ((A.dU i j : ℝ) : EReal)) e0 e1).symm

end Cert.Kernel2Ideal.Ffn

end
-- ==== Proof.Ffn.Result.lean ====
/- The kernel's four results on real arguments. -/
module

public import proofs.«01_k».proof.Proof.Ffn.Launch
public import proofs.«01_k».proof.Proof.Ffn.Backward

@[expose] public section

set_option maxRecDepth 16384

noncomputable section

namespace Cert.Kernel2Ideal.Ffn

open Idealize.ShloMosaic Idealize.ShloMosaic.TcCoe
open Cert.Kernel2Ideal Cert.Kernel2Ideal.Gen
open Cert.Ffn

variable (m : (ℓ : Loc nD τ sig) → Buf (Elt Ideal) ℓ) (ρ : Dev nD → PrngReg) (c : Dev nD)

/-- The arguments hold these reals. -/
structure ArgsHold (A : Args) : Prop where
  u : m (c.tc.loc main_arg0) = arr (a := 4096) (b := 1024) A.u
  wg : m (c.tc.loc main_arg1) = arr (a := 2816) (b := 1024) A.wg
  wu : m (c.tc.loc main_arg2) = arr (a := 2816) (b := 1024) A.wu
  wd : m (c.tc.loc main_arg3) = arr (a := 2816) (b := 1024) A.wd
  h : m (c.tc.loc main_arg4) = arr (a := 4096) (b := 1024) A.h

variable {m c} {A : Args} (H : ArgsHold m c A)
include H

/-! ## After the forward call -/

theorem zGate1 : V1 m ρ c main_v0_0 = arr (a := 4096) (b := 2816) A.zGate :=
  (W1_arr m ρ c 3).trans (final0_3 (V0 m ρ) c A H.u H.wg H.wu)
theorem zUp1 : V1 m ρ c main_v0_1 = arr (a := 4096) (b := 2816) A.zUp :=
  (W1_arr m ρ c 4).trans (final0_4 (V0 m ρ) c A H.u H.wg)
theorem z1 : V1 m ρ c main_v0_2 = arr (a := 4096) (b := 2816) A.z :=
  (W1_arr m ρ c 5).trans (final0_5 (V0 m ρ) c A H.u H.wg H.wu)

/-! ## After the gradients of the gate and up products -/

theorem dGate2 : V2 m ρ c main_v1_0 = arr (a := 4096) (b := 2816) A.dGate :=
  (W2_arr m ρ c 4).trans (final1_4 (V1 m ρ) c A ((W1_args m ρ c main_arg4 (by decide)).trans H.h) ((W1_args m ρ c main_arg3 (by decide)).trans H.wd) (zGate1 ρ H))
theorem dUp2 : V2 m ρ c main_v1_1 = arr (a := 4096) (b := 2816) A.dUp :=
  (W2_arr m ρ c 5).trans (final1_5 (V1 m ρ) c A ((W1_args m ρ c main_arg4 (by decide)).trans H.h) ((W1_args m ρ c main_arg3 (by decide)).trans H.wd) (zUp1 ρ H))
theorem z2 : V2 m ρ c main_v0_2 = arr (a := 4096) (b := 2816) A.z :=
  (W2_of_ne m ρ c main_v0_2 (by decide)).trans (z1 ρ H)

/-! ## After the gradient of the down weights -/

theorem dGate3 : V3 m ρ c main_v1_0 = arr (a := 4096) (b := 2816) A.dGate :=
  (W3_of_ne m ρ c main_v1_0 (by decide)).trans (dGate2 ρ H)
theorem dUp3 : V3 m ρ c main_v1_1 = arr (a := 4096) (b := 2816) A.dUp :=
  (W3_of_ne m ρ c main_v1_1 (by decide)).trans (dUp2 ρ H)
theorem dWd3 : V3 m ρ c main_v2 = arr (a := 2816) (b := 1024) A.dWd :=
  (W3_arr m ρ c 2).trans (final2_2 (V2 m ρ) c A ((W2_args m ρ c main_arg4 (by decide)).trans H.h) (z2 ρ H))

/-! ## At the end -/

theorem dGate4 : V4 m ρ c main_v1_0 = arr (a := 4096) (b := 2816) A.dGate :=
  (W4_of m ρ c main_v1_0 (by decide)).trans (dGate3 ρ H)
theorem dUp4 : V4 m ρ c main_v1_1 = arr (a := 4096) (b := 2816) A.dUp :=
  (W4_of m ρ c main_v1_1 (by decide)).trans (dUp3 ρ H)
theorem dWd4 : V4 m ρ c main_v2 = arr (a := 2816) (b := 1024) A.dWd :=
  (W4_of_ne m ρ c main_v2 (by decide)).trans (dWd3 ρ H)
theorem dU4 : V4 m ρ c main_v3 = arr (a := 4096) (b := 1024) A.dU :=
  (W4_arr m ρ c 4).trans (final3_4 (V3 m ρ) c A ((W3_args m ρ c main_arg1 (by decide)).trans H.wg) ((W3_args m ρ c main_arg2 (by decide)).trans H.wu) (dGate3 ρ H) (dUp3 ρ H))

end Cert.Kernel2Ideal.Ffn

end
-- ==== Proof.Ffn.Reference.lean ====
/- The reference's four results on real arguments: its operations named, and read at an element. -/
module

public import proofs.«01_k».proof.Proof.Gen.Reference2Ideal.Run
public import proofs.«01_k».proof.Proof.Ffn.Model
public import Idealize.ShloMosaic.Lib.Pointwise
public import Idealize.ShloMosaic.Lib.ValueIdx
public import Idealize.ShloMosaic.Lib.Quiescent

@[expose] public section

set_option maxRecDepth 8192
set_option maxHeartbeats 200000

noncomputable section

namespace Cert.Reference2Ideal.Ffn

open Cert.Reference2Ideal Cert.Reference2Ideal.Gen Cert.Reference2Ideal.Value
open Idealize.ShloMosaic Idealize.ShloMosaic.TcCoe Idealize.SL.Sem
open Cert.Ffn

/-! ## The operations -/

/-- The features' products with the tokens. -/
def prod (u : FVec Ideal S4096x1024 .bf16) (w : FVec Ideal S2816x1024 .bf16) : FVec Ideal S4096x2816 .f32 :=
  Host.dotGeneral (φ₁ := .f32) (φ₂ := .f32) dot_S4096x1024_S1024x2816_S4096x2816_1_0_0_1_n_n none (extf .f32 u bitsLt_bf16_f32)
    (transpose S1024x2816 [1, 0] (extf .f32 w bitsLt_bf16_f32) transposes_S2816x1024_S1024x2816_1_0)
/-- The gradient of the gated product. -/
def dz (h : FVec Ideal S4096x1024 .bf16) (w : FVec Ideal S2816x1024 .bf16) : FVec Ideal S4096x2816 .f32 :=
  Host.dotGeneral (φ₁ := .f32) (φ₂ := .f32) dot_S4096x1024_S2816x1024_S4096x2816_1_1_0_0_n_n none (extf .f32 h bitsLt_bf16_f32) (extf .f32 w bitsLt_bf16_f32)
/-- Ones. -/
def ones : FVec Ideal S4096x2816 .f32 := broadcastInDim S4096x2816 ![] bcast_S_S4096x2816 (constant S_ .f32 0x3F800000#32)
/-- The logistic function. -/
def logistic (g : FVec Ideal S4096x2816 .f32) : FVec Ideal S4096x2816 .f32 := Host.divf ones (addf ones (Host.exp (Host.negf g)))
/-- The gate's gradient. -/
def dGate (g b d : FVec Ideal S4096x2816 .f32) : FVec Ideal S4096x2816 .f32 :=
  addf (mulf (mulf d b) (logistic g)) (mulf (mulf g (mulf d b)) (mulf (logistic g) (subf ones (logistic g))))
/-- The up product's gradient. -/
def dUp (g d : FVec Ideal S4096x2816 .f32) : FVec Ideal S4096x2816 .f32 := mulf (mulf g (logistic g)) d
/-- The gated product. -/
def gated (g b : FVec Ideal S4096x2816 .f32) : FVec Ideal S4096x2816 .f32 := mulf (mulf g (logistic g)) b
/-- The down weights' gradient. -/
def dWd (h : FVec Ideal S4096x1024 .bf16) (z : FVec Ideal S4096x2816 .f32) : FVec Ideal S2816x1024 .bf16 :=
  truncf .bf16 (transpose S2816x1024 [1, 0] (Host.dotGeneral (φ₁ := .f32) (φ₂ := .f32) dot_S4096x1024_S4096x2816_S1024x2816_0_0_1_1_n_n none (extf .f32 h bitsLt_bf16_f32) z)
    transposes_S1024x2816_S2816x1024_1_0) bitsLt_bf16_f32
/-- The input's gradient through one of the two products. -/
def dIn (x : FVec Ideal S4096x2816 .f32) (w : FVec Ideal S2816x1024 .bf16) : FVec Ideal S4096x1024 .f32 :=
  Host.dotGeneral (φ₁ := .f32) (φ₂ := .f32) dot_S4096x2816_S1024x2816_S4096x1024_1_1_0_0_n_n none x
    (transpose S1024x2816 [1, 0] (extf .f32 w bitsLt_bf16_f32) transposes_S2816x1024_S1024x2816_1_0)

variable (m : (ℓ : Loc nD τ sig) → Buf (Elt Ideal) ℓ) (c : Dev nD)

/-- The five arguments. -/
def argU : FVec Ideal S4096x1024 .bf16 := m (c.tc.loc main_arg0)
@[inherit_doc argU] def argWg : FVec Ideal S2816x1024 .bf16 := m (c.tc.loc main_arg1)
@[inherit_doc argU] def argWu : FVec Ideal S2816x1024 .bf16 := m (c.tc.loc main_arg2)
@[inherit_doc argU] def argWd : FVec Ideal S2816x1024 .bf16 := m (c.tc.loc main_arg3)
@[inherit_doc argU] def argH : FVec Ideal S4096x1024 .bf16 := m (c.tc.loc main_arg4)

/-- The results, of the arguments. -/
def outGate : FVec Ideal S4096x2816 .f32 := dGate (prod (argU m c) (argWg m c)) (prod (argU m c) (argWu m c)) (dz (argH m c) (argWd m c))
@[inherit_doc outGate] def outUp : FVec Ideal S4096x2816 .f32 := dUp (prod (argU m c) (argWg m c)) (dz (argH m c) (argWd m c))
@[inherit_doc outGate] def outWd : FVec Ideal S2816x1024 .bf16 := dWd (argH m c) (gated (prod (argU m c) (argWg m c)) (prod (argU m c) (argWu m c)))
@[inherit_doc outGate] def outU : FVec Ideal S4096x1024 .f32 := addf (dIn (outUp m c) (argWu m c)) (dIn (outGate m c) (argWg m c))

/-- The reference's run, its results by name. -/
theorem run (g : Dev nD → PrngReg) :
    θ_run (defs (F := Ideal)) (onTc (τ := τ) (main (F := Ideal))) ⟨m, fun _ => 0, g⟩ (fun r => ∀ c : Dev nD,
      r.2.mem (c.tc.loc main_v22) = (truncf .bf16 (outGate m c) bitsLt_bf16_f32 : FVec Ideal S4096x2816 .bf16)
      ∧ r.2.mem (c.tc.loc main_v23) = (truncf .bf16 (outUp m c) bitsLt_bf16_f32 : FVec Ideal S4096x2816 .bf16)
      ∧ r.2.mem (c.tc.loc main_v15) = outWd m c
      ∧ r.2.mem (c.tc.loc main_v21) = outU m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)) := by
  unfold outU outWd outGate outUp dIn dWd gated dUp dGate logistic ones dz prod argU argWg argWu argWd argH
  exact Cert.Reference2Ideal.Value.run (F := Ideal) m g

/-- The reference's frame. -/
theorem frame (g : Dev nD → PrngReg) :
    θ_run (defs (F := Ideal)) (onTc (τ := τ) (main (F := Ideal))) ⟨m, fun _ => 0, g⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4))
      ∧ r.2.sem = fun _ => 0) :=
  (θ_run _ _ _).mono (fun r h => ⟨fun c => (h c).2.2.2.2, sem_eq_zero_of_no_sems (by decide) r.2⟩) (run m g)

/-! ## At an element -/

section
variable (u : FVec Ideal S4096x1024 .bf16) (w : FVec Ideal S2816x1024 .bf16) (t : Fin 4096) (f : Fin 2816)

theorem prod_at : prod u w (ix2 t f) = ∑ k : Fin 1024, (u (ix2 t k) : EReal) * (w (ix2 f k) : EReal) := by
  pointwise [prod]
theorem dz_at : dz u w (ix2 t f) = ∑ k : Fin 1024, (u (ix2 t k) : EReal) * (w (ix2 f k) : EReal) := by
  pointwise [dz]
theorem dWd_at (z : FVec Ideal S4096x2816 .f32) (l : Fin 1024) : dWd u z (ix2 f l) = ∑ t : Fin 4096, (u (ix2 t l) : EReal) * (z (ix2 t f) : EReal) := by
  pointwise [dWd]
theorem dIn_at (x : FVec Ideal S4096x2816 .f32) (l : Fin 1024) : dIn x w (ix2 t l) = ∑ f : Fin 2816, (x (ix2 t f) : EReal) * (w (ix2 f l) : EReal) := by
  pointwise [dIn]

variable (g b d : FVec Ideal S4096x2816 .f32) {g' b' d' : ℝ}

theorem logistic_at (hg : g (ix2 t f) = (g' : EReal)) : logistic g (ix2 t f) = (sg g' : EReal) := by
  have e : logistic g (ix2 t f) = Ideal.div (Ideal.ofBits FTy.f32 1065353216#32) (Ideal.ofBits FTy.f32 1065353216#32 + Ideal.exp (-(g (ix2 t f) : EReal))) := rfl
  rw [e, hg, one, sg_ref]
theorem dUp_at (hg : g (ix2 t f) = (g' : EReal)) (hd : d (ix2 t f) = (d' : EReal)) : dUp g d (ix2 t f) = ((d' * (g' * sg g') : ℝ) : EReal) := by
  have e : dUp g d (ix2 t f) = (g (ix2 t f) : EReal) * (logistic g (ix2 t f) : EReal) * (d (ix2 t f) : EReal) := rfl
  rw [e, logistic_at t f g hg, hg, hd, ← EReal.coe_mul, ← EReal.coe_mul, mul_comm]
theorem gated_at (hg : g (ix2 t f) = (g' : EReal)) (hb : b (ix2 t f) = (b' : EReal)) : gated g b (ix2 t f) = ((g' * sg g' * b' : ℝ) : EReal) := by
  have e : gated g b (ix2 t f) = (g (ix2 t f) : EReal) * (logistic g (ix2 t f) : EReal) * (b (ix2 t f) : EReal) := rfl
  rw [e, logistic_at t f g hg, hg, hb, ← EReal.coe_mul, ← EReal.coe_mul]
theorem dGate_at (hg : g (ix2 t f) = (g' : EReal)) (hb : b (ix2 t f) = (b' : EReal)) (hd : d (ix2 t f) = (d' : EReal)) :
    dGate g b d (ix2 t f) = ((d' * (b' * sg g' * (1 + g' * (1 - sg g'))) : ℝ) : EReal) := by
  have e : dGate g b d (ix2 t f) = (d (ix2 t f) : EReal) * (b (ix2 t f) : EReal) * (logistic g (ix2 t f) : EReal)
      + (g (ix2 t f) : EReal) * ((d (ix2 t f) : EReal) * (b (ix2 t f) : EReal)) * ((logistic g (ix2 t f) : EReal) * (Ideal.ofBits FTy.f32 1065353216#32 - (logistic g (ix2 t f) : EReal))) := rfl
  rw [e, logistic_at t f g hg, hg, hb, hd, one]
  norm_cast
  ring
end

/-- The arguments hold these reals. -/
structure Holds (A : Args) : Prop where
  u : ∀ (t : Fin 4096) (k : Fin 1024), argU m c (ix2 t k) = (A.u t.val k.val : EReal)
  wg : ∀ (f : Fin 2816) (k : Fin 1024), argWg m c (ix2 f k) = (A.wg f.val k.val : EReal)
  wu : ∀ (f : Fin 2816) (k : Fin 1024), argWu m c (ix2 f k) = (A.wu f.val k.val : EReal)
  wd : ∀ (f : Fin 2816) (k : Fin 1024), argWd m c (ix2 f k) = (A.wd f.val k.val : EReal)
  h : ∀ (t : Fin 4096) (k : Fin 1024), argH m c (ix2 t k) = (A.h t.val k.val : EReal)

variable {m c} {A : Args} (H : Holds m c A)
include H

theorem gate_real (t : Fin 4096) (f : Fin 2816) : prod (argU m c) (argWg m c) (ix2 t f) = (A.gate t.val f.val : EReal) :=
  (prod_at _ _ t f).trans (dot_coe (fun k => H.u t k) (fun k => H.wg f k))
theorem up_real (t : Fin 4096) (f : Fin 2816) : prod (argU m c) (argWu m c) (ix2 t f) = (A.up t.val f.val : EReal) :=
  (prod_at _ _ t f).trans (dot_coe (fun k => H.u t k) (fun k => H.wu f k))
theorem dz_real (t : Fin 4096) (f : Fin 2816) : dz (argH m c) (argWd m c) (ix2 t f) = (A.dz t.val f.val : EReal) :=
  (dz_at _ _ t f).trans (dot_coe (fun k => H.h t k) (fun k => H.wd f k))

theorem outGate_at (t : Fin 4096) (f : Fin 2816) : outGate m c (ix2 t f) = (A.dGate t.val f.val : EReal) :=
  dGate_at t f _ _ _ (gate_real H t f) (up_real H t f) (dz_real H t f)
theorem outUp_at (t : Fin 4096) (f : Fin 2816) : outUp m c (ix2 t f) = (A.dUp t.val f.val : EReal) :=
  dUp_at t f _ _ (gate_real H t f) (dz_real H t f)
theorem outWd_at (f : Fin 2816) (l : Fin 1024) : outWd m c (ix2 f l) = (A.dWd f.val l.val : EReal) := by
  refine (dWd_at _ f _ l).trans ((dot_coe (fun t => H.h t l) (fun t => gated_at t f _ _ (gate_real H t f) (up_real H t f))).trans ?_)
  exact congrArg _ (Finset.sum_congr rfl fun t _ => mul_comm _ _)
theorem outU_at (t : Fin 4096) (l : Fin 1024) : outU m c (ix2 t l) = (A.dU t.val l.val : EReal) := by
  have e : outU m c (ix2 t l) = (dIn (outUp m c) (argWu m c) (ix2 t l) : EReal) + (dIn (outGate m c) (argWg m c) (ix2 t l) : EReal) := rfl
  rw [e, dIn_at, dIn_at, dot_coe (fun f => outUp_at H t f) (fun f => H.wu f l), dot_coe (fun f => outGate_at H t f) (fun f => H.wg f l), ← EReal.coe_add, add_comm]
  rfl

end Cert.Reference2Ideal.Ffn

end
-- ==== Proof.Ffn.Finite.lean ====
/- The feed-forward layer's precondition: every element of its arguments is a real number. -/
module

public import proofs.«01_k».proof.Pre_finite2
public import proofs.«01_k».proof.Proof.Math.Finite

@[expose] public section

set_option maxHeartbeats 100000

noncomputable section

namespace Cert.Pre_finite2

open Idealize.ShloMosaic
open Cert.Pre_finite (real_cell and_parts top_at)

theorem facts : Facts := ⟨by decide, by decide, by decide, by decide, by decide, by decide⟩

attribute [local instance] facts

/-- The precondition read: all five arguments hold real numbers. -/
theorem reals (u : FVec Ideal S4096x1024 .bf16) (wg wu wd : FVec Ideal S2816x1024 .bf16) (h : FVec Ideal S4096x1024 .bf16)
    (e : fn (F := Ideal) u wg wu wd h = fun _ => 1#1) :
    (∀ i, (((u i : EReal).toReal : ℝ) : EReal) = (u i : EReal)) ∧ (∀ i, (((wg i : EReal).toReal : ℝ) : EReal) = (wg i : EReal))
      ∧ (∀ i, (((wu i : EReal).toReal : ℝ) : EReal) = (wu i : EReal)) ∧ (∀ i, (((wd i : EReal).toReal : ℝ) : EReal) = (wd i : EReal))
      ∧ (∀ i, (((h i : EReal).toReal : ℝ) : EReal) = (h i : EReal)) := by
  unfold fn fn_part1 at e
  dsimp only at e
  obtain ⟨e, h4⟩ := and_parts _ _ e
  obtain ⟨e, h3⟩ := and_parts _ _ e
  obtain ⟨e, h2⟩ := and_parts _ _ e
  obtain ⟨h0, h1⟩ := and_parts _ _ e
  have o : S_.Idx := fun i => i.elim0
  exact ⟨fun i => real_cell (φ := .f32) u _ i (top_at _ i) (Host.reduce_andi_all _ _ _ _ o (congrFun h0 o) i),
    fun i => real_cell (φ := .f32) wg _ i (top_at _ i) (Host.reduce_andi_all _ _ _ _ o (congrFun h1 o) i),
    fun i => real_cell (φ := .f32) wu _ i (top_at _ i) (Host.reduce_andi_all _ _ _ _ o (congrFun h2 o) i),
    fun i => real_cell (φ := .f32) wd _ i (top_at _ i) (Host.reduce_andi_all _ _ _ _ o (congrFun h3 o) i),
    fun i => real_cell (φ := .f32) h _ i (top_at _ i) (Host.reduce_andi_all _ _ _ _ o (congrFun h4 o) i)⟩

end Cert.Pre_finite2

end
-- ==== Proof.Ffn.Equal.lean ====
/- The feed-forward layer: the kernel's results are the reference's. -/
module

public import proofs.«01_k».proof.Defs
public import proofs.«01_k».proof.Proof.Ffn.Printed
public import proofs.«01_k».proof.Proof.Ffn.Result
public import proofs.«01_k».proof.Proof.Ffn.Reference
public import proofs.«01_k».proof.Proof.Ffn.Finite
public import proofs.«01_k».proof.Proof.Math.Equal

@[expose] public section

set_option maxRecDepth 8192
set_option maxHeartbeats 200000

noncomputable section

namespace Cert.Ffn

open Idealize.ShloMosaic Idealize.ShloMosaic.TcCoe Idealize.SL.Sem
open Idealize.ShloMosaic.StableHlo
open Cert.Kernel2Ideal.Ffn (arr)
open Cert.Attn (ext2 realAt realAt_coe)

attribute [local instance] Cert.Pre_finite2.facts

/-- An array of reals is the array its reals make. -/
theorem arr_of {a b : ℕ} {f : Shape.Idx ⟨2, ![a, b]⟩ → EReal} (hf : ∀ i, (((f i).toReal : ℝ) : EReal) = f i) : f = arr (a := a) (b := b) (realAt f) :=
  ext2 fun t l => realAt_coe hf t l

/-- The reals the arguments hold. -/
def args (m : (ℓ : Loc Cert.Kernel2Ideal.nD Cert.Kernel2Ideal.τ Cert.Kernel2Ideal.sig) → Buf (Elt Ideal) ℓ) (c : Dev Cert.Kernel2Ideal.nD) : Args where
  u := realAt (a := 4096) (b := 1024) (m (c.tc.loc Cert.Kernel2Ideal.main_arg0))
  wg := realAt (a := 2816) (b := 1024) (m (c.tc.loc Cert.Kernel2Ideal.main_arg1))
  wu := realAt (a := 2816) (b := 1024) (m (c.tc.loc Cert.Kernel2Ideal.main_arg2))
  wd := realAt (a := 2816) (b := 1024) (m (c.tc.loc Cert.Kernel2Ideal.main_arg3))
  h := realAt (a := 4096) (b := 1024) (m (c.tc.loc Cert.Kernel2Ideal.main_arg4))

theorem args_hold (m : (ℓ : Loc Cert.Kernel2Ideal.nD Cert.Kernel2Ideal.τ Cert.Kernel2Ideal.sig) → Buf (Elt Ideal) ℓ) (h : Cert.Pre_Kernel2Ideal_finite2 m)
    (c : Dev Cert.Kernel2Ideal.nD) : Cert.Kernel2Ideal.Ffn.ArgsHold m c (args m c) := by
  obtain ⟨hu, hwg, hwu, hwd, hh⟩ := Cert.Pre_finite2.reals _ _ _ _ _ (h c)
  exact ⟨arr_of hu, arr_of hwg, arr_of hwu, arr_of hwd, arr_of hh⟩

/-- On real arguments the kernel and the reference compute the same four arrays. -/
theorem algebraic : Cert.algebraic_Kernel2Ideal_Reference2Ideal_pre_finite2 (hKernel2Ideal := Cert.Kernel2Ideal.Gen.facts) (hReference2Ideal := Cert.Reference2Ideal.Gen.facts) := by
  intro m g m' g' hpre hagree
  refine ⟨fun c => arr (a := 4096) (b := 2816) (args m c).dGate, fun c => arr (a := 4096) (b := 2816) (args m c).dUp,
    fun c => arr (a := 2816) (b := 1024) (args m c).dWd, fun c => arr (a := 4096) (b := 1024) (args m c).dU, ?_, ?_⟩
  · refine (θ_run _ _ _).mono (fun r h c => ?_) (θ_run_and (Cert.Kernel2Ideal.Ffn.run m g) (Cert.Kernel2Ideal.Ffn.frame m g))
    have A := args_hold m hpre c
    obtain ⟨h1, h2, h3, h4⟩ := h.1 c
    exact ⟨h1.trans (Cert.Kernel2Ideal.Ffn.dGate4 g A), h2.trans (Cert.Kernel2Ideal.Ffn.dUp4 g A), h3.trans (Cert.Kernel2Ideal.Ffn.dWd4 g A),
      h4.trans (Cert.Kernel2Ideal.Ffn.dU4 g A), h.2.1 c⟩
  · refine (θ_run _ _ _).mono (fun r h c => ?_) (Cert.Reference2Ideal.Ffn.run m' g')
    have A := args_hold m hpre c
    obtain ⟨a0, a1, a2, a3, a4⟩ := hagree c
    have H : Cert.Reference2Ideal.Ffn.Holds m' c (args m c) :=
      ⟨fun t k => congrFun (a0.trans A.u) (ix2 t k), fun f k => congrFun (a1.trans A.wg) (ix2 f k), fun f k => congrFun (a2.trans A.wu) (ix2 f k),
        fun f k => congrFun (a3.trans A.wd) (ix2 f k), fun t k => congrFun (a4.trans A.h) (ix2 t k)⟩
    obtain ⟨h1, h2, h3, h4, hargs⟩ := h c
    refine ⟨h1.trans ?_, h2.trans ?_, h3.trans ?_, h4.trans ?_, hargs⟩
    · exact ext2 fun t f => Cert.Reference2Ideal.Ffn.outGate_at H t f
    · exact ext2 fun t f => Cert.Reference2Ideal.Ffn.outUp_at H t f
    · exact ext2 fun f l => Cert.Reference2Ideal.Ffn.outWd_at H f l
    · exact ext2 fun t l => Cert.Reference2Ideal.Ffn.outU_at H t l

end Cert.Ffn

end
-- ==== Proof.Gates.Launch.lean ====
/- The whole program's run, every result array named by what its call leaves in it. -/
module

public import proofs.«01_k».proof.Proof.Gen.Kernel3Ideal.Frame

@[expose] public section

set_option maxRecDepth 16384

noncomputable section

namespace Cert.Kernel3Ideal.Gates

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with every buffer outside the kernels' scopes at the last boundary's contents, and every counter at zero. -/
theorem run_main : θ_run defs (onTc (τ := τ) (main (F := F))) ⟨m, fun _ => 0, ρ⟩ (fun r =>
      (∀ c : Dev nD, ∀ b ∈ Pipeline.ucRefs τ sig, r.2.mem ((c : Dev nD), b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The frame: the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c),
       (h.1 c _ (mem_uc main_arg4 (by decide))).trans (W5_main_arg4 m ρ c),
       (h.1 c _ (mem_uc main_arg5 (by decide))).trans (W5_main_arg5 m ρ c),
       (h.1 c _ (mem_uc main_arg6 (by decide))).trans (W5_main_arg6 m ρ c)⟩, h.2⟩) (run_main m ρ)

/-- The six results, at the last boundary's contents. -/
theorem run : θ_run defs (onTc (τ := τ) (main (F := F))) ⟨m, fun _ => 0, ρ⟩ (fun r => ∀ c : Dev nD,
      r.2.mem ((c.tc : Thread nD τ).loc main_v2_2) = V5 m ρ c main_v2_2
      ∧ r.2.mem ((c.tc : Thread nD τ).loc main_v2_3) = V5 m ρ c main_v2_3
      ∧ r.2.mem ((c.tc : Thread nD τ).loc main_v2_4) = V5 m ρ c main_v2_4
      ∧ r.2.mem ((c.tc : Thread nD τ).loc main_v3) = V5 m ρ c main_v3
      ∧ r.2.mem ((c.tc : Thread nD τ).loc main_v4) = V5 m ρ c main_v4
      ∧ r.2.mem ((c.tc : Thread nD τ).loc main_v1) = V5 m ρ c main_v1) :=
  (θ_run defs _ _).mono (fun _ h c =>
      ⟨h.1 c _ (mem_uc main_v2_2 (by decide)),
       h.1 c _ (mem_uc main_v2_3 (by decide)),
       h.1 c _ (mem_uc main_v2_4 (by decide)),
       h.1 c _ (mem_uc main_v3 (by decide)),
       h.1 c _ (mem_uc main_v4 (by decide)),
       h.1 c _ (mem_uc main_v1 (by decide))⟩) (run_main m ρ)

end Cert.Kernel3Ideal.Gates

end
-- ==== Proof.Gates.Model.lean ====
/- The branch gates' gradients over the extended reals: what both programs compute. -/
module

public import proofs.«01_k».proof.Proof.Ffn.Model
public import Idealize.ShloMosaic.Lib.Pointwise
public import Idealize.ShloMosaic.Lib.Pipeline.Value

@[expose] public section

set_option maxRecDepth 8192
set_option maxHeartbeats 100000

noncomputable section

namespace Cert.Gates

open Idealize.ShloMosaic Idealize.ShloMosaic.TcCoe

/-- The arguments: the two branches' values, the gates before the logistic function (the first branch's 1024 columns, then the
    second's), the two branch weights, the output weights, the gradient of the output. -/
structure Args where
  a : ℕ → ℕ → EReal
  b : ℕ → ℕ → EReal
  g : ℕ → ℕ → EReal
  wa : ℕ → ℕ → EReal
  wb : ℕ → ℕ → EReal
  wo : ℕ → ℕ → EReal
  h : ℕ → ℕ → EReal

namespace Args

variable (A : Args)

/-- The first branch's product, at a token and a column. -/
def pa (t j : ℕ) : EReal := ∑ k : Fin 1024, A.a t k.val * A.wa k.val j
/-- The second branch's product. -/
def pb (t j : ℕ) : EReal := ∑ k : Fin 1024, A.b t k.val * A.wb k.val j
/-- The first branch's gate. -/
def sa (t j : ℕ) : EReal := Ideal.logistic (A.g t j)
/-- The second branch's gate. -/
def sb (t j : ℕ) : EReal := Ideal.logistic (A.g t (1024 + j))
/-- The merged branches' derivative in the first gate's argument. -/
def ca (t j : ℕ) : EReal := A.pa t j * A.sa t j * (1 - A.sa t j)
/-- The merged branches' derivative in the second gate's argument. -/
def cb (t j : ℕ) : EReal := A.pb t j * A.sb t j * (1 - A.sb t j)
/-- The merged branches. -/
def mg (t j : ℕ) : EReal := A.sa t j * A.pa t j + A.sb t j * A.pb t j
/-- The gradient of the merged branches. -/
def dm (t j : ℕ) : EReal := ∑ k : Fin 1024, A.h t k.val * A.wo j k.val
/-- The gradient of the first branch's product. -/
def ea (t j : ℕ) : EReal := A.dm t j * A.sa t j
/-- The gradient of the second branch's product. -/
def eb (t j : ℕ) : EReal := A.dm t j * A.sb t j
/-- The gradient of the gates' arguments. -/
def dg (t j : ℕ) : EReal := if j < 1024 then A.dm t j * A.ca t j else A.dm t (j - 1024) * A.cb t (j - 1024)
/-- The gradient of the first branch's value. -/
def dA (t l : ℕ) : EReal := ∑ k : Fin 1024, A.ea t k.val * A.wa l k.val
/-- The gradient of the second branch's value. -/
def dB (t l : ℕ) : EReal := ∑ k : Fin 1024, A.eb t k.val * A.wb l k.val
/-- The gradient of the first branch's weights. -/
def dWa (k l : ℕ) : EReal := ∑ t : Fin 4096, A.a t.val k * A.ea t.val l
/-- The gradient of the second branch's weights. -/
def dWb (k l : ℕ) : EReal := ∑ t : Fin 4096, A.b t.val k * A.eb t.val l
/-- The gradient of the output weights. -/
def dWo (k l : ℕ) : EReal := ∑ t : Fin 4096, A.mg t.val k * A.h t.val l

end Args

/-! ## The logistic function, as the kernel writes it -/

theorem logistic_tanh (x : EReal) : ((1 / 2 : ℝ) : EReal) * Ideal.tanh (((1 / 2 : ℝ) : EReal) * x) + ((1 / 2 : ℝ) : EReal) = Ideal.logistic x := by
  induction x with
  | coe r => rw [Cert.Ffn.sg_ker, ← Cert.Ffn.sg_ref, EReal.coe_one]; rfl
  | top =>
    rw [EReal.coe_mul_top_of_pos (by norm_num)]
    show ((1 / 2 : ℝ) : EReal) * 1 + ((1 / 2 : ℝ) : EReal) = Ideal.div 1 (1 + 0)
    rw [mul_one, ← EReal.coe_add, add_zero, Ideal.div, if_neg one_ne_zero, ← EReal.coe_one, ← EReal.coe_inv, ← EReal.coe_mul]
    norm_num
  | bot =>
    rw [EReal.coe_mul_bot_of_pos (by norm_num)]
    show ((1 / 2 : ℝ) : EReal) * ((-1 : EReal)) + ((1 / 2 : ℝ) : EReal) = Ideal.div 1 (1 + ⊤)
    rw [show (1 : EReal) + ⊤ = ⊤ from EReal.coe_add_top 1, Ideal.div, if_neg EReal.top_ne_zero, EReal.inv_top, mul_zero,
      show (-1 : EReal) = ((-1 : ℝ) : EReal) by simp, ← EReal.coe_mul, ← EReal.coe_add]
    norm_num

theorem one : Ideal.ofBits FTy.f32 1065353216#32 = (1 : EReal) := by rw [Cert.Ffn.one, EReal.coe_one]

/-- Equal terms have equal sums of products. -/
theorem dot_eq {n : ℕ} {f g a b : Fin n → EReal} (hf : ∀ k, f k = a k) (hg : ∀ k, g k = b k) : (∑ k : Fin n, f k * g k) = ∑ k : Fin n, a k * b k :=
  Finset.sum_congr rfl fun k _ => by rw [hf, hg]

/-! ## Two arrays side by side -/

theorem cat_left {R : ℕ} (x y : Shape.Idx ⟨2, ![R, 1024]⟩ → EReal) (h : Shape.Concatenates [⟨2, ![R, 1024]⟩, ⟨2, ![R, 1024]⟩] ⟨2, ![R, 2048]⟩ 1)
    (r : Fin R) (l : Fin 2048) (hl : l.val < 1024) :
    concatenate ⟨2, ![R, 2048]⟩ 1 [⟨⟨2, ![R, 1024]⟩, x⟩, ⟨⟨2, ![R, 1024]⟩, y⟩] h (ix2 r l) = x (ix2 r ⟨l.val, hl⟩) :=
  concatenate_pair_apply_left 1 x y h (ix2 r l) rfl (ix2 r ⟨l.val, hl⟩) fun b => match b with | ⟨0, _⟩ => rfl | ⟨1, _⟩ => rfl

theorem cat_right {R : ℕ} (x y : Shape.Idx ⟨2, ![R, 1024]⟩ → EReal) (h : Shape.Concatenates [⟨2, ![R, 1024]⟩, ⟨2, ![R, 1024]⟩] ⟨2, ![R, 2048]⟩ 1)
    (r : Fin R) (l : Fin 2048) (hl : ¬ l.val < 1024) :
    concatenate ⟨2, ![R, 2048]⟩ 1 [⟨⟨2, ![R, 1024]⟩, x⟩, ⟨⟨2, ![R, 1024]⟩, y⟩] h (ix2 r l) = y (ix2 r ⟨l.val - 1024, by omega⟩) := by
  refine concatenate_pair_apply_right 1 x y h (ix2 r l) rfl rfl (ix2 r ⟨l.val - 1024, by omega⟩) (fun b => ?_) ?_
  · match b with
    | ⟨0, _⟩ => exact fun _ => rfl
    | ⟨1, _⟩ => exact fun hb => absurd rfl hb
  · show l.val - 1024 + 1024 = l.val
    omega

end Cert.Gates

end
-- ==== Proof.Gates.Cell.lean ====
/- What each call's body stores, at an element of its block. -/
module

public import proofs.«01_k».proof.Proof.Gen.Kernel3Ideal.Skeleton
public import proofs.«01_k».proof.Proof.Gates.Model
public import Idealize.ShloMosaic.Lib.Pointwise

@[expose] public section

set_option maxRecDepth 8192
set_option maxHeartbeats 100000

noncomputable section

namespace Cert.Kernel3Ideal.Gates

open Cert.Kernel3Ideal Cert.Kernel3Ideal.Gen
open Idealize.ShloMosaic Idealize.ShloMosaic.TcCoe
open Cert.Gates

/-! ## The forward call -/

section
variable (x y : FVec Ideal S512x1024 .bf16) (w v : FVec Ideal S1024x1024 .bf16) (g e : FVec Ideal S512x1024 .bf16) (r : Fin 512) (l : Fin 1024)

theorem pa_at : k0_pay5 (F := Ideal) x w (ix2 r l) = ∑ k : Fin 1024, (x (ix2 r k) : EReal) * (w (ix2 k l) : EReal) := by
  pointwise [k0_pay5]
theorem pb_at : k0_pay6 (F := Ideal) x w (ix2 r l) = ∑ k : Fin 1024, (x (ix2 r k) : EReal) * (w (ix2 k l) : EReal) := by
  pointwise [k0_pay6]

variable {p q s u : EReal}

theorem sa_at (hs : g (ix2 r l) = s) : k0_pay12 (F := Ideal) g (ix2 r l) = Ideal.logistic s := by
  have h : k0_pay12 (F := Ideal) g (ix2 r l) = Ideal.ofBits FTy.f32 1056964608#32 * Ideal.tanh (Ideal.ofBits FTy.f32 1056964608#32 * (g (ix2 r l) : EReal))
      + Ideal.ofBits FTy.f32 1056964608#32 := rfl
  rw [h, hs, Cert.Ffn.half, logistic_tanh]
theorem sb_at (hs : g (ix2 r l) = s) : k0_pay1 (F := Ideal) (k0_pay8 g) (ix2 r l) = Ideal.logistic s := by
  have h : k0_pay1 (F := Ideal) (k0_pay8 g) (ix2 r l) = Ideal.ofBits FTy.f32 1056964608#32 * Ideal.tanh (Ideal.ofBits FTy.f32 1056964608#32 * (g (ix2 r l) : EReal))
      + Ideal.ofBits FTy.f32 1056964608#32 := rfl
  rw [h, hs, Cert.Ffn.half, logistic_tanh]

theorem ca_at (hp : k0_pay5 (F := Ideal) x w (ix2 r l) = p) (hs : g (ix2 r l) = s) :
    k0_pay2 (F := Ideal) (k0_pay9 x w g) (ix2 r l) = p * Ideal.logistic s * (1 - Ideal.logistic s) := by
  have h : k0_pay2 (F := Ideal) (k0_pay9 x w g) (ix2 r l) = (k0_pay5 (F := Ideal) x w (ix2 r l) : EReal) * (k0_pay12 (F := Ideal) g (ix2 r l) : EReal)
      * (Ideal.ofBits FTy.f32 1065353216#32 - (k0_pay12 (F := Ideal) g (ix2 r l) : EReal)) := rfl
  rw [h, sa_at g r l hs, hp, one]
theorem cb_at (hp : k0_pay6 (F := Ideal) x w (ix2 r l) = p) (hs : g (ix2 r l) = s) :
    k0_pay3 (F := Ideal) (k0_pay10 x w g) (ix2 r l) = p * Ideal.logistic s * (1 - Ideal.logistic s) := by
  have h : k0_pay3 (F := Ideal) (k0_pay10 x w g) (ix2 r l) = (k0_pay6 (F := Ideal) x w (ix2 r l) : EReal) * (k0_pay1 (F := Ideal) (k0_pay8 g) (ix2 r l) : EReal)
      * (Ideal.ofBits FTy.f32 1065353216#32 - (k0_pay1 (F := Ideal) (k0_pay8 g) (ix2 r l) : EReal)) := rfl
  rw [h, sb_at g r l hs, hp, one]

theorem mg_at (hp : k0_pay5 (F := Ideal) x w (ix2 r l) = p) (hq : k0_pay6 (F := Ideal) y v (ix2 r l) = q) (hs : g (ix2 r l) = s) (hu : e (ix2 r l) = u) :
    k0_pay4 (F := Ideal) (k0_pay11 x w y v g e) (ix2 r l) = Ideal.logistic s * p + Ideal.logistic u * q := by
  have h : k0_pay4 (F := Ideal) (k0_pay11 x w y v g e) (ix2 r l) = (k0_pay12 (F := Ideal) g (ix2 r l) : EReal) * (k0_pay5 (F := Ideal) x w (ix2 r l) : EReal)
      + (k0_pay1 (F := Ideal) (k0_pay8 e) (ix2 r l) : EReal) * (k0_pay6 (F := Ideal) y v (ix2 r l) : EReal) := rfl
  rw [h, sa_at g r l hs, sb_at e r l hu, hp, hq]

/-! ## The gradients of the merged branches -/

theorem dm_at : k2_pay2 (F := Ideal) x w (ix2 r l) = ∑ k : Fin 1024, (x (ix2 r k) : EReal) * (w (ix2 l k) : EReal) := by
  pointwise [k2_pay2]

theorem ea_at (hp : k2_pay2 (F := Ideal) x w (ix2 r l) = p) (hs : g (ix2 r l) = s) : k2_pay3 (F := Ideal) x w g (ix2 r l) = p * s := by
  have h : k2_pay3 (F := Ideal) x w g (ix2 r l) = (k2_pay2 (F := Ideal) x w (ix2 r l) : EReal) * (g (ix2 r l) : EReal) := by
    pointwise [k2_pay3]
  rw [h, hp, hs]
theorem eb_at (hp : k2_pay2 (F := Ideal) x w (ix2 r l) = p) (hs : g (ix2 r l) = s) : k2_pay4 (F := Ideal) x w g (ix2 r l) = p * s := by
  have h : k2_pay4 (F := Ideal) x w g (ix2 r l) = (k2_pay2 (F := Ideal) x w (ix2 r l) : EReal) * (g (ix2 r l) : EReal) := by
    pointwise [k2_pay4]
  rw [h, hp, hs]

theorem dA_at : k2_pay1 (F := Ideal) (k2_pay5 x w g v) (ix2 r l) = ∑ k : Fin 1024, (k2_pay3 (F := Ideal) x w g (ix2 r k) : EReal) * (v (ix2 l k) : EReal) := by
  have h : k2_pay1 (F := Ideal) (k2_pay5 x w g v) = k2_pay2 (F := Ideal) (k2_pay3 (F := Ideal) x w g) v := rfl
  rw [h, dm_at]
theorem dB_at : k2_pay6 (F := Ideal) x w g v (ix2 r l) = ∑ k : Fin 1024, (k2_pay4 (F := Ideal) x w g (ix2 r k) : EReal) * (v (ix2 l k) : EReal) := by
  have h : k2_pay6 (F := Ideal) x w g v = k2_pay2 (F := Ideal) (k2_pay4 (F := Ideal) x w g) v := rfl
  rw [h, dm_at]

theorem dg_at (j : Fin 2048) : k2_pay7 (F := Ideal) x w g e (ix2 r j)
    = if h : j.val < 1024 then (k2_pay3 (F := Ideal) x w g (ix2 r ⟨j.val, h⟩) : EReal) else (k2_pay4 (F := Ideal) x w e (ix2 r ⟨j.val - 1024, by omega⟩) : EReal) := by
  split
  · exact cat_left _ _ concatenates_S512x1024_S512x1024_S512x2048_d1 r j ‹_›
  · exact cat_right _ _ concatenates_S512x1024_S512x1024_S512x2048_d1 r j ‹_›
end

/-! ## The gradients of the weights -/

section
variable (x : FVec Ideal S4096x256 .bf16) (h : FVec Ideal S4096x1024 .bf16) (r : Fin 256) (l : Fin 1024)

theorem dWo_at : k1_pay1 (F := Ideal) x h (ix2 r l) = ∑ t : Fin 4096, (x (ix2 t r) : EReal) * (h (ix2 t l) : EReal) := by
  pointwise [k1_pay1]
theorem dWa_at : k3_pay1 (F := Ideal) x h (ix2 r l) = ∑ t : Fin 4096, (x (ix2 t r) : EReal) * (h (ix2 t l) : EReal) := by
  pointwise [k3_pay1]
theorem dWb_at : k4_pay1 (F := Ideal) x h (ix2 r l) = ∑ t : Fin 4096, (x (ix2 t r) : EReal) * (h (ix2 t l) : EReal) := by
  pointwise [k4_pay1]
end

end Cert.Kernel3Ideal.Gates

end
-- ==== Proof.Gates.Regions.lean ====
/- What the forward call leaves in its result arrays, when its arguments hold given values. -/
module

public import proofs.«01_k».proof.Proof.Gen.Kernel3Ideal.Frame
public import proofs.«01_k».proof.Proof.Gates.Cell
public import Idealize.ShloMosaic.Lib.Pipeline.ValueKit

@[expose] public section

set_option maxRecDepth 16384

noncomputable section

namespace Cert.Kernel3Ideal.Gates

open Idealize.ShloMosaic Idealize.ShloMosaic.TcCoe Idealize.ShloMosaic.Tactic
open Idealize.ShloMosaic.Pipeline (Dat Cfg Window)
open Cert.Kernel3Ideal Cert.Kernel3Ideal.Gen
open Cert.Gates

/-- An array of values, at its rows and columns. -/
def arr {a b : ℕ} (f : ℕ → ℕ → EReal) : Shape.Idx ⟨2, ![a, b]⟩ → EReal := fun y => f (y 0).val (y 1).val

theorem ix2_eta {a b : ℕ} (y : Shape.Idx ⟨2, ![a, b]⟩) : y = ix2 (y 0) (y 1) :=
  funext fun i => match i with | ⟨0, _⟩ => rfl | ⟨1, _⟩ => rfl

/-! ## Where the blocks lie -/

theorem index0_0 : ∀ t : Fin cfg0.N, win0_0.index t 0 = t.val ∧ win0_0.index t 1 = 0 :=
  (by decide +kernel : ∀ t : Fin grid0.N, win0_0.index t 0 = t.val ∧ win0_0.index t 1 = 0)
theorem index0_1 : ∀ t : Fin cfg0.N, win0_1.index t 0 = t.val ∧ win0_1.index t 1 = 0 :=
  (by decide +kernel : ∀ t : Fin grid0.N, win0_1.index t 0 = t.val ∧ win0_1.index t 1 = 0)
theorem index0_2 : ∀ t : Fin cfg0.N, win0_2.index t 0 = 0 ∧ win0_2.index t 1 = 0 :=
  (by decide +kernel : ∀ t : Fin grid0.N, win0_2.index t 0 = 0 ∧ win0_2.index t 1 = 0)
theorem index0_3 : ∀ t : Fin cfg0.N, win0_3.index t 0 = 0 ∧ win0_3.index t 1 = 0 :=
  (by decide +kernel : ∀ t : Fin grid0.N, win0_3.index t 0 = 0 ∧ win0_3.index t 1 = 0)
theorem index0_4 : ∀ t : Fin cfg0.N, win0_4.index t 0 = t.val ∧ win0_4.index t 1 = 0 :=
  (by decide +kernel : ∀ t : Fin grid0.N, win0_4.index t 0 = t.val ∧ win0_4.index t 1 = 0)
theorem index0_5 : ∀ t : Fin cfg0.N, win0_5.index t 0 = t.val ∧ win0_5.index t 1 = 1 :=
  (by decide +kernel : ∀ t : Fin grid0.N, win0_5.index t 0 = t.val ∧ win0_5.index t 1 = 1)
theorem index0_6 : ∀ t : Fin cfg0.N, win0_6.index t 0 = t.val ∧ win0_6.index t 1 = 0 :=
  (by decide +kernel : ∀ t : Fin grid0.N, win0_6.index t 0 = t.val ∧ win0_6.index t 1 = 0)
theorem index0_7 : ∀ t : Fin cfg0.N, win0_7.index t 0 = t.val ∧ win0_7.index t 1 = 0 :=
  (by decide +kernel : ∀ t : Fin grid0.N, win0_7.index t 0 = t.val ∧ win0_7.index t 1 = 0)
theorem index0_8 : ∀ t : Fin cfg0.N, win0_8.index t 0 = t.val ∧ win0_8.index t 1 = 0 :=
  (by decide +kernel : ∀ t : Fin grid0.N, win0_8.index t 0 = t.val ∧ win0_8.index t 1 = 0)
theorem index0_9 : ∀ t : Fin cfg0.N, win0_9.index t 0 = t.val ∧ win0_9.index t 1 = 0 :=
  (by decide +kernel : ∀ t : Fin grid0.N, win0_9.index t 0 = t.val ∧ win0_9.index t 1 = 0)
theorem index0_10 : ∀ t : Fin cfg0.N, win0_10.index t 0 = t.val ∧ win0_10.index t 1 = 0 :=
  (by decide +kernel : ∀ t : Fin grid0.N, win0_10.index t 0 = t.val ∧ win0_10.index t 1 = 0)

variable (V : (c : Dev nD) → (b : Ref sig .tc) → Buf (Elt Ideal) ((c.tc : Thread nD τ).loc b)) (c : Dev nD)
variable {f : ℕ → ℕ → EReal} (A : Args)

/-! ## The blocks read -/

theorem iblk0_0 (h : V c main_arg0 = arr (a := 4096) (b := 1024) f) (t : Fin cfg0.N) (r : Fin 512) (k : Fin 1024) :
    (iblk0 V c 0 t : FVec Ideal S512x1024 .bf16) (ix2 r k) = f (t.val * 512 + r.val) (k.val) := by
  unfold iblk0
  rw [View.read_apply]
  show V c main_arg0 _ = _
  rw [h]
  unfold arr
  have e0 : (((cfg0.win 0).blk t).view.emb (ix2 r k) 0).val = t.val * 512 + r.val := by
    show win0_0.index t 0 * 512 + 1 * r.val = _
    rw [(index0_0 t).1]; omega
  have e1 : (((cfg0.win 0).blk t).view.emb (ix2 r k) 1).val = k.val := by
    show win0_0.index t 1 * 1024 + 1 * k.val = _
    rw [(index0_0 t).2]; omega
  exact congrArg₂ f e0 e1

theorem iblk0_1 (h : V c main_arg1 = arr (a := 4096) (b := 1024) f) (t : Fin cfg0.N) (r : Fin 512) (k : Fin 1024) :
    (iblk0 V c 1 t : FVec Ideal S512x1024 .bf16) (ix2 r k) = f (t.val * 512 + r.val) (k.val) := by
  unfold iblk0
  rw [View.read_apply]
  show V c main_arg1 _ = _
  rw [h]
  unfold arr
  have e0 : (((cfg0.win 1).blk t).view.emb (ix2 r k) 0).val = t.val * 512 + r.val := by
    show win0_1.index t 0 * 512 + 1 * r.val = _
    rw [(index0_1 t).1]; omega
  have e1 : (((cfg0.win 1).blk t).view.emb (ix2 r k) 1).val = k.val := by
    show win0_1.index t 1 * 1024 + 1 * k.val = _
    rw [(index0_1 t).2]; omega
  exact congrArg₂ f e0 e1

theorem iblk0_2 (h : V c main_arg3 = arr (a := 1024) (b := 1024) f) (t : Fin cfg0.N) (r : Fin 1024) (k : Fin 1024) :
    (iblk0 V c 2 t : FVec Ideal S1024x1024 .bf16) (ix2 r k) = f (r.val) (k.val) := by
  unfold iblk0
  rw [View.read_apply]
  show V c main_arg3 _ = _
  rw [h]
  unfold arr
  have e0 : (((cfg0.win 2).blk t).view.emb (ix2 r k) 0).val = r.val := by
    show win0_2.index t 0 * 1024 + 1 * r.val = _
    rw [(index0_2 t).1]; omega
  have e1 : (((cfg0.win 2).blk t).view.emb (ix2 r k) 1).val = k.val := by
    show win0_2.index t 1 * 1024 + 1 * k.val = _
    rw [(index0_2 t).2]; omega
  exact congrArg₂ f e0 e1

theorem iblk0_3 (h : V c main_arg4 = arr (a := 1024) (b := 1024) f) (t : Fin cfg0.N) (r : Fin 1024) (k : Fin 1024) :
    (iblk0 V c 3 t : FVec Ideal S1024x1024 .bf16) (ix2 r k) = f (r.val) (k.val) := by
  unfold iblk0
  rw [View.read_apply]
  show V c main_arg4 _ = _
  rw [h]
  unfold arr
  have e0 : (((cfg0.win 3).blk t).view.emb (ix2 r k) 0).val = r.val := by
    show win0_3.index t 0 * 1024 + 1 * r.val = _
    rw [(index0_3 t).1]; omega
  have e1 : (((cfg0.win 3).blk t).view.emb (ix2 r k) 1).val = k.val := by
    show win0_3.index t 1 * 1024 + 1 * k.val = _
    rw [(index0_3 t).2]; omega
  exact congrArg₂ f e0 e1

theorem iblk0_4 (h : V c main_arg2 = arr (a := 4096) (b := 2048) f) (t : Fin cfg0.N) (r : Fin 512) (k : Fin 1024) :
    (iblk0 V c 4 t : FVec Ideal S512x1024 .bf16) (ix2 r k) = f (t.val * 512 + r.val) (k.val) := by
  unfold iblk0
  rw [View.read_apply]
  show V c main_arg2 _ = _
  rw [h]
  unfold arr
  have e0 : (((cfg0.win 4).blk t).view.emb (ix2 r k) 0).val = t.val * 512 + r.val := by
    show win0_4.index t 0 * 512 + 1 * r.val = _
    rw [(index0_4 t).1]; omega
  have e1 : (((cfg0.win 4).blk t).view.emb (ix2 r k) 1).val = k.val := by
    show win0_4.index t 1 * 1024 + 1 * k.val = _
    rw [(index0_4 t).2]; omega
  exact congrArg₂ f e0 e1

theorem iblk0_5 (h : V c main_arg2 = arr (a := 4096) (b := 2048) f) (t : Fin cfg0.N) (r : Fin 512) (k : Fin 1024) :
    (iblk0 V c 5 t : FVec Ideal S512x1024 .bf16) (ix2 r k) = f (t.val * 512 + r.val) (1024 + k.val) := by
  unfold iblk0
  rw [View.read_apply]
  show V c main_arg2 _ = _
  rw [h]
  unfold arr
  have e0 : (((cfg0.win 5).blk t).view.emb (ix2 r k) 0).val = t.val * 512 + r.val := by
    show win0_5.index t 0 * 512 + 1 * r.val = _
    rw [(index0_5 t).1]; omega
  have e1 : (((cfg0.win 5).blk t).view.emb (ix2 r k) 1).val = 1024 + k.val := by
    show win0_5.index t 1 * 1024 + 1 * k.val = _
    rw [(index0_5 t).2]; omega
  exact congrArg₂ f e0 e1

/-! ## The results -/

theorem pa0 (ha : V c main_arg0 = arr (a := 4096) (b := 1024) A.a) (hwa : V c main_arg3 = arr (a := 1024) (b := 1024) A.wa) (t : Fin cfg0.N) (r : Fin 512) (l : Fin 1024) :
    k0_pay5 (F := Ideal) (iblk0 V c 0 t) (iblk0 V c 2 t) (ix2 r l) = A.pa (t.val * 512 + r.val) l.val :=
  (pa_at _ _ r l).trans (dot_eq (fun k => iblk0_0 V c ha t r k) (fun k => iblk0_2 V c hwa t k l))
theorem pb0 (hb : V c main_arg1 = arr (a := 4096) (b := 1024) A.b) (hwb : V c main_arg4 = arr (a := 1024) (b := 1024) A.wb) (t : Fin cfg0.N) (r : Fin 512) (l : Fin 1024) :
    k0_pay6 (F := Ideal) (iblk0 V c 1 t) (iblk0 V c 3 t) (ix2 r l) = A.pb (t.val * 512 + r.val) l.val :=
  (pb_at _ _ r l).trans (dot_eq (fun k => iblk0_1 V c hb t r k) (fun k => iblk0_3 V c hwb t k l))

theorem final0_6 (hg : V c main_arg2 = arr (a := 4096) (b := 2048) A.g) :
    (dat0 V c).arrAt 6 cfg0.N = arr (a := 4096) (b := 1024) A.sa := by
  refine (dat0 V c).arrAt_eq_of_covers 6 _ (by decide +kernel) fun t hf y => ?_
  blk_simp
  rw [after0_6]
  frame_out
  obtain ⟨r, l, rfl⟩ : ∃ (r : Fin 512) (l : Fin 1024), y = ix2 r l := ⟨y 0, y 1, ix2_eta y⟩
  refine (sa_at _ r l (iblk0_4 V c hg t r l)).trans ?_
  unfold arr
  have e0 : (((View.whole main_v0_0).slice (win0_6.rect t)).emb (ix2 r l) 0).val = t.val * 512 + r.val := by
    show win0_6.index t 0 * 512 + 1 * r.val = _
    rw [(index0_6 t).1]; omega
  have e1 : (((View.whole main_v0_0).slice (win0_6.rect t)).emb (ix2 r l) 1).val = l.val := by
    show win0_6.index t 1 * 1024 + 1 * l.val = _
    rw [(index0_6 t).2]; omega
  exact (congrArg₂ A.sa e0 e1).symm

theorem final0_7 (hg : V c main_arg2 = arr (a := 4096) (b := 2048) A.g) :
    (dat0 V c).arrAt 7 cfg0.N = arr (a := 4096) (b := 1024) A.sb := by
  refine (dat0 V c).arrAt_eq_of_covers 7 _ (by decide +kernel) fun t hf y => ?_
  blk_simp
  rw [after0_7]
  frame_out
  obtain ⟨r, l, rfl⟩ : ∃ (r : Fin 512) (l : Fin 1024), y = ix2 r l := ⟨y 0, y 1, ix2_eta y⟩
  refine (sb_at _ r l (iblk0_5 V c hg t r l)).trans ?_
  unfold arr
  have e0 : (((View.whole main_v0_1).slice (win0_7.rect t)).emb (ix2 r l) 0).val = t.val * 512 + r.val := by
    show win0_7.index t 0 * 512 + 1 * r.val = _
    rw [(index0_7 t).1]; omega
  have e1 : (((View.whole main_v0_1).slice (win0_7.rect t)).emb (ix2 r l) 1).val = l.val := by
    show win0_7.index t 1 * 1024 + 1 * l.val = _
    rw [(index0_7 t).2]; omega
  exact (congrArg₂ A.sb e0 e1).symm

theorem final0_8 (ha : V c main_arg0 = arr (a := 4096) (b := 1024) A.a) (hwa : V c main_arg3 = arr (a := 1024) (b := 1024) A.wa) (hg : V c main_arg2 = arr (a := 4096) (b := 2048) A.g) :
    (dat0 V c).arrAt 8 cfg0.N = arr (a := 4096) (b := 1024) A.ca := by
  refine (dat0 V c).arrAt_eq_of_covers 8 _ (by decide +kernel) fun t hf y => ?_
  blk_simp
  rw [after0_8]
  frame_out
  obtain ⟨r, l, rfl⟩ : ∃ (r : Fin 512) (l : Fin 1024), y = ix2 r l := ⟨y 0, y 1, ix2_eta y⟩
  refine (ca_at _ _ _ r l (pa0 V c A ha hwa t r l) (iblk0_4 V c hg t r l)).trans ?_
  unfold arr
  have e0 : (((View.whole main_v0_2).slice (win0_8.rect t)).emb (ix2 r l) 0).val = t.val * 512 + r.val := by
    show win0_8.index t 0 * 512 + 1 * r.val = _
    rw [(index0_8 t).1]; omega
  have e1 : (((View.whole main_v0_2).slice (win0_8.rect t)).emb (ix2 r l) 1).val = l.val := by
    show win0_8.index t 1 * 1024 + 1 * l.val = _
    rw [(index0_8 t).2]; omega
  exact (congrArg₂ A.ca e0 e1).symm

theorem final0_9 (hb : V c main_arg1 = arr (a := 4096) (b := 1024) A.b) (hwb : V c main_arg4 = arr (a := 1024) (b := 1024) A.wb) (hg : V c main_arg2 = arr (a := 4096) (b := 2048) A.g) :
    (dat0 V c).arrAt 9 cfg0.N = arr (a := 4096) (b := 1024) A.cb := by
  refine (dat0 V c).arrAt_eq_of_covers 9 _ (by decide +kernel) fun t hf y => ?_
  blk_simp
  rw [after0_9]
  frame_out
  obtain ⟨r, l, rfl⟩ : ∃ (r : Fin 512) (l : Fin 1024), y = ix2 r l := ⟨y 0, y 1, ix2_eta y⟩
  refine (cb_at _ _ _ r l (pb0 V c A hb hwb t r l) (iblk0_5 V c hg t r l)).trans ?_
  unfold arr
  have e0 : (((View.whole main_v0_3).slice (win0_9.rect t)).emb (ix2 r l) 0).val = t.val * 512 + r.val := by
    show win0_9.index t 0 * 512 + 1 * r.val = _
    rw [(index0_9 t).1]; omega
  have e1 : (((View.whole main_v0_3).slice (win0_9.rect t)).emb (ix2 r l) 1).val = l.val := by
    show win0_9.index t 1 * 1024 + 1 * l.val = _
    rw [(index0_9 t).2]; omega
  exact (congrArg₂ A.cb e0 e1).symm

theorem final0_10 (ha : V c main_arg0 = arr (a := 4096) (b := 1024) A.a) (hb : V c main_arg1 = arr (a := 4096) (b := 1024) A.b) (hwa : V c main_arg3 = arr (a := 1024) (b := 1024) A.wa) (hwb : V c main_arg4 = arr (a := 1024) (b := 1024) A.wb) (hg : V c main_arg2 = arr (a := 4096) (b := 2048) A.g) :
    (dat0 V c).arrAt 10 cfg0.N = arr (a := 4096) (b := 1024) A.mg := by
  refine (dat0 V c).arrAt_eq_of_covers 10 _ (by decide +kernel) fun t hf y => ?_
  blk_simp
  rw [after0_10]
  frame_out
  obtain ⟨r, l, rfl⟩ : ∃ (r : Fin 512) (l : Fin 1024), y = ix2 r l := ⟨y 0, y 1, ix2_eta y⟩
  refine (mg_at _ _ _ _ _ _ r l (pa0 V c A ha hwa t r l) (pb0 V c A hb hwb t r l) (iblk0_4 V c hg t r l) (iblk0_5 V c hg t r l)).trans ?_
  unfold arr
  have e0 : (((View.whole main_v0_4).slice (win0_10.rect t)).emb (ix2 r l) 0).val = t.val * 512 + r.val := by
    show win0_10.index t 0 * 512 + 1 * r.val = _
    rw [(index0_10 t).1]; omega
  have e1 : (((View.whole main_v0_4).slice (win0_10.rect t)).emb (ix2 r l) 1).val = l.val := by
    show win0_10.index t 1 * 1024 + 1 * l.val = _
    rw [(index0_10 t).2]; omega
  exact (congrArg₂ A.mg e0 e1).symm

end Cert.Kernel3Ideal.Gates

end
-- ==== Proof.Gates.Backward.lean ====
/- The backward calls' result arrays, when their arguments hold given values. -/
module

public import proofs.«01_k».proof.Proof.Gates.Regions

@[expose] public section

set_option maxRecDepth 16384

noncomputable section

namespace Cert.Kernel3Ideal.Gates

open Idealize.ShloMosaic Idealize.ShloMosaic.TcCoe Idealize.ShloMosaic.Tactic
open Idealize.ShloMosaic.Pipeline (Dat Cfg Window)
open Cert.Kernel3Ideal Cert.Kernel3Ideal.Gen
open Cert.Gates

/-! ## Where the blocks lie -/

theorem index2_0 : ∀ t : Fin cfg2.N, win2_0.index t 0 = t.val ∧ win2_0.index t 1 = 0 :=
  (by decide +kernel : ∀ t : Fin grid2.N, win2_0.index t 0 = t.val ∧ win2_0.index t 1 = 0)
theorem index2_1 : ∀ t : Fin cfg2.N, win2_1.index t 0 = 0 ∧ win2_1.index t 1 = 0 :=
  (by decide +kernel : ∀ t : Fin grid2.N, win2_1.index t 0 = 0 ∧ win2_1.index t 1 = 0)
theorem index2_2 : ∀ t : Fin cfg2.N, win2_2.index t 0 = t.val ∧ win2_2.index t 1 = 0 :=
  (by decide +kernel : ∀ t : Fin grid2.N, win2_2.index t 0 = t.val ∧ win2_2.index t 1 = 0)
theorem index2_3 : ∀ t : Fin cfg2.N, win2_3.index t 0 = t.val ∧ win2_3.index t 1 = 0 :=
  (by decide +kernel : ∀ t : Fin grid2.N, win2_3.index t 0 = t.val ∧ win2_3.index t 1 = 0)
theorem index2_4 : ∀ t : Fin cfg2.N, win2_4.index t 0 = t.val ∧ win2_4.index t 1 = 0 :=
  (by decide +kernel : ∀ t : Fin grid2.N, win2_4.index t 0 = t.val ∧ win2_4.index t 1 = 0)
theorem index2_5 : ∀ t : Fin cfg2.N, win2_5.index t 0 = t.val ∧ win2_5.index t 1 = 0 :=
  (by decide +kernel : ∀ t : Fin grid2.N, win2_5.index t 0 = t.val ∧ win2_5.index t 1 = 0)
theorem index2_6 : ∀ t : Fin cfg2.N, win2_6.index t 0 = 0 ∧ win2_6.index t 1 = 0 :=
  (by decide +kernel : ∀ t : Fin grid2.N, win2_6.index t 0 = 0 ∧ win2_6.index t 1 = 0)
theorem index2_7 : ∀ t : Fin cfg2.N, win2_7.index t 0 = 0 ∧ win2_7.index t 1 = 0 :=
  (by decide +kernel : ∀ t : Fin grid2.N, win2_7.index t 0 = 0 ∧ win2_7.index t 1 = 0)
theorem index2_8 : ∀ t : Fin cfg2.N, win2_8.index t 0 = t.val ∧ win2_8.index t 1 = 0 :=
  (by decide +kernel : ∀ t : Fin grid2.N, win2_8.index t 0 = t.val ∧ win2_8.index t 1 = 0)
theorem index2_9 : ∀ t : Fin cfg2.N, win2_9.index t 0 = t.val ∧ win2_9.index t 1 = 0 :=
  (by decide +kernel : ∀ t : Fin grid2.N, win2_9.index t 0 = t.val ∧ win2_9.index t 1 = 0)
theorem index2_10 : ∀ t : Fin cfg2.N, win2_10.index t 0 = t.val ∧ win2_10.index t 1 = 0 :=
  (by decide +kernel : ∀ t : Fin grid2.N, win2_10.index t 0 = t.val ∧ win2_10.index t 1 = 0)
theorem index2_11 : ∀ t : Fin cfg2.N, win2_11.index t 0 = t.val ∧ win2_11.index t 1 = 0 :=
  (by decide +kernel : ∀ t : Fin grid2.N, win2_11.index t 0 = t.val ∧ win2_11.index t 1 = 0)
theorem index2_12 : ∀ t : Fin cfg2.N, win2_12.index t 0 = t.val ∧ win2_12.index t 1 = 0 :=
  (by decide +kernel : ∀ t : Fin grid2.N, win2_12.index t 0 = t.val ∧ win2_12.index t 1 = 0)
theorem index1_0 : ∀ t : Fin cfg1.N, win1_0.index t 0 = 0 ∧ win1_0.index t 1 = t.val :=
  (by decide +kernel : ∀ t : Fin grid1.N, win1_0.index t 0 = 0 ∧ win1_0.index t 1 = t.val)
theorem index1_1 : ∀ t : Fin cfg1.N, win1_1.index t 0 = 0 ∧ win1_1.index t 1 = 0 :=
  (by decide +kernel : ∀ t : Fin grid1.N, win1_1.index t 0 = 0 ∧ win1_1.index t 1 = 0)
theorem index1_2 : ∀ t : Fin cfg1.N, win1_2.index t 0 = t.val ∧ win1_2.index t 1 = 0 :=
  (by decide +kernel : ∀ t : Fin grid1.N, win1_2.index t 0 = t.val ∧ win1_2.index t 1 = 0)
theorem index3_0 : ∀ t : Fin cfg3.N, win3_0.index t 0 = 0 ∧ win3_0.index t 1 = t.val :=
  (by decide +kernel : ∀ t : Fin grid3.N, win3_0.index t 0 = 0 ∧ win3_0.index t 1 = t.val)
theorem index3_1 : ∀ t : Fin cfg3.N, win3_1.index t 0 = 0 ∧ win3_1.index t 1 = 0 :=
  (by decide +kernel : ∀ t : Fin grid3.N, win3_1.index t 0 = 0 ∧ win3_1.index t 1 = 0)
theorem index3_2 : ∀ t : Fin cfg3.N, win3_2.index t 0 = t.val ∧ win3_2.index t 1 = 0 :=
  (by decide +kernel : ∀ t : Fin grid3.N, win3_2.index t 0 = t.val ∧ win3_2.index t 1 = 0)
theorem index4_0 : ∀ t : Fin cfg4.N, win4_0.index t 0 = 0 ∧ win4_0.index t 1 = t.val :=
  (by decide +kernel : ∀ t : Fin grid4.N, win4_0.index t 0 = 0 ∧ win4_0.index t 1 = t.val)
theorem index4_1 : ∀ t : Fin cfg4.N, win4_1.index t 0 = 0 ∧ win4_1.index t 1 = 0 :=
  (by decide +kernel : ∀ t : Fin grid4.N, win4_1.index t 0 = 0 ∧ win4_1.index t 1 = 0)
theorem index4_2 : ∀ t : Fin cfg4.N, win4_2.index t 0 = t.val ∧ win4_2.index t 1 = 0 :=
  (by decide +kernel : ∀ t : Fin grid4.N, win4_2.index t 0 = t.val ∧ win4_2.index t 1 = 0)

variable (V : (c : Dev nD) → (b : Ref sig .tc) → Buf (Elt Ideal) ((c.tc : Thread nD τ).loc b)) (c : Dev nD)
variable {f : ℕ → ℕ → EReal} (A : Args)

/-! ## The gradients of the merged branches -/

theorem iblk2_0 (h : V c main_arg6 = arr (a := 4096) (b := 1024) f) (t : Fin cfg2.N) (r : Fin 512) (k : Fin 1024) :
    (iblk2 V c 0 t : FVec Ideal S512x1024 .bf16) (ix2 r k) = f (t.val * 512 + r.val) (k.val) := by
  unfold iblk2
  rw [View.read_apply]
  show V c main_arg6 _ = _
  rw [h]
  unfold arr
  have e0 : (((cfg2.win 0).blk t).view.emb (ix2 r k) 0).val = t.val * 512 + r.val := by
    show win2_0.index t 0 * 512 + 1 * r.val = _
    rw [(index2_0 t).1]; omega
  have e1 : (((cfg2.win 0).blk t).view.emb (ix2 r k) 1).val = k.val := by
    show win2_0.index t 1 * 1024 + 1 * k.val = _
    rw [(index2_0 t).2]; omega
  exact congrArg₂ f e0 e1

theorem iblk2_2 (h : V c main_v0_0 = arr (a := 4096) (b := 1024) f) (t : Fin cfg2.N) (r : Fin 512) (k : Fin 1024) :
    (iblk2 V c 2 t : FVec Ideal S512x1024 .bf16) (ix2 r k) = f (t.val * 512 + r.val) (k.val) := by
  unfold iblk2
  rw [View.read_apply]
  show V c main_v0_0 _ = _
  rw [h]
  unfold arr
  have e0 : (((cfg2.win 2).blk t).view.emb (ix2 r k) 0).val = t.val * 512 + r.val := by
    show win2_2.index t 0 * 512 + 1 * r.val = _
    rw [(index2_2 t).1]; omega
  have e1 : (((cfg2.win 2).blk t).view.emb (ix2 r k) 1).val = k.val := by
    show win2_2.index t 1 * 1024 + 1 * k.val = _
    rw [(index2_2 t).2]; omega
  exact congrArg₂ f e0 e1

theorem iblk2_3 (h : V c main_v0_1 = arr (a := 4096) (b := 1024) f) (t : Fin cfg2.N) (r : Fin 512) (k : Fin 1024) :
    (iblk2 V c 3 t : FVec Ideal S512x1024 .bf16) (ix2 r k) = f (t.val * 512 + r.val) (k.val) := by
  unfold iblk2
  rw [View.read_apply]
  show V c main_v0_1 _ = _
  rw [h]
  unfold arr
  have e0 : (((cfg2.win 3).blk t).view.emb (ix2 r k) 0).val = t.val * 512 + r.val := by
    show win2_3.index t 0 * 512 + 1 * r.val = _
    rw [(index2_3 t).1]; omega
  have e1 : (((cfg2.win 3).blk t).view.emb (ix2 r k) 1).val = k.val := by
    show win2_3.index t 1 * 1024 + 1 * k.val = _
    rw [(index2_3 t).2]; omega
  exact congrArg₂ f e0 e1

theorem iblk2_4 (h : V c main_v0_2 = arr (a := 4096) (b := 1024) f) (t : Fin cfg2.N) (r : Fin 512) (k : Fin 1024) :
    (iblk2 V c 4 t : FVec Ideal S512x1024 .bf16) (ix2 r k) = f (t.val * 512 + r.val) (k.val) := by
  unfold iblk2
  rw [View.read_apply]
  show V c main_v0_2 _ = _
  rw [h]
  unfold arr
  have e0 : (((cfg2.win 4).blk t).view.emb (ix2 r k) 0).val = t.val * 512 + r.val := by
    show win2_4.index t 0 * 512 + 1 * r.val = _
    rw [(index2_4 t).1]; omega
  have e1 : (((cfg2.win 4).blk t).view.emb (ix2 r k) 1).val = k.val := by
    show win2_4.index t 1 * 1024 + 1 * k.val = _
    rw [(index2_4 t).2]; omega
  exact congrArg₂ f e0 e1

theorem iblk2_5 (h : V c main_v0_3 = arr (a := 4096) (b := 1024) f) (t : Fin cfg2.N) (r : Fin 512) (k : Fin 1024) :
    (iblk2 V c 5 t : FVec Ideal S512x1024 .bf16) (ix2 r k) = f (t.val * 512 + r.val) (k.val) := by
  unfold iblk2
  rw [View.read_apply]
  show V c main_v0_3 _ = _
  rw [h]
  unfold arr
  have e0 : (((cfg2.win 5).blk t).view.emb (ix2 r k) 0).val = t.val * 512 + r.val := by
    show win2_5.index t 0 * 512 + 1 * r.val = _
    rw [(index2_5 t).1]; omega
  have e1 : (((cfg2.win 5).blk t).view.emb (ix2 r k) 1).val = k.val := by
    show win2_5.index t 1 * 1024 + 1 * k.val = _
    rw [(index2_5 t).2]; omega
  exact congrArg₂ f e0 e1

theorem iblk2_1 (h : V c main_arg5 = arr (a := 1024) (b := 1024) f) (t : Fin cfg2.N) (r : Fin 1024) (k : Fin 1024) :
    (iblk2 V c 1 t : FVec Ideal S1024x1024 .bf16) (ix2 r k) = f (r.val) (k.val) := by
  unfold iblk2
  rw [View.read_apply]
  show V c main_arg5 _ = _
  rw [h]
  unfold arr
  have e0 : (((cfg2.win 1).blk t).view.emb (ix2 r k) 0).val = r.val := by
    show win2_1.index t 0 * 1024 + 1 * r.val = _
    rw [(index2_1 t).1]; omega
  have e1 : (((cfg2.win 1).blk t).view.emb (ix2 r k) 1).val = k.val := by
    show win2_1.index t 1 * 1024 + 1 * k.val = _
    rw [(index2_1 t).2]; omega
  exact congrArg₂ f e0 e1

theorem iblk2_6 (h : V c main_arg3 = arr (a := 1024) (b := 1024) f) (t : Fin cfg2.N) (r : Fin 1024) (k : Fin 1024) :
    (iblk2 V c 6 t : FVec Ideal S1024x1024 .bf16) (ix2 r k) = f (r.val) (k.val) := by
  unfold iblk2
  rw [View.read_apply]
  show V c main_arg3 _ = _
  rw [h]
  unfold arr
  have e0 : (((cfg2.win 6).blk t).view.emb (ix2 r k) 0).val = r.val := by
    show win2_6.index t 0 * 1024 + 1 * r.val = _
    rw [(index2_6 t).1]; omega
  have e1 : (((cfg2.win 6).blk t).view.emb (ix2 r k) 1).val = k.val := by
    show win2_6.index t 1 * 1024 + 1 * k.val = _
    rw [(index2_6 t).2]; omega
  exact congrArg₂ f e0 e1

theorem iblk2_7 (h : V c main_arg4 = arr (a := 1024) (b := 1024) f) (t : Fin cfg2.N) (r : Fin 1024) (k : Fin 1024) :
    (iblk2 V c 7 t : FVec Ideal S1024x1024 .bf16) (ix2 r k) = f (r.val) (k.val) := by
  unfold iblk2
  rw [View.read_apply]
  show V c main_arg4 _ = _
  rw [h]
  unfold arr
  have e0 : (((cfg2.win 7).blk t).view.emb (ix2 r k) 0).val = r.val := by
    show win2_7.index t 0 * 1024 + 1 * r.val = _
    rw [(index2_7 t).1]; omega
  have e1 : (((cfg2.win 7).blk t).view.emb (ix2 r k) 1).val = k.val := by
    show win2_7.index t 1 * 1024 + 1 * k.val = _
    rw [(index2_7 t).2]; omega
  exact congrArg₂ f e0 e1

theorem dm2 (hh : V c main_arg6 = arr (a := 4096) (b := 1024) A.h) (hwo : V c main_arg5 = arr (a := 1024) (b := 1024) A.wo) (t : Fin cfg2.N) (r : Fin 512) (l : Fin 1024) :
    k2_pay2 (F := Ideal) (iblk2 V c 0 t) (iblk2 V c 1 t) (ix2 r l) = A.dm (t.val * 512 + r.val) l.val :=
  (dm_at _ _ r l).trans (dot_eq (fun k => iblk2_0 V c hh t r k) (fun k => iblk2_1 V c hwo t l k))
theorem ea2 (hh : V c main_arg6 = arr (a := 4096) (b := 1024) A.h) (hwo : V c main_arg5 = arr (a := 1024) (b := 1024) A.wo) (hsa : V c main_v0_0 = arr (a := 4096) (b := 1024) A.sa) (t : Fin cfg2.N) (r : Fin 512) (l : Fin 1024) :
    k2_pay3 (F := Ideal) (iblk2 V c 0 t) (iblk2 V c 1 t) (iblk2 V c 2 t) (ix2 r l) = A.ea (t.val * 512 + r.val) l.val :=
  ea_at _ _ _ r l (dm2 V c A hh hwo t r l) (iblk2_2 V c hsa t r l)
theorem eb2 (hh : V c main_arg6 = arr (a := 4096) (b := 1024) A.h) (hwo : V c main_arg5 = arr (a := 1024) (b := 1024) A.wo) (hsb : V c main_v0_1 = arr (a := 4096) (b := 1024) A.sb) (t : Fin cfg2.N) (r : Fin 512) (l : Fin 1024) :
    k2_pay4 (F := Ideal) (iblk2 V c 0 t) (iblk2 V c 1 t) (iblk2 V c 3 t) (ix2 r l) = A.eb (t.val * 512 + r.val) l.val :=
  eb_at _ _ _ r l (dm2 V c A hh hwo t r l) (iblk2_3 V c hsb t r l)
theorem dg2 (hh : V c main_arg6 = arr (a := 4096) (b := 1024) A.h) (hwo : V c main_arg5 = arr (a := 1024) (b := 1024) A.wo) (hca : V c main_v0_2 = arr (a := 4096) (b := 1024) A.ca) (hcb : V c main_v0_3 = arr (a := 4096) (b := 1024) A.cb) (t : Fin cfg2.N) (r : Fin 512) (l : Fin 2048) :
    k2_pay7 (F := Ideal) (iblk2 V c 0 t) (iblk2 V c 1 t) (iblk2 V c 4 t) (iblk2 V c 5 t) (ix2 r l) = A.dg (t.val * 512 + r.val) l.val := by
  refine (dg_at _ _ _ _ r l).trans ?_
  unfold Args.dg
  split
  · exact ea_at _ _ _ r _ (dm2 V c A hh hwo t r _) (iblk2_4 V c hca t r _)
  · exact eb_at _ _ _ r _ (dm2 V c A hh hwo t r _) (iblk2_5 V c hcb t r _)

theorem final2_8 (hh : V c main_arg6 = arr (a := 4096) (b := 1024) A.h) (hwo : V c main_arg5 = arr (a := 1024) (b := 1024) A.wo) (hsa : V c main_v0_0 = arr (a := 4096) (b := 1024) A.sa) :
    (dat2 V c).arrAt 8 cfg2.N = arr (a := 4096) (b := 1024) A.ea := by
  refine (dat2 V c).arrAt_eq_of_covers 8 _ (by decide +kernel) fun t hf y => ?_
  blk_simp
  rw [after2_8]
  frame_out
  obtain ⟨r, l, rfl⟩ : ∃ (r : Fin 512) (l : Fin 1024), y = ix2 r l := ⟨y 0, y 1, ix2_eta y⟩
  refine (ea2 V c A hh hwo hsa t r l).trans ?_
  unfold arr
  have e0 : (((View.whole main_v2_0).slice (win2_8.rect t)).emb (ix2 r l) 0).val = t.val * 512 + r.val := by
    show win2_8.index t 0 * 512 + 1 * r.val = _
    rw [(index2_8 t).1]; omega
  have e1 : (((View.whole main_v2_0).slice (win2_8.rect t)).emb (ix2 r l) 1).val = l.val := by
    show win2_8.index t 1 * 1024 + 1 * l.val = _
    rw [(index2_8 t).2]; omega
  exact (congrArg₂ A.ea e0 e1).symm

theorem final2_9 (hh : V c main_arg6 = arr (a := 4096) (b := 1024) A.h) (hwo : V c main_arg5 = arr (a := 1024) (b := 1024) A.wo) (hsb : V c main_v0_1 = arr (a := 4096) (b := 1024) A.sb) :
    (dat2 V c).arrAt 9 cfg2.N = arr (a := 4096) (b := 1024) A.eb := by
  refine (dat2 V c).arrAt_eq_of_covers 9 _ (by decide +kernel) fun t hf y => ?_
  blk_simp
  rw [after2_9]
  frame_out
  obtain ⟨r, l, rfl⟩ : ∃ (r : Fin 512) (l : Fin 1024), y = ix2 r l := ⟨y 0, y 1, ix2_eta y⟩
  refine (eb2 V c A hh hwo hsb t r l).trans ?_
  unfold arr
  have e0 : (((View.whole main_v2_1).slice (win2_9.rect t)).emb (ix2 r l) 0).val = t.val * 512 + r.val := by
    show win2_9.index t 0 * 512 + 1 * r.val = _
    rw [(index2_9 t).1]; omega
  have e1 : (((View.whole main_v2_1).slice (win2_9.rect t)).emb (ix2 r l) 1).val = l.val := by
    show win2_9.index t 1 * 1024 + 1 * l.val = _
    rw [(index2_9 t).2]; omega
  exact (congrArg₂ A.eb e0 e1).symm

theorem final2_10 (hh : V c main_arg6 = arr (a := 4096) (b := 1024) A.h) (hwo : V c main_arg5 = arr (a := 1024) (b := 1024) A.wo) (hca : V c main_v0_2 = arr (a := 4096) (b := 1024) A.ca) (hcb : V c main_v0_3 = arr (a := 4096) (b := 1024) A.cb) :
    (dat2 V c).arrAt 10 cfg2.N = arr (a := 4096) (b := 2048) A.dg := by
  refine (dat2 V c).arrAt_eq_of_covers 10 _ (by decide +kernel) fun t hf y => ?_
  blk_simp
  rw [after2_10]
  frame_out
  obtain ⟨r, l, rfl⟩ : ∃ (r : Fin 512) (l : Fin 2048), y = ix2 r l := ⟨y 0, y 1, ix2_eta y⟩
  refine (dg2 V c A hh hwo hca hcb t r l).trans ?_
  unfold arr
  have e0 : (((View.whole main_v2_2).slice (win2_10.rect t)).emb (ix2 r l) 0).val = t.val * 512 + r.val := by
    show win2_10.index t 0 * 512 + 1 * r.val = _
    rw [(index2_10 t).1]; omega
  have e1 : (((View.whole main_v2_2).slice (win2_10.rect t)).emb (ix2 r l) 1).val = l.val := by
    show win2_10.index t 1 * 2048 + 1 * l.val = _
    rw [(index2_10 t).2]; omega
  exact (congrArg₂ A.dg e0 e1).symm

theorem final2_11 (hh : V c main_arg6 = arr (a := 4096) (b := 1024) A.h) (hwo : V c main_arg5 = arr (a := 1024) (b := 1024) A.wo) (hsa : V c main_v0_0 = arr (a := 4096) (b := 1024) A.sa) (hwa : V c main_arg3 = arr (a := 1024) (b := 1024) A.wa) :
    (dat2 V c).arrAt 11 cfg2.N = arr (a := 4096) (b := 1024) A.dA := by
  refine (dat2 V c).arrAt_eq_of_covers 11 _ (by decide +kernel) fun t hf y => ?_
  blk_simp
  rw [after2_11]
  frame_out
  obtain ⟨r, l, rfl⟩ : ∃ (r : Fin 512) (l : Fin 1024), y = ix2 r l := ⟨y 0, y 1, ix2_eta y⟩
  refine ((dA_at _ _ _ _ r l).trans (dot_eq (fun k => ea2 V c A hh hwo hsa t r k) (fun k => iblk2_6 V c hwa t l k))).trans ?_
  unfold arr
  have e0 : (((View.whole main_v2_3).slice (win2_11.rect t)).emb (ix2 r l) 0).val = t.val * 512 + r.val := by
    show win2_11.index t 0 * 512 + 1 * r.val = _
    rw [(index2_11 t).1]; omega
  have e1 : (((View.whole main_v2_3).slice (win2_11.rect t)).emb (ix2 r l) 1).val = l.val := by
    show win2_11.index t 1 * 1024 + 1 * l.val = _
    rw [(index2_11 t).2]; omega
  exact (congrArg₂ A.dA e0 e1).symm

theorem final2_12 (hh : V c main_arg6 = arr (a := 4096) (b := 1024) A.h) (hwo : V c main_arg5 = arr (a := 1024) (b := 1024) A.wo) (hsb : V c main_v0_1 = arr (a := 4096) (b := 1024) A.sb) (hwb : V c main_arg4 = arr (a := 1024) (b := 1024) A.wb) :
    (dat2 V c).arrAt 12 cfg2.N = arr (a := 4096) (b := 1024) A.dB := by
  refine (dat2 V c).arrAt_eq_of_covers 12 _ (by decide +kernel) fun t hf y => ?_
  blk_simp
  rw [after2_12]
  frame_out
  obtain ⟨r, l, rfl⟩ : ∃ (r : Fin 512) (l : Fin 1024), y = ix2 r l := ⟨y 0, y 1, ix2_eta y⟩
  refine ((dB_at _ _ _ _ r l).trans (dot_eq (fun k => eb2 V c A hh hwo hsb t r k) (fun k => iblk2_7 V c hwb t l k))).trans ?_
  unfold arr
  have e0 : (((View.whole main_v2_4).slice (win2_12.rect t)).emb (ix2 r l) 0).val = t.val * 512 + r.val := by
    show win2_12.index t 0 * 512 + 1 * r.val = _
    rw [(index2_12 t).1]; omega
  have e1 : (((View.whole main_v2_4).slice (win2_12.rect t)).emb (ix2 r l) 1).val = l.val := by
    show win2_12.index t 1 * 1024 + 1 * l.val = _
    rw [(index2_12 t).2]; omega
  exact (congrArg₂ A.dB e0 e1).symm

/-! ## The gradient of the output weights -/

theorem iblk1_0 (h : V c main_v0_4 = arr (a := 4096) (b := 1024) f) (t : Fin cfg1.N) (r : Fin 4096) (k : Fin 256) :
    (iblk1 V c 0 t : FVec Ideal S4096x256 .bf16) (ix2 r k) = f (r.val) (t.val * 256 + k.val) := by
  unfold iblk1
  rw [View.read_apply]
  show V c main_v0_4 _ = _
  rw [h]
  unfold arr
  have e0 : (((cfg1.win 0).blk t).view.emb (ix2 r k) 0).val = r.val := by
    show win1_0.index t 0 * 4096 + 1 * r.val = _
    rw [(index1_0 t).1]; omega
  have e1 : (((cfg1.win 0).blk t).view.emb (ix2 r k) 1).val = t.val * 256 + k.val := by
    show win1_0.index t 1 * 256 + 1 * k.val = _
    rw [(index1_0 t).2]; omega
  exact congrArg₂ f e0 e1

theorem iblk1_1 (h : V c main_arg6 = arr (a := 4096) (b := 1024) f) (t : Fin cfg1.N) (r : Fin 4096) (k : Fin 1024) :
    (iblk1 V c 1 t : FVec Ideal S4096x1024 .bf16) (ix2 r k) = f (r.val) (k.val) := by
  unfold iblk1
  rw [View.read_apply]
  show V c main_arg6 _ = _
  rw [h]
  unfold arr
  have e0 : (((cfg1.win 1).blk t).view.emb (ix2 r k) 0).val = r.val := by
    show win1_1.index t 0 * 4096 + 1 * r.val = _
    rw [(index1_1 t).1]; omega
  have e1 : (((cfg1.win 1).blk t).view.emb (ix2 r k) 1).val = k.val := by
    show win1_1.index t 1 * 1024 + 1 * k.val = _
    rw [(index1_1 t).2]; omega
  exact congrArg₂ f e0 e1

theorem final1_2 (hx : V c main_v0_4 = arr (a := 4096) (b := 1024) A.mg) (hy : V c main_arg6 = arr (a := 4096) (b := 1024) A.h) :
    (dat1 V c).arrAt 2 cfg1.N = arr (a := 1024) (b := 1024) A.dWo := by
  refine (dat1 V c).arrAt_eq_of_covers 2 _ (by decide +kernel) fun t hf y => ?_
  blk_simp
  rw [after1_2]
  unfold outsAt1
  frame_out
  obtain ⟨r, l, rfl⟩ : ∃ (r : Fin 256) (l : Fin 1024), y = ix2 r l := ⟨y 0, y 1, ix2_eta y⟩
  refine ((dWo_at _ _ r l).trans (dot_eq (fun k => iblk1_0 V c hx t k r) (fun k => iblk1_1 V c hy t k l))).trans ?_
  unfold arr
  have e0 : (((View.whole main_v1).slice (win1_2.rect t)).emb (ix2 r l) 0).val = t.val * 256 + r.val := by
    show win1_2.index t 0 * 256 + 1 * r.val = _
    rw [(index1_2 t).1]; omega
  have e1 : (((View.whole main_v1).slice (win1_2.rect t)).emb (ix2 r l) 1).val = l.val := by
    show win1_2.index t 1 * 1024 + 1 * l.val = _
    rw [(index1_2 t).2]; omega
  exact (congrArg₂ A.dWo e0 e1).symm

/-! ## The gradient of the first branch's weights -/

theorem iblk3_0 (h : V c main_arg0 = arr (a := 4096) (b := 1024) f) (t : Fin cfg3.N) (r : Fin 4096) (k : Fin 256) :
    (iblk3 V c 0 t : FVec Ideal S4096x256 .bf16) (ix2 r k) = f (r.val) (t.val * 256 + k.val) := by
  unfold iblk3
  rw [View.read_apply]
  show V c main_arg0 _ = _
  rw [h]
  unfold arr
  have e0 : (((cfg3.win 0).blk t).view.emb (ix2 r k) 0).val = r.val := by
    show win3_0.index t 0 * 4096 + 1 * r.val = _
    rw [(index3_0 t).1]; omega
  have e1 : (((cfg3.win 0).blk t).view.emb (ix2 r k) 1).val = t.val * 256 + k.val := by
    show win3_0.index t 1 * 256 + 1 * k.val = _
    rw [(index3_0 t).2]; omega
  exact congrArg₂ f e0 e1

theorem iblk3_1 (h : V c main_v2_0 = arr (a := 4096) (b := 1024) f) (t : Fin cfg3.N) (r : Fin 4096) (k : Fin 1024) :
    (iblk3 V c 1 t : FVec Ideal S4096x1024 .bf16) (ix2 r k) = f (r.val) (k.val) := by
  unfold iblk3
  rw [View.read_apply]
  show V c main_v2_0 _ = _
  rw [h]
  unfold arr
  have e0 : (((cfg3.win 1).blk t).view.emb (ix2 r k) 0).val = r.val := by
    show win3_1.index t 0 * 4096 + 1 * r.val = _
    rw [(index3_1 t).1]; omega
  have e1 : (((cfg3.win 1).blk t).view.emb (ix2 r k) 1).val = k.val := by
    show win3_1.index t 1 * 1024 + 1 * k.val = _
    rw [(index3_1 t).2]; omega
  exact congrArg₂ f e0 e1

theorem final3_2 (hx : V c main_arg0 = arr (a := 4096) (b := 1024) A.a) (hy : V c main_v2_0 = arr (a := 4096) (b := 1024) A.ea) :
    (dat3 V c).arrAt 2 cfg3.N = arr (a := 1024) (b := 1024) A.dWa := by
  refine (dat3 V c).arrAt_eq_of_covers 2 _ (by decide +kernel) fun t hf y => ?_
  blk_simp
  rw [after3_2]
  unfold outsAt3
  frame_out
  obtain ⟨r, l, rfl⟩ : ∃ (r : Fin 256) (l : Fin 1024), y = ix2 r l := ⟨y 0, y 1, ix2_eta y⟩
  refine ((dWa_at _ _ r l).trans (dot_eq (fun k => iblk3_0 V c hx t k r) (fun k => iblk3_1 V c hy t k l))).trans ?_
  unfold arr
  have e0 : (((View.whole main_v3).slice (win3_2.rect t)).emb (ix2 r l) 0).val = t.val * 256 + r.val := by
    show win3_2.index t 0 * 256 + 1 * r.val = _
    rw [(index3_2 t).1]; omega
  have e1 : (((View.whole main_v3).slice (win3_2.rect t)).emb (ix2 r l) 1).val = l.val := by
    show win3_2.index t 1 * 1024 + 1 * l.val = _
    rw [(index3_2 t).2]; omega
  exact (congrArg₂ A.dWa e0 e1).symm

/-! ## The gradient of the second branch's weights -/

theorem iblk4_0 (h : V c main_arg1 = arr (a := 4096) (b := 1024) f) (t : Fin cfg4.N) (r : Fin 4096) (k : Fin 256) :
    (iblk4 V c 0 t : FVec Ideal S4096x256 .bf16) (ix2 r k) = f (r.val) (t.val * 256 + k.val) := by
  unfold iblk4
  rw [View.read_apply]
  show V c main_arg1 _ = _
  rw [h]
  unfold arr
  have e0 : (((cfg4.win 0).blk t).view.emb (ix2 r k) 0).val = r.val := by
    show win4_0.index t 0 * 4096 + 1 * r.val = _
    rw [(index4_0 t).1]; omega
  have e1 : (((cfg4.win 0).blk t).view.emb (ix2 r k) 1).val = t.val * 256 + k.val := by
    show win4_0.index t 1 * 256 + 1 * k.val = _
    rw [(index4_0 t).2]; omega
  exact congrArg₂ f e0 e1

theorem iblk4_1 (h : V c main_v2_1 = arr (a := 4096) (b := 1024) f) (t : Fin cfg4.N) (r : Fin 4096) (k : Fin 1024) :
    (iblk4 V c 1 t : FVec Ideal S4096x1024 .bf16) (ix2 r k) = f (r.val) (k.val) := by
  unfold iblk4
  rw [View.read_apply]
  show V c main_v2_1 _ = _
  rw [h]
  unfold arr
  have e0 : (((cfg4.win 1).blk t).view.emb (ix2 r k) 0).val = r.val := by
    show win4_1.index t 0 * 4096 + 1 * r.val = _
    rw [(index4_1 t).1]; omega
  have e1 : (((cfg4.win 1).blk t).view.emb (ix2 r k) 1).val = k.val := by
    show win4_1.index t 1 * 1024 + 1 * k.val = _
    rw [(index4_1 t).2]; omega
  exact congrArg₂ f e0 e1

theorem final4_2 (hx : V c main_arg1 = arr (a := 4096) (b := 1024) A.b) (hy : V c main_v2_1 = arr (a := 4096) (b := 1024) A.eb) :
    (dat4 V c).arrAt 2 cfg4.N = arr (a := 1024) (b := 1024) A.dWb := by
  refine (dat4 V c).arrAt_eq_of_covers 2 _ (by decide +kernel) fun t hf y => ?_
  blk_simp
  rw [after4_2]
  unfold outsAt4
  frame_out
  obtain ⟨r, l, rfl⟩ : ∃ (r : Fin 256) (l : Fin 1024), y = ix2 r l := ⟨y 0, y 1, ix2_eta y⟩
  refine ((dWb_at _ _ r l).trans (dot_eq (fun k => iblk4_0 V c hx t k r) (fun k => iblk4_1 V c hy t k l))).trans ?_
  unfold arr
  have e0 : (((View.whole main_v4).slice (win4_2.rect t)).emb (ix2 r l) 0).val = t.val * 256 + r.val := by
    show win4_2.index t 0 * 256 + 1 * r.val = _
    rw [(index4_2 t).1]; omega
  have e1 : (((View.whole main_v4).slice (win4_2.rect t)).emb (ix2 r l) 1).val = l.val := by
    show win4_2.index t 1 * 1024 + 1 * l.val = _
    rw [(index4_2 t).2]; omega
  exact (congrArg₂ A.dWb e0 e1).symm

end Cert.Kernel3Ideal.Gates

end
-- ==== Proof.Gates.Result.lean ====
/- The kernel's six results. -/
module

public import proofs.«01_k».proof.Proof.Gates.Launch
public import proofs.«01_k».proof.Proof.Gates.Backward

@[expose] public section

set_option maxRecDepth 16384

noncomputable section

namespace Cert.Kernel3Ideal.Gates

open Idealize.ShloMosaic Idealize.ShloMosaic.TcCoe
open Cert.Kernel3Ideal Cert.Kernel3Ideal.Gen
open Cert.Gates

variable (m : (ℓ : Loc nD τ sig) → Buf (Elt Ideal) ℓ) (ρ : Dev nD → PrngReg) (c : Dev nD)

/-- The arguments hold these values. -/
structure ArgsHold (A : Args) : Prop where
  a : m (c.tc.loc main_arg0) = arr (a := 4096) (b := 1024) A.a
  b : m (c.tc.loc main_arg1) = arr (a := 4096) (b := 1024) A.b
  g : m (c.tc.loc main_arg2) = arr (a := 4096) (b := 2048) A.g
  wa : m (c.tc.loc main_arg3) = arr (a := 1024) (b := 1024) A.wa
  wb : m (c.tc.loc main_arg4) = arr (a := 1024) (b := 1024) A.wb
  wo : m (c.tc.loc main_arg5) = arr (a := 1024) (b := 1024) A.wo
  h : m (c.tc.loc main_arg6) = arr (a := 4096) (b := 1024) A.h

variable {m c} {A : Args} (H : ArgsHold m c A)
include H

/-! ## After the forward call -/

theorem sa1 : V1 m ρ c main_v0_0 = arr (a := 4096) (b := 1024) A.sa :=
  (W1_arr m ρ c 6).trans (final0_6 (V0 m ρ) c A H.g)
theorem sb1 : V1 m ρ c main_v0_1 = arr (a := 4096) (b := 1024) A.sb :=
  (W1_arr m ρ c 7).trans (final0_7 (V0 m ρ) c A H.g)
theorem ca1 : V1 m ρ c main_v0_2 = arr (a := 4096) (b := 1024) A.ca :=
  (W1_arr m ρ c 8).trans (final0_8 (V0 m ρ) c A H.a H.wa H.g)
theorem cb1 : V1 m ρ c main_v0_3 = arr (a := 4096) (b := 1024) A.cb :=
  (W1_arr m ρ c 9).trans (final0_9 (V0 m ρ) c A H.b H.wb H.g)
theorem mg1 : V1 m ρ c main_v0_4 = arr (a := 4096) (b := 1024) A.mg :=
  (W1_arr m ρ c 10).trans (final0_10 (V0 m ρ) c A H.a H.b H.wa H.wb H.g)

/-! ## After the gradient of the output weights -/

theorem sa2 : V2 m ρ c main_v0_0 = arr (a := 4096) (b := 1024) A.sa :=
  (W2_of m ρ c main_v0_0 (by decide)).trans (sa1 ρ H)
theorem sb2 : V2 m ρ c main_v0_1 = arr (a := 4096) (b := 1024) A.sb :=
  (W2_of m ρ c main_v0_1 (by decide)).trans (sb1 ρ H)
theorem ca2 : V2 m ρ c main_v0_2 = arr (a := 4096) (b := 1024) A.ca :=
  (W2_of m ρ c main_v0_2 (by decide)).trans (ca1 ρ H)
theorem cb2 : V2 m ρ c main_v0_3 = arr (a := 4096) (b := 1024) A.cb :=
  (W2_of m ρ c main_v0_3 (by decide)).trans (cb1 ρ H)
theorem dWo2 : V2 m ρ c main_v1 = arr (a := 1024) (b := 1024) A.dWo :=
  (W2_arr m ρ c 2).trans (final1_2 (V1 m ρ) c A (mg1 ρ H) ((W1_args m ρ c main_arg6 (by decide)).trans H.h))

/-! ## After the gradients of the merged branches -/

theorem ea3 : V3 m ρ c main_v2_0 = arr (a := 4096) (b := 1024) A.ea :=
  (W3_arr m ρ c 8).trans (final2_8 (V2 m ρ) c A ((W2_args m ρ c main_arg6 (by decide)).trans H.h) ((W2_args m ρ c main_arg5 (by decide)).trans H.wo) (sa2 ρ H))
theorem eb3 : V3 m ρ c main_v2_1 = arr (a := 4096) (b := 1024) A.eb :=
  (W3_arr m ρ c 9).trans (final2_9 (V2 m ρ) c A ((W2_args m ρ c main_arg6 (by decide)).trans H.h) ((W2_args m ρ c main_arg5 (by decide)).trans H.wo) (sb2 ρ H))
theorem dg3 : V3 m ρ c main_v2_2 = arr (a := 4096) (b := 2048) A.dg :=
  (W3_arr m ρ c 10).trans (final2_10 (V2 m ρ) c A ((W2_args m ρ c main_arg6 (by decide)).trans H.h) ((W2_args m ρ c main_arg5 (by decide)).trans H.wo) (ca2 ρ H) (cb2 ρ H))
theorem dA3 : V3 m ρ c main_v2_3 = arr (a := 4096) (b := 1024) A.dA :=
  (W3_arr m ρ c 11).trans (final2_11 (V2 m ρ) c A ((W2_args m ρ c main_arg6 (by decide)).trans H.h) ((W2_args m ρ c main_arg5 (by decide)).trans H.wo) (sa2 ρ H) ((W2_args m ρ c main_arg3 (by decide)).trans H.wa))
theorem dB3 : V3 m ρ c main_v2_4 = arr (a := 4096) (b := 1024) A.dB :=
  (W3_arr m ρ c 12).trans (final2_12 (V2 m ρ) c A ((W2_args m ρ c main_arg6 (by decide)).trans H.h) ((W2_args m ρ c main_arg5 (by decide)).trans H.wo) (sb2 ρ H) ((W2_args m ρ c main_arg4 (by decide)).trans H.wb))
theorem dWo3 : V3 m ρ c main_v1 = arr (a := 1024) (b := 1024) A.dWo :=
  (W3_of m ρ c main_v1 (by decide)).trans (dWo2 ρ H)

/-! ## After the gradient of the first branch's weights -/

theorem eb4 : V4 m ρ c main_v2_1 = arr (a := 4096) (b := 1024) A.eb :=
  (W4_of m ρ c main_v2_1 (by decide)).trans (eb3 ρ H)
theorem dg4 : V4 m ρ c main_v2_2 = arr (a := 4096) (b := 2048) A.dg :=
  (W4_of m ρ c main_v2_2 (by decide)).trans (dg3 ρ H)
theorem dA4 : V4 m ρ c main_v2_3 = arr (a := 4096) (b := 1024) A.dA :=
  (W4_of m ρ c main_v2_3 (by decide)).trans (dA3 ρ H)
theorem dB4 : V4 m ρ c main_v2_4 = arr (a := 4096) (b := 1024) A.dB :=
  (W4_of m ρ c main_v2_4 (by decide)).trans (dB3 ρ H)
theorem dWo4 : V4 m ρ c main_v1 = arr (a := 1024) (b := 1024) A.dWo :=
  (W4_of m ρ c main_v1 (by decide)).trans (dWo3 ρ H)
theorem dWa4 : V4 m ρ c main_v3 = arr (a := 1024) (b := 1024) A.dWa :=
  (W4_arr m ρ c 2).trans (final3_2 (V3 m ρ) c A ((W3_args m ρ c main_arg0 (by decide)).trans H.a) (ea3 ρ H))

/-! ## At the end -/

theorem dg5 : V5 m ρ c main_v2_2 = arr (a := 4096) (b := 2048) A.dg :=
  (W5_of m ρ c main_v2_2 (by decide)).trans (dg4 ρ H)
theorem dA5 : V5 m ρ c main_v2_3 = arr (a := 4096) (b := 1024) A.dA :=
  (W5_of m ρ c main_v2_3 (by decide)).trans (dA4 ρ H)
theorem dB5 : V5 m ρ c main_v2_4 = arr (a := 4096) (b := 1024) A.dB :=
  (W5_of m ρ c main_v2_4 (by decide)).trans (dB4 ρ H)
theorem dWo5 : V5 m ρ c main_v1 = arr (a := 1024) (b := 1024) A.dWo :=
  (W5_of m ρ c main_v1 (by decide)).trans (dWo4 ρ H)
theorem dWa5 : V5 m ρ c main_v3 = arr (a := 1024) (b := 1024) A.dWa :=
  (W5_of m ρ c main_v3 (by decide)).trans (dWa4 ρ H)
theorem dWb5 : V5 m ρ c main_v4 = arr (a := 1024) (b := 1024) A.dWb :=
  (W5_arr m ρ c 2).trans (final4_2 (V4 m ρ) c A ((W4_args m ρ c main_arg1 (by decide)).trans H.b) (eb4 ρ H))

end Cert.Kernel3Ideal.Gates

end
-- ==== Proof.Gates.Reference.lean ====
/- The reference's six results: its operations named, and read at an element. -/
module

public import proofs.«01_k».proof.Proof.Gen.Reference3Ideal.Run
public import proofs.«01_k».proof.Proof.Gates.Model
public import Idealize.ShloMosaic.Lib.Pointwise
public import Idealize.ShloMosaic.Lib.Quiescent

@[expose] public section

set_option maxRecDepth 8192
set_option maxHeartbeats 200000

noncomputable section

namespace Cert.Reference3Ideal.Gates

open Cert.Reference3Ideal Cert.Reference3Ideal.Gen Cert.Reference3Ideal.Value
open Idealize.ShloMosaic Idealize.ShloMosaic.TcCoe Idealize.SL.Sem
open Cert.Gates

/-! ## The operations -/

/-- A branch's product. -/
def branch (x : FVec Ideal S4096x1024 .bf16) (w : FVec Ideal S1024x1024 .bf16) : FVec Ideal S4096x1024 .f32 :=
  Host.dotGeneral (φ₁ := .f32) (φ₂ := .f32) dot_S4096x1024_S1024x1024_S4096x1024_1_0_0_1_n_n none (extf .f32 x bitsLt_bf16_f32) (extf .f32 w bitsLt_bf16_f32)
/-- A gradient through a product, to its left factor. -/
def back (d : FVec Ideal S4096x1024 .f32) (w : FVec Ideal S1024x1024 .bf16) : FVec Ideal S4096x1024 .f32 :=
  Host.dotGeneral (φ₁ := .f32) (φ₂ := .f32) dot_S4096x1024_S1024x1024_S4096x1024_1_1_0_0_n_n none d (extf .f32 w bitsLt_bf16_f32)
/-- A gradient through a product, to its weights. -/
def weights (d x : FVec Ideal S4096x1024 .f32) : FVec Ideal S1024x1024 .bf16 :=
  truncf .bf16 (transpose S1024x1024 [1, 0] (Host.dotGeneral (φ₁ := .f32) (φ₂ := .f32) dot_S4096x1024_S4096x1024_S1024x1024_0_0_1_1_n_n none d x)
    transposes_S1024x1024_S1024x1024_1_0) bitsLt_bf16_f32
/-- Ones. -/
def ones : FVec Ideal S4096x1024 .f32 := broadcastInDim S4096x1024 ![] bcast_S_S4096x1024 (constant S_ .f32 0x3F800000#32)
/-- The first branch's gate. -/
def gateA (g : FVec Ideal S4096x2048 .bf16) : FVec Ideal S4096x1024 .f32 :=
  Host.divf ones (addf ones (Host.exp (Host.negf (extractStridedSlice S4096x1024 ![0, 0] (extf .f32 g bitsLt_bf16_f32) slices_S4096x2048_S4096x1024_0_0))))
/-- The second branch's gate. -/
def gateB (g : FVec Ideal S4096x2048 .bf16) : FVec Ideal S4096x1024 .f32 :=
  Host.divf ones (addf ones (Host.exp (Host.negf (extractStridedSlice S4096x1024 ![0, 1024] (extf .f32 g bitsLt_bf16_f32) slices_S4096x2048_S4096x1024_0_1024))))
/-- The gradient of a gate's argument. -/
def dGate (d p s : FVec Ideal S4096x1024 .f32) : FVec Ideal S4096x1024 .f32 := mulf (mulf d p) (mulf s (subf ones s))
/-- Two arrays side by side. -/
def beside (x y : FVec Ideal S4096x1024 .f32) : FVec Ideal S4096x2048 .bf16 :=
  truncf .bf16 (concatenate S4096x2048 1 [⟨S4096x1024, x⟩, ⟨S4096x1024, y⟩] concatenates_S4096x1024_S4096x1024_S4096x2048_d1) bitsLt_bf16_f32

variable (m : (ℓ : Loc nD τ sig) → Buf (Elt Ideal) ℓ) (c : Dev nD)

/-- The seven arguments. -/
def argA : FVec Ideal S4096x1024 .bf16 := m (c.tc.loc main_arg0)
@[inherit_doc argA] def argB : FVec Ideal S4096x1024 .bf16 := m (c.tc.loc main_arg1)
@[inherit_doc argA] def argG : FVec Ideal S4096x2048 .bf16 := m (c.tc.loc main_arg2)
@[inherit_doc argA] def argWa : FVec Ideal S1024x1024 .bf16 := m (c.tc.loc main_arg3)
@[inherit_doc argA] def argWb : FVec Ideal S1024x1024 .bf16 := m (c.tc.loc main_arg4)
@[inherit_doc argA] def argWo : FVec Ideal S1024x1024 .bf16 := m (c.tc.loc main_arg5)
@[inherit_doc argA] def argH : FVec Ideal S4096x1024 .bf16 := m (c.tc.loc main_arg6)

/-- The values in between, of the arguments: the branches' products, the gradient of the merged branches, and of each product. -/
def pA : FVec Ideal S4096x1024 .f32 := branch (argA m c) (argWa m c)
@[inherit_doc pA] def pB : FVec Ideal S4096x1024 .f32 := branch (argB m c) (argWb m c)
@[inherit_doc pA] def dM : FVec Ideal S4096x1024 .f32 := back (extf .f32 (argH m c) bitsLt_bf16_f32) (argWo m c)
@[inherit_doc pA] def eA : FVec Ideal S4096x1024 .f32 := mulf (gateA (argG m c)) (dM m c)
@[inherit_doc pA] def eB : FVec Ideal S4096x1024 .f32 := mulf (gateB (argG m c)) (dM m c)

/-- The results, of the arguments. -/
def outG : FVec Ideal S4096x2048 .bf16 := beside (dGate (dM m c) (pA m c) (gateA (argG m c))) (dGate (dM m c) (pB m c) (gateB (argG m c)))
@[inherit_doc outG] def outA : FVec Ideal S4096x1024 .bf16 := truncf .bf16 (back (eA m c) (argWa m c)) bitsLt_bf16_f32
@[inherit_doc outG] def outB : FVec Ideal S4096x1024 .f32 := extf .f32 (truncf .bf16 (back (eB m c) (argWb m c)) bitsLt_bf16_f32) bitsLt_bf16_f32
@[inherit_doc outG] def outWa : FVec Ideal S1024x1024 .bf16 := weights (eA m c) (extf .f32 (argA m c) bitsLt_bf16_f32)
@[inherit_doc outG] def outWb : FVec Ideal S1024x1024 .bf16 := weights (eB m c) (extf .f32 (argB m c) bitsLt_bf16_f32)
@[inherit_doc outG] def outWo : FVec Ideal S1024x1024 .bf16 :=
  weights (extf .f32 (argH m c) bitsLt_bf16_f32) (addf (mulf (gateA (argG m c)) (pA m c)) (mulf (gateB (argG m c)) (pB m c)))

/-- The reference's run, its results by name. -/
theorem run (g : Dev nD → PrngReg) :
    θ_run (defs (F := Ideal)) (onTc (τ := τ) (main (F := Ideal))) ⟨m, fun _ => 0, g⟩ (fun r => ∀ c : Dev nD,
      r.2.mem (c.tc.loc main_v52) = outG m c
      ∧ r.2.mem (c.tc.loc main_v54) = outA m c
      ∧ r.2.mem (c.tc.loc main_v55) = outB m c
      ∧ r.2.mem (c.tc.loc main_v50) = outWa m c
      ∧ r.2.mem (c.tc.loc main_v46) = outWb m c
      ∧ r.2.mem (c.tc.loc main_v36) = outWo m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)) := by
  unfold outWo outWb outWa outB outA outG eB eA dM pB pA beside dGate gateB gateA ones weights back branch argH argWo argWb argWa argG argB argA
  exact Cert.Reference3Ideal.Value.run (F := Ideal) m g

/-- The reference's frame. -/
theorem frame (g : Dev nD → PrngReg) :
    θ_run (defs (F := Ideal)) (onTc (τ := τ) (main (F := Ideal))) ⟨m, fun _ => 0, g⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6))
      ∧ r.2.sem = fun _ => 0) :=
  (θ_run _ _ _).mono (fun r h => ⟨fun c => (h c).2.2.2.2.2.2, sem_eq_zero_of_no_sems (by decide) r.2⟩) (run m g)

/-! ## At an element -/

section
variable (x : FVec Ideal S4096x1024 .bf16) (d p s : FVec Ideal S4096x1024 .f32) (g : FVec Ideal S4096x2048 .bf16) (w : FVec Ideal S1024x1024 .bf16)
  (t : Fin 4096) (l : Fin 1024)

theorem branch_at : branch x w (ix2 t l) = ∑ k : Fin 1024, (x (ix2 t k) : EReal) * (w (ix2 k l) : EReal) := by
  pointwise [branch]
theorem back_at : back d w (ix2 t l) = ∑ k : Fin 1024, (d (ix2 t k) : EReal) * (w (ix2 l k) : EReal) := by
  pointwise [back]
theorem weights_at (k : Fin 1024) : weights d p (ix2 k l) = ∑ t : Fin 4096, (d (ix2 t l) : EReal) * (p (ix2 t k) : EReal) := by
  pointwise [weights]

theorem gateA_at : gateA g (ix2 t l) = Ideal.logistic (g (ix2 t (⟨l.val, by omega⟩ : Fin 2048))) := by
  have e : gateA g (ix2 t l) = Ideal.div (Ideal.ofBits FTy.f32 1065353216#32) (Ideal.ofBits FTy.f32 1065353216#32
      + Ideal.exp (-(extractStridedSlice S4096x1024 ![0, 0] g slices_S4096x2048_S4096x1024_0_0 (ix2 t l) : EReal))) := rfl
  have h : extractStridedSlice S4096x1024 ![0, 0] g slices_S4096x2048_S4096x1024_0_0 (ix2 t l) = g (ix2 t (⟨l.val, by omega⟩ : Fin 2048)) := by
    pointwise
  rw [e, h, one]
  rfl
theorem gateB_at : gateB g (ix2 t l) = Ideal.logistic (g (ix2 t (⟨1024 + l.val, by omega⟩ : Fin 2048))) := by
  have e : gateB g (ix2 t l) = Ideal.div (Ideal.ofBits FTy.f32 1065353216#32) (Ideal.ofBits FTy.f32 1065353216#32
      + Ideal.exp (-(extractStridedSlice S4096x1024 ![0, 1024] g slices_S4096x2048_S4096x1024_0_1024 (ix2 t l) : EReal))) := rfl
  have h : extractStridedSlice S4096x1024 ![0, 1024] g slices_S4096x2048_S4096x1024_0_1024 (ix2 t l) = g (ix2 t (⟨1024 + l.val, by omega⟩ : Fin 2048)) := by
    pointwise
  rw [e, h, one]
  rfl

theorem dGate_at {d' p' s' : EReal} (hd : d (ix2 t l) = d') (hp : p (ix2 t l) = p') (hs : s (ix2 t l) = s') :
    dGate d p s (ix2 t l) = d' * (p' * s' * (1 - s')) := by
  have e : dGate d p s (ix2 t l) = (d (ix2 t l) : EReal) * (p (ix2 t l) : EReal) * ((s (ix2 t l) : EReal) * (Ideal.ofBits FTy.f32 1065353216#32 - (s (ix2 t l) : EReal))) := rfl
  rw [e, hd, hp, hs, one, mul_assoc, mul_assoc]
end

/-- The arguments hold these values. -/
structure Holds (A : Args) : Prop where
  a : ∀ (t : Fin 4096) (k : Fin 1024), argA m c (ix2 t k) = A.a t.val k.val
  b : ∀ (t : Fin 4096) (k : Fin 1024), argB m c (ix2 t k) = A.b t.val k.val
  g : ∀ (t : Fin 4096) (k : Fin 2048), argG m c (ix2 t k) = A.g t.val k.val
  wa : ∀ (t : Fin 1024) (k : Fin 1024), argWa m c (ix2 t k) = A.wa t.val k.val
  wb : ∀ (t : Fin 1024) (k : Fin 1024), argWb m c (ix2 t k) = A.wb t.val k.val
  wo : ∀ (t : Fin 1024) (k : Fin 1024), argWo m c (ix2 t k) = A.wo t.val k.val
  h : ∀ (t : Fin 4096) (k : Fin 1024), argH m c (ix2 t k) = A.h t.val k.val

variable {m c} {A : Args} (H : Holds m c A)
include H

theorem gA (t : Fin 4096) (l : Fin 1024) : gateA (argG m c) (ix2 t l) = A.sa t.val l.val := (gateA_at _ t l).trans (congrArg Ideal.logistic (H.g t _))
theorem gB (t : Fin 4096) (l : Fin 1024) : gateB (argG m c) (ix2 t l) = A.sb t.val l.val := (gateB_at _ t l).trans (congrArg Ideal.logistic (H.g t _))
theorem pA_at (t : Fin 4096) (l : Fin 1024) : pA m c (ix2 t l) = A.pa t.val l.val :=
  (branch_at _ _ t l).trans (dot_eq (fun k => H.a t k) (fun k => H.wa k l))
theorem pB_at (t : Fin 4096) (l : Fin 1024) : pB m c (ix2 t l) = A.pb t.val l.val :=
  (branch_at _ _ t l).trans (dot_eq (fun k => H.b t k) (fun k => H.wb k l))
theorem dM_at (t : Fin 4096) (l : Fin 1024) : dM m c (ix2 t l) = A.dm t.val l.val :=
  (back_at _ _ t l).trans (dot_eq (fun k => H.h t k) (fun k => H.wo l k))
theorem eA_at (t : Fin 4096) (l : Fin 1024) : eA m c (ix2 t l) = A.ea t.val l.val :=
  (congrArg₂ (fun x y : EReal => x * y) (gA H t l) (dM_at H t l)).trans (mul_comm _ _)
theorem eB_at (t : Fin 4096) (l : Fin 1024) : eB m c (ix2 t l) = A.eb t.val l.val :=
  (congrArg₂ (fun x y : EReal => x * y) (gB H t l) (dM_at H t l)).trans (mul_comm _ _)

theorem outG_at (t : Fin 4096) (l : Fin 2048) : outG m c (ix2 t l) = A.dg t.val l.val := by
  unfold Args.dg
  split
  next hl => exact (cat_left _ _ concatenates_S4096x1024_S4096x1024_S4096x2048_d1 t l hl).trans (dGate_at _ _ _ t _ (dM_at H t _) (pA_at H t _) (gA H t _))
  next hl => exact (cat_right _ _ concatenates_S4096x1024_S4096x1024_S4096x2048_d1 t l hl).trans (dGate_at _ _ _ t _ (dM_at H t _) (pB_at H t _) (gB H t _))
theorem outA_at (t : Fin 4096) (l : Fin 1024) : outA m c (ix2 t l) = A.dA t.val l.val :=
  (back_at _ _ t l).trans (dot_eq (fun k => eA_at H t k) (fun k => H.wa l k))
theorem outB_at (t : Fin 4096) (l : Fin 1024) : outB m c (ix2 t l) = A.dB t.val l.val :=
  (back_at _ _ t l).trans (dot_eq (fun k => eB_at H t k) (fun k => H.wb l k))
theorem outWa_at (k l : Fin 1024) : outWa m c (ix2 k l) = A.dWa k.val l.val :=
  (weights_at _ _ l k).trans (Finset.sum_congr rfl fun t _ => (congrArg₂ (fun x y : EReal => x * y) (eA_at H t l) (H.a t k)).trans (mul_comm _ _))
theorem outWb_at (k l : Fin 1024) : outWb m c (ix2 k l) = A.dWb k.val l.val :=
  (weights_at _ _ l k).trans (Finset.sum_congr rfl fun t _ => (congrArg₂ (fun x y : EReal => x * y) (eB_at H t l) (H.b t k)).trans (mul_comm _ _))
theorem outWo_at (k l : Fin 1024) : outWo m c (ix2 k l) = A.dWo k.val l.val :=
  (weights_at _ _ l k).trans (Finset.sum_congr rfl fun t _ => (congrArg₂ (fun x y : EReal => x * y) (H.h t l)
    (congrArg₂ (fun x y : EReal => x + y) (congrArg₂ (fun x y : EReal => x * y) (gA H t k) (pA_at H t k))
      (congrArg₂ (fun x y : EReal => x * y) (gB H t k) (pB_at H t k)))).trans (mul_comm _ _))

end Cert.Reference3Ideal.Gates

end
-- ==== Proof.Gates.Equal.lean ====
/- The branch gates: the kernel's results are the reference's, whatever the arguments. -/
module

public import proofs.«01_k».proof.Defs
public import proofs.«01_k».proof.Proof.Gates.Launch
public import proofs.«01_k».proof.Proof.Gates.Result
public import proofs.«01_k».proof.Proof.Gates.Reference
public import proofs.«01_k».proof.Proof.Math.Equal

@[expose] public section

set_option maxRecDepth 8192
set_option maxHeartbeats 200000

noncomputable section

namespace Cert.Gates

open Idealize.ShloMosaic Idealize.ShloMosaic.TcCoe Idealize.SL.Sem
open Idealize.ShloMosaic.StableHlo
open Cert.Kernel3Ideal.Gates (arr)
open Cert.Attn (ext2)

/-- An array's values, at natural numbers. -/
def valAt {a b : ℕ} (f : Shape.Idx ⟨2, ![a, b]⟩ → EReal) (i j : ℕ) : EReal := if h : i < a ∧ j < b then f (ix2 ⟨i, h.1⟩ ⟨j, h.2⟩) else 0

/-- An array is the array its values make. -/
theorem arr_of {a b : ℕ} (f : Shape.Idx ⟨2, ![a, b]⟩ → EReal) : f = arr (a := a) (b := b) (valAt f) :=
  ext2 fun t l => by
    show _ = valAt f t.val l.val
    unfold valAt
    rw [dif_pos ⟨t.isLt, l.isLt⟩]

/-- The values the arguments hold. -/
def args (m : (ℓ : Loc Cert.Kernel3Ideal.nD Cert.Kernel3Ideal.τ Cert.Kernel3Ideal.sig) → Buf (Elt Ideal) ℓ) (c : Dev Cert.Kernel3Ideal.nD) : Args where
  a := valAt (a := 4096) (b := 1024) (m (c.tc.loc Cert.Kernel3Ideal.main_arg0))
  b := valAt (a := 4096) (b := 1024) (m (c.tc.loc Cert.Kernel3Ideal.main_arg1))
  g := valAt (a := 4096) (b := 2048) (m (c.tc.loc Cert.Kernel3Ideal.main_arg2))
  wa := valAt (a := 1024) (b := 1024) (m (c.tc.loc Cert.Kernel3Ideal.main_arg3))
  wb := valAt (a := 1024) (b := 1024) (m (c.tc.loc Cert.Kernel3Ideal.main_arg4))
  wo := valAt (a := 1024) (b := 1024) (m (c.tc.loc Cert.Kernel3Ideal.main_arg5))
  h := valAt (a := 4096) (b := 1024) (m (c.tc.loc Cert.Kernel3Ideal.main_arg6))

theorem args_hold (m : (ℓ : Loc Cert.Kernel3Ideal.nD Cert.Kernel3Ideal.τ Cert.Kernel3Ideal.sig) → Buf (Elt Ideal) ℓ)
    (c : Dev Cert.Kernel3Ideal.nD) : Cert.Kernel3Ideal.Gates.ArgsHold m c (args m c) :=
  ⟨arr_of _, arr_of _, arr_of _, arr_of _, arr_of _, arr_of _, arr_of _⟩

/-- The kernel and the reference compute the same six arrays. -/
theorem algebraic : Cert.algebraic_Kernel3Ideal_Reference3Ideal (hKernel3Ideal := Cert.Kernel3Ideal.Gen.facts) (hReference3Ideal := Cert.Reference3Ideal.Gen.facts) := by
  intro m g m' g' hpre hagree
  refine ⟨fun c => arr (a := 4096) (b := 2048) (args m c).dg,
    fun c => arr (a := 4096) (b := 1024) (args m c).dA,
    fun c => arr (a := 4096) (b := 1024) (args m c).dB,
    fun c => arr (a := 1024) (b := 1024) (args m c).dWa,
    fun c => arr (a := 1024) (b := 1024) (args m c).dWb,
    fun c => arr (a := 1024) (b := 1024) (args m c).dWo, ?_, ?_⟩
  · refine (θ_run _ _ _).mono (fun r h c => ?_) (θ_run_and (Cert.Kernel3Ideal.Gates.run m g) (Cert.Kernel3Ideal.Gates.frame m g))
    have A := args_hold m c
    obtain ⟨h1, h2, h3, h4, h5, h6⟩ := h.1 c
    exact ⟨h1.trans (Cert.Kernel3Ideal.Gates.dg5 g A),
      h2.trans (Cert.Kernel3Ideal.Gates.dA5 g A),
      h3.trans (Cert.Kernel3Ideal.Gates.dB5 g A),
      h4.trans (Cert.Kernel3Ideal.Gates.dWa5 g A),
      h5.trans (Cert.Kernel3Ideal.Gates.dWb5 g A),
      h6.trans (Cert.Kernel3Ideal.Gates.dWo5 g A), h.2.1 c⟩
  · refine (θ_run _ _ _).mono (fun r h c => ?_) (Cert.Reference3Ideal.Gates.run m' g')
    have A := args_hold m c
    obtain ⟨a0, a1, a2, a3, a4, a5, a6⟩ := hagree c
    have H : Cert.Reference3Ideal.Gates.Holds m' c (args m c) :=
      ⟨fun t k => congrFun (a0.trans A.a) (ix2 t k),
        fun t k => congrFun (a1.trans A.b) (ix2 t k),
        fun t k => congrFun (a2.trans A.g) (ix2 t k),
        fun t k => congrFun (a3.trans A.wa) (ix2 t k),
        fun t k => congrFun (a4.trans A.wb) (ix2 t k),
        fun t k => congrFun (a5.trans A.wo) (ix2 t k),
        fun t k => congrFun (a6.trans A.h) (ix2 t k)⟩
    obtain ⟨h1, h2, h3, h4, h5, h6, hargs⟩ := h c
    refine ⟨h1.trans ?_, h2.trans ?_, h3.trans ?_, h4.trans ?_, h5.trans ?_, h6.trans ?_, hargs⟩
    · exact ext2 fun t l => Cert.Reference3Ideal.Gates.outG_at H t l
    · exact ext2 fun t l => Cert.Reference3Ideal.Gates.outA_at H t l
    · exact ext2 fun t l => Cert.Reference3Ideal.Gates.outB_at H t l
    · exact ext2 fun t l => Cert.Reference3Ideal.Gates.outWa_at H t l
    · exact ext2 fun t l => Cert.Reference3Ideal.Gates.outWb_at H t l
    · exact ext2 fun t l => Cert.Reference3Ideal.Gates.outWo_at H t l

end Cert.Gates

end
-- ==== Proof.InProj.Model.lean ====
/- The gradients of the input projection's weights and bias over the extended reals: what both programs compute. -/
module

public import proofs.«01_k».proof.Proof.Gates.Model

@[expose] public section

noncomputable section

namespace Cert.InProj

open Idealize.ShloMosaic Idealize.ShloMosaic.TcCoe

/-- The arguments: the gradient of the projection's 7424 columns — the queries' 1024, the keys' and values' 256, the
    feed-forward layer's 4096, the gates' 2048 — and the projection's input. -/
structure Args where
  q : ℕ → ℕ → EReal
  k : ℕ → ℕ → EReal
  h : ℕ → ℕ → EReal
  g : ℕ → ℕ → EReal
  u : ℕ → ℕ → EReal

namespace Args

variable (A : Args)

/-- The gradient of the projection, at a token and a column. -/
def p (t i : ℕ) : EReal := if i < 1024 then A.q t i else if i < 1280 then A.k t (i - 1024) else if i < 5376 then A.h t (i - 1280) else A.g t (i - 5376)
/-- The gradient of the weights, a column to each row. -/
def dW (i l : ℕ) : EReal := ∑ t : Fin 4096, A.p t.val i * A.u t.val l
/-- The gradient of the bias: one row. -/
def dB (_ i : ℕ) : EReal := ∑ t : Fin 4096, A.p t.val i

theorem p_q {t i : ℕ} (h : i < 1024) : A.p t i = A.q t i := if_pos h
theorem p_k {t i : ℕ} (h : 1024 ≤ i) (h' : i < 1280) : A.p t i = A.k t (i - 1024) := by
  rw [p, if_neg (by omega), if_pos h']
theorem p_h {t i : ℕ} (h : 1280 ≤ i) (h' : i < 5376) : A.p t i = A.h t (i - 1280) := by
  rw [p, if_neg (by omega), if_neg (by omega), if_pos h']
theorem p_g {t i : ℕ} (h : 5376 ≤ i) : A.p t i = A.g t (i - 5376) := by
  rw [p, if_neg (by omega), if_neg (by omega), if_neg (by omega)]

end Args

end Cert.InProj
-- ==== Proof.InProj.Cell.lean ====
/- What the call's body stores, at an element of its block: the four column groups' branches store the same terms. -/
module

public import proofs.«01_k».proof.Proof.Gen.Kernel4Ideal.Skeleton
public import proofs.«01_k».proof.Proof.InProj.Model
public import Idealize.ShloMosaic.Lib.Pointwise

@[expose] public section

set_option maxRecDepth 8192
set_option maxHeartbeats 100000

noncomputable section

namespace Cert.Kernel4Ideal.InProj

open Cert.Kernel4Ideal Cert.Kernel4Ideal.Gen
open Idealize.ShloMosaic Idealize.ShloMosaic.TcCoe

variable (u : FVec Ideal S4096x1024 .bf16) (d : FVec Ideal S4096x256 .bf16) (r : Fin 256) (l : Fin 1024) (z : Fin 1)

/-- The block of the weights' gradient. -/
theorem dW_at : k0_pay1 (F := Ideal) u d (ix2 r l) = ∑ t : Fin 4096, (d (ix2 t r) : EReal) * (u (ix2 t l) : EReal) := by
  pointwise [k0_pay1]

/-- The block of the bias's gradient. -/
theorem dB_at : k0_pay2 (F := Ideal) d (ix2 z r) = ∑ t : Fin 4096, (d (ix2 t r) : EReal) := by
  pointwise [k0_pay2]

theorem pay3 : k0_pay3 (F := Ideal) = k0_pay1 := rfl
theorem pay4 : k0_pay4 (F := Ideal) = k0_pay2 := rfl
theorem pay5 : k0_pay5 (F := Ideal) = k0_pay1 := rfl
theorem pay6 : k0_pay6 (F := Ideal) = k0_pay2 := rfl
theorem pay7 : k0_pay7 (F := Ideal) = k0_pay1 := rfl
theorem pay8 : k0_pay8 (F := Ideal) = k0_pay2 := rfl

end Cert.Kernel4Ideal.InProj

end
-- ==== Proof.InProj.Blocks.lean ====
/- The call's two result arrays, when its arguments hold given values. -/
module

public import proofs.«01_k».proof.Proof.Gen.Kernel4Ideal.Value
public import proofs.«01_k».proof.Proof.InProj.Cell
public import proofs.«01_k».proof.Proof.Gates.Regions
public import Idealize.ShloMosaic.Lib.Pipeline.ValueKit

@[expose] public section

set_option maxRecDepth 16384

noncomputable section

namespace Cert.Kernel4Ideal.InProj

open Idealize.ShloMosaic Idealize.ShloMosaic.TcCoe Idealize.ShloMosaic.Tactic
open Idealize.ShloMosaic.Pipeline (Dat Cfg Window)
open Cert.Kernel4Ideal Cert.Kernel4Ideal.Gen
open Cert.InProj
open Cert.Gates (dot_eq)
open Cert.Kernel3Ideal.Gates (arr ix2_eta)

/-! ## Where the blocks lie -/

theorem index_0 : ∀ t : Fin cfg0.N, win0_0.index t 0 = 0 ∧ (t.val < 4 → win0_0.index t 1 = t.val) :=
  (by decide +kernel : ∀ t : Fin grid0.N, win0_0.index t 0 = 0 ∧ (t.val < 4 → win0_0.index t 1 = t.val))
theorem index_1 : ∀ t : Fin cfg0.N, win0_1.index t 0 = 0 ∧ win0_1.index t 1 = 0 :=
  (by decide +kernel : ∀ t : Fin grid0.N, win0_1.index t 0 = 0 ∧ win0_1.index t 1 = 0)
theorem index_2 : ∀ t : Fin cfg0.N, win0_2.index t 0 = 0 ∧ (5 ≤ t.val → t.val ≤ 20 → win0_2.index t 1 = t.val - 5) :=
  (by decide +kernel : ∀ t : Fin grid0.N, win0_2.index t 0 = 0 ∧ (5 ≤ t.val → t.val ≤ 20 → win0_2.index t 1 = t.val - 5))
theorem index_3 : ∀ t : Fin cfg0.N, win0_3.index t 0 = 0 ∧ (21 ≤ t.val → win0_3.index t 1 = t.val - 21) :=
  (by decide +kernel : ∀ t : Fin grid0.N, win0_3.index t 0 = 0 ∧ (21 ≤ t.val → win0_3.index t 1 = t.val - 21))
theorem index_4 : ∀ t : Fin cfg0.N, win0_4.index t 0 = 0 ∧ win0_4.index t 1 = 0 :=
  (by decide +kernel : ∀ t : Fin grid0.N, win0_4.index t 0 = 0 ∧ win0_4.index t 1 = 0)
theorem index_5 : ∀ t : Fin cfg0.N, win0_5.index t 0 = t.val ∧ win0_5.index t 1 = 0 :=
  (by decide +kernel : ∀ t : Fin grid0.N, win0_5.index t 0 = t.val ∧ win0_5.index t 1 = 0)
theorem index_6 : ∀ t : Fin cfg0.N, win0_6.index t 0 = 0 ∧ win0_6.index t 1 = t.val :=
  (by decide +kernel : ∀ t : Fin grid0.N, win0_6.index t 0 = 0 ∧ win0_6.index t 1 = t.val)

variable (m : (ℓ : Loc nD τ sig) → Buf (Elt Ideal) ℓ) (c : Dev nD)
variable {f : ℕ → ℕ → EReal}

/-! ## The blocks read -/

theorem iblk_0 (h : V m c main_arg0 = arr (a := 4096) (b := 1024) f) (t : Fin cfg0.N) (ht : t.val < 4) (r : Fin 4096) (k : Fin 256) :
    (iblk m c 0 t : FVec Ideal S4096x256 .bf16) (ix2 r k) = f r.val (t.val * 256 + k.val) := by
  unfold iblk
  rw [View.read_apply]
  show V m c main_arg0 _ = _
  rw [h]
  unfold arr
  have e0 : (((cfg0.win 0).blk t).view.emb (ix2 r k) 0).val = r.val := by
    show win0_0.index t 0 * 4096 + 1 * r.val = _
    rw [(index_0 t).1]; omega
  have e1 : (((cfg0.win 0).blk t).view.emb (ix2 r k) 1).val = t.val * 256 + k.val := by
    show win0_0.index t 1 * 256 + 1 * k.val = _
    rw [(index_0 t).2 ht]; omega
  exact congrArg₂ f e0 e1

theorem iblk_1 (h : V m c main_arg1 = arr (a := 4096) (b := 256) f) (t : Fin cfg0.N) (r : Fin 4096) (k : Fin 256) :
    (iblk m c 1 t : FVec Ideal S4096x256 .bf16) (ix2 r k) = f r.val k.val := by
  unfold iblk
  rw [View.read_apply]
  show V m c main_arg1 _ = _
  rw [h]
  unfold arr
  have e0 : (((cfg0.win 1).blk t).view.emb (ix2 r k) 0).val = r.val := by
    show win0_1.index t 0 * 4096 + 1 * r.val = _
    rw [(index_1 t).1]; omega
  have e1 : (((cfg0.win 1).blk t).view.emb (ix2 r k) 1).val = k.val := by
    show win0_1.index t 1 * 256 + 1 * k.val = _
    rw [(index_1 t).2]; omega
  exact congrArg₂ f e0 e1

theorem iblk_2 (h : V m c main_arg2 = arr (a := 4096) (b := 4096) f) (t : Fin cfg0.N) (ht : 5 ≤ t.val) (ht' : t.val ≤ 20) (r : Fin 4096) (k : Fin 256) :
    (iblk m c 2 t : FVec Ideal S4096x256 .bf16) (ix2 r k) = f r.val ((t.val - 5) * 256 + k.val) := by
  unfold iblk
  rw [View.read_apply]
  show V m c main_arg2 _ = _
  rw [h]
  unfold arr
  have e0 : (((cfg0.win 2).blk t).view.emb (ix2 r k) 0).val = r.val := by
    show win0_2.index t 0 * 4096 + 1 * r.val = _
    rw [(index_2 t).1]; omega
  have e1 : (((cfg0.win 2).blk t).view.emb (ix2 r k) 1).val = (t.val - 5) * 256 + k.val := by
    show win0_2.index t 1 * 256 + 1 * k.val = _
    rw [(index_2 t).2 ht ht']; omega
  exact congrArg₂ f e0 e1

theorem iblk_3 (h : V m c main_arg3 = arr (a := 4096) (b := 2048) f) (t : Fin cfg0.N) (ht : 21 ≤ t.val) (r : Fin 4096) (k : Fin 256) :
    (iblk m c 3 t : FVec Ideal S4096x256 .bf16) (ix2 r k) = f r.val ((t.val - 21) * 256 + k.val) := by
  unfold iblk
  rw [View.read_apply]
  show V m c main_arg3 _ = _
  rw [h]
  unfold arr
  have e0 : (((cfg0.win 3).blk t).view.emb (ix2 r k) 0).val = r.val := by
    show win0_3.index t 0 * 4096 + 1 * r.val = _
    rw [(index_3 t).1]; omega
  have e1 : (((cfg0.win 3).blk t).view.emb (ix2 r k) 1).val = (t.val - 21) * 256 + k.val := by
    show win0_3.index t 1 * 256 + 1 * k.val = _
    rw [(index_3 t).2 ht]; omega
  exact congrArg₂ f e0 e1

theorem iblk_4 (h : V m c main_arg4 = arr (a := 4096) (b := 1024) f) (t : Fin cfg0.N) (r : Fin 4096) (k : Fin 1024) :
    (iblk m c 4 t : FVec Ideal S4096x1024 .bf16) (ix2 r k) = f r.val k.val := by
  unfold iblk
  rw [View.read_apply]
  show V m c main_arg4 _ = _
  rw [h]
  unfold arr
  have e0 : (((cfg0.win 4).blk t).view.emb (ix2 r k) 0).val = r.val := by
    show win0_4.index t 0 * 4096 + 1 * r.val = _
    rw [(index_4 t).1]; omega
  have e1 : (((cfg0.win 4).blk t).view.emb (ix2 r k) 1).val = k.val := by
    show win0_4.index t 1 * 1024 + 1 * k.val = _
    rw [(index_4 t).2]; omega
  exact congrArg₂ f e0 e1

/-- The arguments hold given values. -/
structure ArgsHold (A : Args) : Prop where
  q : V m c main_arg0 = arr (a := 4096) (b := 1024) A.q
  k : V m c main_arg1 = arr (a := 4096) (b := 256) A.k
  h : V m c main_arg2 = arr (a := 4096) (b := 4096) A.h
  g : V m c main_arg3 = arr (a := 4096) (b := 2048) A.g
  u : V m c main_arg4 = arr (a := 4096) (b := 1024) A.u

variable {m c} {A : Args} (H : ArgsHold m c A)
include H

/-! ## What a point stores -/

theorem out_5 (t : Fin cfg0.N) (r : Fin 256) (l : Fin 1024) :
    ((outsAt0 m c t.val t.isLt).1 : FVec Ideal S256x1024 .bf16) (ix2 r l) = A.dW (t.val * 256 + r.val) l.val := by
  have hN : t.val < 29 := t.isLt
  have hr := r.isLt
  by_cases h0 : t.val < 4
  · rw [outsAt0_A m c t h0 (by omega) (by omega) (by omega)]
    frame_out
    refine (dW_at _ _ r l).trans (dot_eq (fun k => ?_) fun k => iblk_4 m c H.u t k l)
    rw [A.p_q (by omega)]
    exact iblk_0 m c H.q t h0 k r
  by_cases h1 : t.val = 4
  · rw [outsAt0_B m c t h0 (by omega) (by omega) (by omega)]
    frame_out
    rw [pay3]
    refine (dW_at _ _ r l).trans (dot_eq (fun k => ?_) fun k => iblk_4 m c H.u t k l)
    rw [A.p_k (by omega) (by omega), show t.val * 256 + r.val - 1024 = r.val by omega]
    exact iblk_1 m c H.k t k r
  by_cases h2 : t.val ≤ 20
  · rw [outsAt0_C m c t h0 (by omega) (by omega) (by omega)]
    frame_out
    rw [pay5]
    refine (dW_at _ _ r l).trans (dot_eq (fun k => ?_) fun k => iblk_4 m c H.u t k l)
    rw [A.p_h (by omega) (by omega), show t.val * 256 + r.val - 1280 = (t.val - 5) * 256 + r.val by omega]
    exact iblk_2 m c H.h t (by omega) h2 k r
  · rw [outsAt0_D m c t h0 (by omega) (by omega) (by omega)]
    frame_out
    rw [pay7]
    refine (dW_at _ _ r l).trans (dot_eq (fun k => ?_) fun k => iblk_4 m c H.u t k l)
    rw [A.p_g (by omega), show t.val * 256 + r.val - 5376 = (t.val - 21) * 256 + r.val by omega]
    exact iblk_3 m c H.g t (by omega) k r

theorem out_6 (t : Fin cfg0.N) (z : Fin 1) (r : Fin 256) :
    ((outsAt0 m c t.val t.isLt).2 : FVec Ideal S1x256 .f32) (ix2 z r) = A.dB z.val (t.val * 256 + r.val) := by
  have hN : t.val < 29 := t.isLt
  have hr := r.isLt
  by_cases h0 : t.val < 4
  · rw [outsAt0_A m c t h0 (by omega) (by omega) (by omega)]
    frame_out
    refine (dB_at _ r z).trans (Finset.sum_congr rfl fun k _ => ?_)
    rw [A.p_q (by omega)]
    exact iblk_0 m c H.q t h0 k r
  by_cases h1 : t.val = 4
  · rw [outsAt0_B m c t h0 (by omega) (by omega) (by omega)]
    frame_out
    rw [pay4]
    refine (dB_at _ r z).trans (Finset.sum_congr rfl fun k _ => ?_)
    rw [A.p_k (by omega) (by omega), show t.val * 256 + r.val - 1024 = r.val by omega]
    exact iblk_1 m c H.k t k r
  by_cases h2 : t.val ≤ 20
  · rw [outsAt0_C m c t h0 (by omega) (by omega) (by omega)]
    frame_out
    rw [pay6]
    refine (dB_at _ r z).trans (Finset.sum_congr rfl fun k _ => ?_)
    rw [A.p_h (by omega) (by omega), show t.val * 256 + r.val - 1280 = (t.val - 5) * 256 + r.val by omega]
    exact iblk_2 m c H.h t (by omega) h2 k r
  · rw [outsAt0_D m c t h0 (by omega) (by omega) (by omega)]
    frame_out
    rw [pay8]
    refine (dB_at _ r z).trans (Finset.sum_congr rfl fun k _ => ?_)
    rw [A.p_g (by omega), show t.val * 256 + r.val - 5376 = (t.val - 21) * 256 + r.val by omega]
    exact iblk_3 m c H.g t (by omega) k r

/-! ## The result arrays -/

theorem final_5 : (dats m 0 c).arrAt 5 cfg0.N = arr (a := 7424) (b := 1024) A.dW := by
  refine (dats m 0 c).arrAt_eq_of_covers 5 _ (by decide +kernel) fun t hf y => ?_
  blk_simp
  rw [after0_5]
  obtain ⟨r, l, rfl⟩ : ∃ (r : Fin 256) (l : Fin 1024), y = ix2 r l := ⟨y 0, y 1, ix2_eta y⟩
  refine (out_5 H t r l).trans ?_
  unfold arr
  have e0 : (((View.whole main_v0_0).slice (win0_5.rect t)).emb (ix2 r l) 0).val = t.val * 256 + r.val := by
    show win0_5.index t 0 * 256 + 1 * r.val = _
    rw [(index_5 t).1]; omega
  have e1 : (((View.whole main_v0_0).slice (win0_5.rect t)).emb (ix2 r l) 1).val = l.val := by
    show win0_5.index t 1 * 1024 + 1 * l.val = _
    rw [(index_5 t).2]; omega
  exact (congrArg₂ A.dW e0 e1).symm

theorem final_6 : (dats m 0 c).arrAt 6 cfg0.N = arr (a := 1) (b := 7424) A.dB := by
  refine (dats m 0 c).arrAt_eq_of_covers 6 _ (by decide +kernel) fun t hf y => ?_
  blk_simp
  rw [after0_6]
  obtain ⟨z, r, rfl⟩ : ∃ (z : Fin 1) (r : Fin 256), y = ix2 z r := ⟨y 0, y 1, ix2_eta y⟩
  refine (out_6 H t z r).trans ?_
  unfold arr
  have e0 : (((View.whole main_v0_1).slice (win0_6.rect t)).emb (ix2 z r) 0).val = z.val := by
    show win0_6.index t 0 * 1 + 1 * z.val = _
    rw [(index_6 t).1]; omega
  have e1 : (((View.whole main_v0_1).slice (win0_6.rect t)).emb (ix2 z r) 1).val = t.val * 256 + r.val := by
    show win0_6.index t 1 * 256 + 1 * r.val = _
    rw [(index_6 t).2]; omega
  exact (congrArg₂ A.dB e0 e1).symm

end Cert.Kernel4Ideal.InProj

end
-- ==== Proof.InProj.Reference.lean ====
/- The reference's two results: its operations named, and read at an element. -/
module

public import proofs.«01_k».proof.Proof.Gen.Reference4Ideal.Run
public import proofs.«01_k».proof.Proof.InProj.Model
public import Idealize.ShloMosaic.Lib.Pointwise
public import Idealize.ShloMosaic.Lib.Quiescent
public import Idealize.ShloMosaic.Lib.Pipeline.Value

@[expose] public section

set_option maxRecDepth 32768
set_option maxHeartbeats 200000

noncomputable section

namespace Cert.Reference4Ideal.InProj

open Cert.Reference4Ideal Cert.Reference4Ideal.Gen Cert.Reference4Ideal.Value
open Idealize.ShloMosaic Idealize.ShloMosaic.TcCoe Idealize.SL.Sem
open Cert.InProj

/-- The four gradients. -/
abbrev pieces (q : FVec Ideal S4096x1024 .f32) (k : FVec Ideal S4096x256 .f32) (h : FVec Ideal S4096x4096 .f32) (g : FVec Ideal S4096x2048 .f32) :
    List ((s : Shape) × (s.Idx → EReal)) :=
  [⟨S4096x1024, q⟩, ⟨S4096x256, k⟩, ⟨S4096x4096, h⟩, ⟨S4096x2048, g⟩]
/-- The four gradients side by side. -/
def side (q : FVec Ideal S4096x1024 .f32) (k : FVec Ideal S4096x256 .f32) (h : FVec Ideal S4096x4096 .f32) (g : FVec Ideal S4096x2048 .f32) :
    FVec Ideal S4096x7424 .f32 :=
  concatenate S4096x7424 1 [⟨S4096x1024, q⟩, ⟨S4096x256, k⟩, ⟨S4096x4096, h⟩, ⟨S4096x2048, g⟩]
    concatenates_S4096x1024_S4096x256_S4096x4096_S4096x2048_S4096x7424_d1
/-- The gradient of the weights. -/
def weights (p : FVec Ideal S4096x7424 .f32) (u : FVec Ideal S4096x1024 .f32) : FVec Ideal S7424x1024 .bf16 :=
  transpose S7424x1024 [1, 0] (truncf .bf16 (transpose S1024x7424 [1, 0]
    (Host.dotGeneral (φ₁ := .f32) (φ₂ := .f32) dot_S4096x7424_S4096x1024_S7424x1024_0_0_1_1_n_n none p u)
    transposes_S7424x1024_S1024x7424_1_0) bitsLt_bf16_f32) transposes_S1024x7424_S7424x1024_1_0
/-- The gradient of the bias. -/
def bias (p : FVec Ideal S4096x7424 .f32) : FVec Ideal S1x7424 .f32 :=
  shapeCast S1x7424 (Host.reduceAdd p (constant S_ .f32 0x00000000#32) reducesTo_S4096x7424_S7424_d0 h_S_) shapeCasts_S7424_S1x7424

section
variable (q : FVec Ideal S4096x1024 .f32) (k : FVec Ideal S4096x256 .f32) (h : FVec Ideal S4096x4096 .f32) (g : FVec Ideal S4096x2048 .f32)
variable (p : FVec Ideal S4096x7424 .f32) (u : FVec Ideal S4096x1024 .f32)
variable (t : Fin 4096) (i : Fin 7424) (l : Fin 1024) (z : Fin 1)

theorem weights_at : weights p u (ix2 i l) = ∑ t : Fin 4096, (p (ix2 t i) : EReal) * (u (ix2 t l) : EReal) := by
  pointwise [weights]
theorem bias_at : bias p (ix2 z i) = ∑ t : Fin 4096, (p (ix2 t i) : EReal) := by
  pointwise [bias]

theorem side_q (hi : i.val < 1024) : side q k h g (ix2 t i) = q (ix2 t ⟨i.val, hi⟩) :=
  concatenate_apply_piece 1 (pieces q k h g) concatenates_S4096x1024_S4096x256_S4096x4096_S4096x2048_S4096x7424_d1 (ix2 t i) 0 (show 0 < 4 by omega) S4096x1024 q rfl rfl 0 rfl
    (ix2 t ⟨i.val, hi⟩) (fun b hb => match b with | ⟨0, _⟩ => rfl | ⟨1, _⟩ => absurd rfl hb) (by show 0 + i.val = i.val; omega)
theorem side_k (hi : 1024 ≤ i.val) (hi' : i.val < 1280) : side q k h g (ix2 t i) = k (ix2 t ⟨i.val - 1024, by omega⟩) :=
  concatenate_apply_piece 1 (pieces q k h g) concatenates_S4096x1024_S4096x256_S4096x4096_S4096x2048_S4096x7424_d1 (ix2 t i) 1 (show 1 < 4 by omega) S4096x256 k rfl rfl 1024 rfl
    (ix2 t ⟨i.val - 1024, by omega⟩) (fun b hb => match b with | ⟨0, _⟩ => rfl | ⟨1, _⟩ => absurd rfl hb) (by show 1024 + (i.val - 1024) = i.val; omega)
theorem side_h (hi : 1280 ≤ i.val) (hi' : i.val < 5376) : side q k h g (ix2 t i) = h (ix2 t ⟨i.val - 1280, by omega⟩) :=
  concatenate_apply_piece 1 (pieces q k h g) concatenates_S4096x1024_S4096x256_S4096x4096_S4096x2048_S4096x7424_d1 (ix2 t i) 2 (show 2 < 4 by omega) S4096x4096 h rfl rfl 1280 rfl
    (ix2 t ⟨i.val - 1280, by omega⟩) (fun b hb => match b with | ⟨0, _⟩ => rfl | ⟨1, _⟩ => absurd rfl hb) (by show 1280 + (i.val - 1280) = i.val; omega)
theorem side_g (hi : 5376 ≤ i.val) : side q k h g (ix2 t i) = g (ix2 t ⟨i.val - 5376, by omega⟩) :=
  concatenate_apply_piece 1 (pieces q k h g) concatenates_S4096x1024_S4096x256_S4096x4096_S4096x2048_S4096x7424_d1 (ix2 t i) 3 (show 3 < 4 by omega) S4096x2048 g rfl rfl 5376 rfl
    (ix2 t ⟨i.val - 5376, by omega⟩) (fun b hb => match b with | ⟨0, _⟩ => rfl | ⟨1, _⟩ => absurd rfl hb) (by show 5376 + (i.val - 5376) = i.val; omega)
end

variable (m : (ℓ : Loc nD τ sig) → Buf (Elt Ideal) ℓ) (c : Dev nD)

/-- The five arguments. -/
def argQ : FVec Ideal S4096x1024 .bf16 := m (c.tc.loc main_arg0)
@[inherit_doc argQ] def argK : FVec Ideal S4096x256 .bf16 := m (c.tc.loc main_arg1)
@[inherit_doc argQ] def argH : FVec Ideal S4096x4096 .bf16 := m (c.tc.loc main_arg2)
@[inherit_doc argQ] def argG : FVec Ideal S4096x2048 .bf16 := m (c.tc.loc main_arg3)
@[inherit_doc argQ] def argU : FVec Ideal S4096x1024 .bf16 := m (c.tc.loc main_arg4)

/-- The projection's gradient, of the arguments. -/
def dP : FVec Ideal S4096x7424 .f32 :=
  side (extf .f32 (argQ m c) bitsLt_bf16_f32) (extf .f32 (argK m c) bitsLt_bf16_f32) (extf .f32 (argH m c) bitsLt_bf16_f32) (extf .f32 (argG m c) bitsLt_bf16_f32)
/-- The results, of the arguments. -/
def outW : FVec Ideal S7424x1024 .bf16 := weights (dP m c) (extf .f32 (argU m c) bitsLt_bf16_f32)
@[inherit_doc outW] def outB : FVec Ideal S1x7424 .f32 := bias (dP m c)

/-- The reference's run, its results by name. -/
theorem run (g : Dev nD → PrngReg) :
    θ_run (defs (F := Ideal)) (onTc (τ := τ) (main (F := Ideal))) ⟨m, fun _ => 0, g⟩ (fun r => ∀ c : Dev nD,
      r.2.mem (c.tc.loc main_v17) = outW m c
      ∧ r.2.mem (c.tc.loc main_v13) = outB m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)) :=
  Cert.Reference4Ideal.Value.run (F := Ideal) m g

/-- The reference's frame. -/
theorem frame (g : Dev nD → PrngReg) :
    θ_run (defs (F := Ideal)) (onTc (τ := τ) (main (F := Ideal))) ⟨m, fun _ => 0, g⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4))
      ∧ r.2.sem = fun _ => 0) :=
  (θ_run _ _ _).mono (fun r h => ⟨fun c => (h c).2.2, sem_eq_zero_of_no_sems (by decide) r.2⟩) (run m g)

/-- The arguments hold given values. -/
structure Holds (A : Args) : Prop where
  q : ∀ (t : Fin 4096) (i : Fin 1024), argQ m c (ix2 t i) = A.q t.val i.val
  k : ∀ (t : Fin 4096) (i : Fin 256), argK m c (ix2 t i) = A.k t.val i.val
  h : ∀ (t : Fin 4096) (i : Fin 4096), argH m c (ix2 t i) = A.h t.val i.val
  g : ∀ (t : Fin 4096) (i : Fin 2048), argG m c (ix2 t i) = A.g t.val i.val
  u : ∀ (t : Fin 4096) (i : Fin 1024), argU m c (ix2 t i) = A.u t.val i.val

section
variable {m c} {A : Args} (H : Holds m c A)
include H

theorem dP_at (t : Fin 4096) (i : Fin 7424) : dP m c (ix2 t i) = A.p t.val i.val := by
  unfold dP
  by_cases h0 : i.val < 1024
  · rw [side_q _ _ _ _ t i h0, A.p_q h0]; exact H.q t _
  by_cases h1 : i.val < 1280
  · rw [side_k _ _ _ _ t i (by omega) h1, A.p_k (by omega) h1]; exact H.k t _
  by_cases h2 : i.val < 5376
  · rw [side_h _ _ _ _ t i (by omega) h2, A.p_h (by omega) h2]; exact H.h t _
  · rw [side_g _ _ _ _ t i (by omega), A.p_g (by omega)]; exact H.g t _

theorem outW_at (i : Fin 7424) (l : Fin 1024) : outW m c (ix2 i l) = A.dW i.val l.val :=
  (weights_at _ _ i l).trans (Cert.Gates.dot_eq (fun t => dP_at H t i) fun t => H.u t l)
theorem outB_at (z : Fin 1) (i : Fin 7424) : outB m c (ix2 z i) = A.dB z.val i.val :=
  (bias_at _ i z).trans (Finset.sum_congr rfl fun t _ => dP_at H t i)
end

end Cert.Reference4Ideal.InProj

end
-- ==== Proof.InProj.Equal.lean ====
/- The input projection's weights and bias: the kernel's gradients are the reference's, whatever the arguments. -/
module

public import proofs.«01_k».proof.Defs
public import proofs.«01_k».proof.Proof.InProj.Blocks
public import proofs.«01_k».proof.Proof.InProj.Reference
public import proofs.«01_k».proof.Proof.Gates.Equal

@[expose] public section

set_option maxRecDepth 8192
set_option maxHeartbeats 200000

noncomputable section

namespace Cert.InProj

open Idealize.ShloMosaic Idealize.ShloMosaic.TcCoe Idealize.SL.Sem
open Idealize.ShloMosaic.StableHlo
open Cert.Kernel3Ideal.Gates (arr)
open Cert.Attn (ext2)
open Cert.Gates (valAt arr_of)

/-- The values the arguments hold. -/
def args (m : (ℓ : Loc Cert.Kernel4Ideal.nD Cert.Kernel4Ideal.τ Cert.Kernel4Ideal.sig) → Buf (Elt Ideal) ℓ) (c : Dev Cert.Kernel4Ideal.nD) : Args where
  q := valAt (a := 4096) (b := 1024) (m (c.tc.loc Cert.Kernel4Ideal.main_arg0))
  k := valAt (a := 4096) (b := 256) (m (c.tc.loc Cert.Kernel4Ideal.main_arg1))
  h := valAt (a := 4096) (b := 4096) (m (c.tc.loc Cert.Kernel4Ideal.main_arg2))
  g := valAt (a := 4096) (b := 2048) (m (c.tc.loc Cert.Kernel4Ideal.main_arg3))
  u := valAt (a := 4096) (b := 1024) (m (c.tc.loc Cert.Kernel4Ideal.main_arg4))

theorem args_hold (m : (ℓ : Loc Cert.Kernel4Ideal.nD Cert.Kernel4Ideal.τ Cert.Kernel4Ideal.sig) → Buf (Elt Ideal) ℓ)
    (c : Dev Cert.Kernel4Ideal.nD) : Cert.Kernel4Ideal.InProj.ArgsHold m c (args m c) :=
  ⟨arr_of _, arr_of _, arr_of _, arr_of _, arr_of _⟩

/-- The kernel and the reference compute the same two arrays. -/
theorem algebraic : Cert.algebraic_Kernel4Ideal_Reference4Ideal (hKernel4Ideal := Cert.Kernel4Ideal.Gen.facts) (hReference4Ideal := Cert.Reference4Ideal.Gen.facts) := by
  intro m g m' g' hpre hagree
  refine ⟨fun c => arr (a := 7424) (b := 1024) (args m c).dW,
    fun c => arr (a := 1) (b := 7424) (args m c).dB, ?_, ?_⟩
  · refine (θ_run _ _ _).mono (fun r h c => ?_) (Cert.Kernel4Ideal.Value.run_blocks m g)
    have A := args_hold m c
    obtain ⟨h1, h2, hargs⟩ := h c
    exact ⟨h1.trans (Cert.Kernel4Ideal.InProj.final_5 A), h2.trans (Cert.Kernel4Ideal.InProj.final_6 A), hargs⟩
  · refine (θ_run _ _ _).mono (fun r h c => ?_) (Cert.Reference4Ideal.InProj.run m' g')
    have A := args_hold m c
    obtain ⟨a0, a1, a2, a3, a4⟩ := hagree c
    have H : Cert.Reference4Ideal.InProj.Holds m' c (args m c) :=
      ⟨fun t k => congrFun (a0.trans A.q) (ix2 t k),
        fun t k => congrFun (a1.trans A.k) (ix2 t k),
        fun t k => congrFun (a2.trans A.h) (ix2 t k),
        fun t k => congrFun (a3.trans A.g) (ix2 t k),
        fun t k => congrFun (a4.trans A.u) (ix2 t k)⟩
    obtain ⟨h1, h2, hargs⟩ := h c
    refine ⟨h1.trans ?_, h2.trans ?_, hargs⟩
    · exact ext2 fun t l => Cert.Reference4Ideal.InProj.outW_at H t l
    · exact ext2 fun t l => Cert.Reference4Ideal.InProj.outB_at H t l

end Cert.InProj

end
-- ==== Proof.lean ====
module

public import proofs.«01_k».proof.Defs
public import proofs.«01_k».proof.Proof.Printed.Frame
public import proofs.«01_k».proof.Proof.Math.Equal
public import proofs.«01_k».proof.Proof.Ffn.Equal
public import proofs.«01_k».proof.Proof.Gates.Equal
public import proofs.«01_k».proof.Proof.Gen.Kernel3.Frame
public import proofs.«01_k».proof.Proof.InProj.Equal
public import proofs.«01_k».proof.Proof.Gen.Kernel4.Frame

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Pre_finite.facts, Cert.Pre_finite2.facts,
    fun m g _ => Cert.Kernel.Printed.frame m g,
    fun m g _ => Cert.KernelIdeal.Attn.frame m g,
    fun m g _ => Cert.KernelIdeal.Attn.frame m g,
    fun m g _ => Cert.Attn.frame_reference m g,
    fun m g _ => Cert.Attn.frame_reference m g,
    Cert.Ffn.frame_kernel,
    fun m g _ => Cert.Kernel2Ideal.Ffn.frame m g,
    fun m g _ => Cert.Kernel2Ideal.Ffn.frame m g,
    fun m g _ => Cert.Reference2Ideal.Ffn.frame m g,
    fun m g _ => Cert.Reference2Ideal.Ffn.frame m g,
    fun m g _ => Cert.Kernel3.Gen.frame m g,
    fun m g _ => Cert.Kernel3Ideal.Gates.frame m g,
    fun m g _ => Cert.Reference3Ideal.Gates.frame m g,
    fun m g _ => Cert.Kernel4.Gen.frame m g,
    fun m g _ => Cert.Kernel4Ideal.Gen.frame m g,
    fun m g _ => Cert.Reference4Ideal.InProj.frame m g,
    IdealRules.named_const.statement Cert.KernelIdeal.κ "mask" .f32 0xF149F2CA#32 ⊥ rfl,
    Cert.Attn.algebraic,
    trivial,
    Cert.Ffn.algebraic,
    trivial,
    Cert.Gates.algebraic,
    trivial,
    Cert.InProj.algebraic⟩

end Cert.Proof

end
